-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_quantised [hPre_quantised : Cert.Pre_quantised.Facts] (m : (ℓ : Loc Cert.DownIdeal.nD Cert.DownIdeal.τ Cert.DownIdeal.sig) → Buf (Elt Ideal) ℓ) : Prop :=
  ∀ c : Dev Cert.DownIdeal.nD,
    (Cert.Pre_quantised.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_quantised [hPre_quantised : Cert.Pre_quantised.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_quantised.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownIdeal_pre_quantised [hDownIdeal : Cert.DownIdeal.Facts] [hPre_quantised : Cert.Pre_quantised.Facts] : Prop :=
  ∀ (m : (ℓ : Loc Cert.DownIdeal.nD Cert.DownIdeal.τ Cert.DownIdeal.sig) → Buf (Elt Ideal) ℓ) (g : Dev Cert.DownIdeal.nD → PrngReg), Pre_DownIdeal_quantised m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_DownReferenceIdeal_pre_quantised [hDownReferenceIdeal : Cert.DownReferenceIdeal.Facts] [hPre_quantised : Cert.Pre_quantised.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_quantised m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownReferenceIdeal_pre_quantised [hDownIdeal : Cert.DownIdeal.Facts] [hDownReferenceIdeal : Cert.DownReferenceIdeal.Facts] [hPre_quantised : Cert.Pre_quantised.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_quantised m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v53) = v0 c
          ∧ r.2.mem ((c.tc : Thread Cert.DownReferenceIdeal.nD Cert.DownReferenceIdeal.τ).loc Cert.DownReferenceIdeal.main_v40) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)) (v4 : (c : Dev Cert.NormIdeal.nD) → Buf (Elt Ideal) ((c.tc : Thread Cert.NormIdeal.nD Cert.NormIdeal.τ).loc Cert.NormIdeal.main_v0_4)) (v5 : (c : Dev Cert.NormIdeal.nD) → Buf (Elt Ideal) ((c.tc : Thread Cert.NormIdeal.nD Cert.NormIdeal.τ).loc Cert.NormIdeal.main_v0_5)) (v6 : (c : Dev Cert.NormIdeal.nD) → Buf (Elt Ideal) ((c.tc : Thread Cert.NormIdeal.nD Cert.NormIdeal.τ).loc Cert.NormIdeal.main_v0_6)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_v0_4) = v4 c
          ∧ r.2.mem ((c.tc : Thread Cert.NormIdeal.nD Cert.NormIdeal.τ).loc Cert.NormIdeal.main_v0_5) = v5 c
          ∧ r.2.mem ((c.tc : Thread Cert.NormIdeal.nD Cert.NormIdeal.τ).loc Cert.NormIdeal.main_v0_6) = v6 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v46) = v0 c
          ∧ r.2.mem ((c.tc : Thread Cert.NormReferenceIdeal.nD Cert.NormReferenceIdeal.τ).loc Cert.NormReferenceIdeal.main_v41) = v1 c
          ∧ r.2.mem ((c.tc : Thread Cert.NormReferenceIdeal.nD Cert.NormReferenceIdeal.τ).loc Cert.NormReferenceIdeal.main_v52) = v2 c
          ∧ r.2.mem ((c.tc : Thread Cert.NormReferenceIdeal.nD Cert.NormReferenceIdeal.τ).loc Cert.NormReferenceIdeal.main_v53) = v3 c
          ∧ r.2.mem ((c.tc : Thread Cert.NormReferenceIdeal.nD Cert.NormReferenceIdeal.τ).loc Cert.NormReferenceIdeal.main_v55) = v4 c
          ∧ r.2.mem ((c.tc : Thread Cert.NormReferenceIdeal.nD Cert.NormReferenceIdeal.τ).loc Cert.NormReferenceIdeal.main_v48) = v5 c
          ∧ r.2.mem ((c.tc : Thread Cert.NormReferenceIdeal.nD Cert.NormReferenceIdeal.τ).loc Cert.NormReferenceIdeal.main_v51) = v6 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)
      ∧ m' ((c.tc : Thread Cert.OprojReferenceIdeal.nD Cert.OprojReferenceIdeal.τ).loc Cert.OprojReferenceIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)) (v3 : (c : Dev Cert.OprojIdeal.nD) → Buf (Elt Ideal) ((c.tc : Thread Cert.OprojIdeal.nD Cert.OprojIdeal.τ).loc Cert.OprojIdeal.main_v0_3)) (v4 : (c : Dev Cert.OprojIdeal.nD) → Buf (Elt Ideal) ((c.tc : Thread Cert.OprojIdeal.nD Cert.OprojIdeal.τ).loc Cert.OprojIdeal.main_v0_4)) (v5 : (c : Dev Cert.OprojIdeal.nD) → Buf (Elt Ideal) ((c.tc : Thread Cert.OprojIdeal.nD Cert.OprojIdeal.τ).loc Cert.OprojIdeal.main_v0_5)) (v6 : (c : Dev Cert.OprojIdeal.nD) → Buf (Elt Ideal) ((c.tc : Thread Cert.OprojIdeal.nD Cert.OprojIdeal.τ).loc Cert.OprojIdeal.main_v0_6)) (v7 : (c : Dev Cert.OprojIdeal.nD) → Buf (Elt Ideal) ((c.tc : Thread Cert.OprojIdeal.nD Cert.OprojIdeal.τ).loc Cert.OprojIdeal.main_v0_7)) (v8 : (c : Dev Cert.OprojIdeal.nD) → Buf (Elt Ideal) ((c.tc : Thread Cert.OprojIdeal.nD Cert.OprojIdeal.τ).loc Cert.OprojIdeal.main_v0_8)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_v0_3) = v3 c
          ∧ r.2.mem ((c.tc : Thread Cert.OprojIdeal.nD Cert.OprojIdeal.τ).loc Cert.OprojIdeal.main_v0_4) = v4 c
          ∧ r.2.mem ((c.tc : Thread Cert.OprojIdeal.nD Cert.OprojIdeal.τ).loc Cert.OprojIdeal.main_v0_5) = v5 c
          ∧ r.2.mem ((c.tc : Thread Cert.OprojIdeal.nD Cert.OprojIdeal.τ).loc Cert.OprojIdeal.main_v0_6) = v6 c
          ∧ r.2.mem ((c.tc : Thread Cert.OprojIdeal.nD Cert.OprojIdeal.τ).loc Cert.OprojIdeal.main_v0_7) = v7 c
          ∧ r.2.mem ((c.tc : Thread Cert.OprojIdeal.nD Cert.OprojIdeal.τ).loc Cert.OprojIdeal.main_v0_8) = v8 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v71) = v0 c
          ∧ r.2.mem ((c.tc : Thread Cert.OprojReferenceIdeal.nD Cert.OprojReferenceIdeal.τ).loc Cert.OprojReferenceIdeal.main_v117) = v1 c
          ∧ r.2.mem ((c.tc : Thread Cert.OprojReferenceIdeal.nD Cert.OprojReferenceIdeal.τ).loc Cert.OprojReferenceIdeal.main_v112) = v2 c
          ∧ r.2.mem ((c.tc : Thread Cert.OprojReferenceIdeal.nD Cert.OprojReferenceIdeal.τ).loc Cert.OprojReferenceIdeal.main_v119) = v3 c
          ∧ r.2.mem ((c.tc : Thread Cert.OprojReferenceIdeal.nD Cert.OprojReferenceIdeal.τ).loc Cert.OprojReferenceIdeal.main_v120) = v4 c
          ∧ r.2.mem ((c.tc : Thread Cert.OprojReferenceIdeal.nD Cert.OprojReferenceIdeal.τ).loc Cert.OprojReferenceIdeal.main_v121) = v5 c
          ∧ r.2.mem ((c.tc : Thread Cert.OprojReferenceIdeal.nD Cert.OprojReferenceIdeal.τ).loc Cert.OprojReferenceIdeal.main_v43) = v6 c
          ∧ r.2.mem ((c.tc : Thread Cert.OprojReferenceIdeal.nD Cert.OprojReferenceIdeal.τ).loc Cert.OprojReferenceIdeal.main_v122) = v7 c
          ∧ r.2.mem ((c.tc : Thread Cert.OprojReferenceIdeal.nD Cert.OprojReferenceIdeal.τ).loc Cert.OprojReferenceIdeal.main_v123) = v8 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hNorm : Cert.Norm.Facts) (hNormIdeal : Cert.NormIdeal.Facts) (hNormReferenceIdeal : Cert.NormReferenceIdeal.Facts) (hOproj : Cert.Oproj.Facts) (hOprojIdeal : Cert.OprojIdeal.Facts) (hOprojReferenceIdeal : Cert.OprojReferenceIdeal.Facts) (hPre_quantised : Cert.Pre_quantised.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownIdeal_pre_quantised (hDownIdeal := hDownIdeal) (hPre_quantised := hPre_quantised)
    ∧ quiescent_DownReferenceIdeal (hDownReferenceIdeal := hDownReferenceIdeal)
    ∧ quiescent_DownReferenceIdeal_pre_quantised (hDownReferenceIdeal := hDownReferenceIdeal) (hPre_quantised := hPre_quantised)
    ∧ quiescent_Norm (hNorm := hNorm)
    ∧ quiescent_NormIdeal (hNormIdeal := hNormIdeal)
    ∧ quiescent_NormReferenceIdeal (hNormReferenceIdeal := hNormReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal_pre_quantised (hDownIdeal := hDownIdeal) (hDownReferenceIdeal := hDownReferenceIdeal) (hPre_quantised := hPre_quantised)
    ∧ preserves_Norm_NormIdeal
    ∧ algebraic_NormIdeal_NormReferenceIdeal (hNormIdeal := hNormIdeal) (hNormReferenceIdeal := hNormReferenceIdeal)
    ∧ preserves_Oproj_OprojIdeal
    ∧ algebraic_OprojIdeal_OprojReferenceIdeal (hOprojIdeal := hOprojIdeal) (hOprojReferenceIdeal := hOprojReferenceIdeal)
-- ==== Pre_quantised.lean ====
abbrev S2x2048x4096 : Shape := ⟨3, ![2, 2048, 4096]⟩
abbrev S2048x1 : Shape := ⟨2, ![2048, 1]⟩
abbrev S8192x1536 : Shape := ⟨2, ![8192, 1536]⟩
abbrev S256x3072 : Shape := ⟨2, ![256, 3072]⟩
abbrev S2048x3072 : Shape := ⟨2, ![2048, 3072]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2x2048x4096 .f32) (main_arg1 : FVec F S2048x1 .f32) (main_arg2 : IVec S2048x1 32) (main_arg3 : IVec S8192x1536 8) (main_arg4 : FVec F S256x3072 .f32) (main_arg5 : FVec F S2048x3072 .f32) : IVec S2048x1 1 :=
  let main_cst : FVec F S_ .f32 := constant S_ .f32 0x00000000#32
  let main_v0 : FVec F S2048x1 .f32 := broadcastInDim S2048x1 ![] bcast_S_S2048x1 main_cst
  let main_v1 : IVec S2048x1 1 := cmpf .une main_arg1 main_v0
  let main_c : IVec S_ 32 := constantI S_ 32 4294967168#32
  let main_v2 : IVec S2048x1 32 := broadcastInDim S2048x1 ![] bcast_S_S2048x1 main_c
  let main_v3 : IVec S2048x1 1 := cmpi .sge main_arg2 main_v2
  let main_v4 : IVec S2048x1 1 := andi main_v1 main_v3
  let main_c_0 : IVec S_ 32 := constantI S_ 32 127#32
  let main_v5 : IVec S2048x1 32 := broadcastInDim S2048x1 ![] bcast_S_S2048x1 main_c_0
  let main_v6 : IVec S2048x1 1 := cmpi .sle main_arg2 main_v5
  let main_v7 : IVec S2048x1 1 := andi main_v4 main_v6
  main_v7
-- ==== Kernel.lean ====
abbrev S2048x3072 : Shape := ⟨2, ![2048, 3072]⟩
abbrev S3072x8192 : Shape := ⟨2, ![3072, 8192]⟩
abbrev S96x16384 : Shape := ⟨2, ![96, 16384]⟩
abbrev S2048x1 : Shape := ⟨2, ![2048, 1]⟩
abbrev S2048x128 : Shape := ⟨2, ![2048, 128]⟩
abbrev S2x2048x4096 : Shape := ⟨3, ![2, 2048, 4096]⟩
abbrev S1x2048 : Shape := ⟨2, ![1, 2048]⟩
abbrev S3072x256 : Shape := ⟨2, ![3072, 256]⟩
abbrev S96x256 : Shape := ⟨2, ![96, 256]⟩
abbrev S2x2048x128 : Shape := ⟨3, ![2, 2048, 128]⟩
abbrev S3072x512 : Shape := ⟨2, ![3072, 512]⟩
abbrev S256x128 : Shape := ⟨2, ![256, 128]⟩
abbrev S64x128 : Shape := ⟨2, ![64, 128]⟩
abbrev S64x128x1 : Shape := ⟨3, ![64, 128, 1]⟩
abbrev S8x128 : Shape := ⟨2, ![8, 128]⟩
abbrev S8x128x1 : Shape := ⟨3, ![8, 128, 1]⟩
abbrev S1x128 : Shape := ⟨2, ![1, 128]⟩
abbrev S32x128 : Shape := ⟨2, ![32, 128]⟩
abbrev S256x3072 : Shape := ⟨2, ![256, 3072]⟩
abbrev S256x512 : Shape := ⟨2, ![256, 512]⟩
abbrev S1x256x128 : Shape := ⟨3, ![1, 256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩

abbrev nBuf : Space → Nat
  | .hbm => 10
  | .vmem => 17
  | .smem => 0
  | _ => 0

abbrev bufTy : (tb : Table) → Fin (tcTables nBuf tb) → BufTy
  | .hbm, ⟨0, _⟩ => ⟨S2048x3072, .bf16⟩
  | .hbm, ⟨1, _⟩ => ⟨S3072x8192, .i8⟩
  | .hbm, ⟨2, _⟩ => ⟨S96x16384, .f32⟩
  | .hbm, ⟨3, _⟩ => ⟨S2048x1, .f32⟩
  | .hbm, ⟨4, _⟩ => ⟨S2048x128, .f32⟩
  | .hbm, ⟨5, _⟩ => ⟨S2x2048x4096, .f32⟩
  | .hbm, ⟨6, _⟩ => ⟨S2048x128, .f32⟩
  | .hbm, ⟨7, _⟩ => ⟨S2048x128, .f32⟩
  | .hbm, ⟨8, _⟩ => ⟨S1x2048, .f32⟩
  | .hbm, ⟨9, _⟩ => ⟨S1x2048, .i32⟩
  | .local _ .vmem, ⟨0, _⟩ => ⟨S2048x3072, .bf16⟩
  | .local _ .vmem, ⟨1, _⟩ => ⟨S3072x256, .i8⟩
  | .local _ .vmem, ⟨2, _⟩ => ⟨S3072x256, .i8⟩
  | .local _ .vmem, ⟨3, _⟩ => ⟨S96x256, .f32⟩
  | .local _ .vmem, ⟨4, _⟩ => ⟨S96x256, .f32⟩
  | .local _ .vmem, ⟨5, _⟩ => ⟨S96x256, .f32⟩
  | .local _ .vmem, ⟨6, _⟩ => ⟨S96x256, .f32⟩
  | .local _ .vmem, ⟨7, _⟩ => ⟨S2048x128, .f32⟩
  | .local _ .vmem, ⟨8, _⟩ => ⟨S2x2048x128, .f32⟩
  | .local _ .vmem, ⟨9, _⟩ => ⟨S2x2048x128, .f32⟩
  | .local _ .vmem, ⟨10, _⟩ => ⟨S2048x128, .f32⟩
  | .local _ .vmem, ⟨11, _⟩ => ⟨S2048x128, .f32⟩
  | .local _ .vmem, ⟨12, _⟩ => ⟨S1x2048, .f32⟩
  | .local _ .vmem, ⟨13, _⟩ => ⟨S1x2048, .i32⟩
  | .local _ .vmem, ⟨14, _⟩ => ⟨S3072x512, .bf16⟩
  | .local _ .vmem, ⟨15, _⟩ => ⟨S2048x128, .f32⟩
  | .local _ .vmem, ⟨16, _⟩ => ⟨S2048x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v6095 : BitVec 1 := Scalar.cmpi .eq arg0 c31_i32
  let v6096 : BitVec 32 := Scalar.extui v6095
  let c0_i32_1663 : BitVec 32 := 0#32
  let v6097 : BitVec 1 := Scalar.cmpi .ne v6096 c0_i32_1663
  v6097

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2048x3072 : Shape := ⟨2, ![2048, 3072]⟩
abbrev S3072x8192 : Shape := ⟨2, ![3072, 8192]⟩
abbrev S96x16384 : Shape := ⟨2, ![96, 16384]⟩
abbrev S2048x1 : Shape := ⟨2, ![2048, 1]⟩
abbrev S_ : Shape := ⟨0, ![]⟩
abbrev S96x8192 : Shape := ⟨2, ![96, 8192]⟩
abbrev S96x32x8192 : Shape := ⟨3, ![96, 32, 8192]⟩
abbrev S2048x8192 : Shape := ⟨2, ![2048, 8192]⟩
abbrev S2048x4096x2 : Shape := ⟨3, ![2048, 4096, 2]⟩
abbrev S2048x4096x1 : Shape := ⟨3, ![2048, 4096, 1]⟩
abbrev S2048x4096 : Shape := ⟨2, ![2048, 4096]⟩
abbrev S1x2048x4096 : Shape := ⟨3, ![1, 2048, 4096]⟩
abbrev S2x2048x4096 : Shape := ⟨3, ![2, 2048, 4096]⟩
abbrev S2048 : Shape := ⟨1, ![2048]⟩
abbrev S2048x128 : Shape := ⟨2, ![2048, 128]⟩
abbrev S1x2048 : Shape := ⟨2, ![1, 2048]⟩

abbrev nBuf : Space → Nat
  | .hbm => 122
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x8192, .i8⟩
  | .hbm, ⟨2, _⟩ => ⟨S96x16384, .f32⟩
  | .hbm, ⟨3, _⟩ => ⟨S2048x1, .f32⟩
  | .hbm, ⟨4, _⟩ => ⟨S3072x8192, .i32⟩
  | .hbm, ⟨5, _⟩ => ⟨S_, .i32⟩
  | .hbm, ⟨6, _⟩ => ⟨S3072x8192, .i32⟩
  | .hbm, ⟨7, _⟩ => ⟨S3072x8192, .i32⟩
  | .hbm, ⟨8, _⟩ => ⟨S_, .i32⟩
  | .hbm, ⟨9, _⟩ => ⟨S3072x8192, .i32⟩
  | .hbm, ⟨10, _⟩ => ⟨S3072x8192, .i1⟩
  | .hbm, ⟨11, _⟩ => ⟨S_, .i32⟩
  | .hbm, ⟨12, _⟩ => ⟨S3072x8192, .i32⟩
  | .hbm, ⟨13, _⟩ => ⟨S3072x8192, .i32⟩
  | .hbm, ⟨14, _⟩ => ⟨S3072x8192, .i32⟩
  | .hbm, ⟨15, _⟩ => ⟨S_, .i32⟩
  | .hbm, ⟨16, _⟩ => ⟨S3072x8192, .i32⟩
  | .hbm, ⟨17, _⟩ => ⟨S3072x8192, .i32⟩
  | .hbm, ⟨18, _⟩ => ⟨S_, .i32⟩
  | .hbm, ⟨19, _⟩ => ⟨S3072x8192, .i32⟩
  | .hbm, ⟨20, _⟩ => ⟨S3072x8192, .i1⟩
  | .hbm, ⟨21, _⟩ => ⟨S_, .i32⟩
  | .hbm, ⟨22, _⟩ => ⟨S3072x8192, .i32⟩
  | .hbm, ⟨23, _⟩ => ⟨S3072x8192, .i32⟩
  | .hbm, ⟨24, _⟩ => ⟨S3072x8192, .i32⟩
  | .hbm, ⟨25, _⟩ => ⟨S96x8192, .f32⟩
  | .hbm, ⟨26, _⟩ => ⟨S96x32x8192, .f32⟩
  | .hbm, ⟨27, _⟩ => ⟨S3072x8192, .f32⟩
  | .hbm, ⟨28, _⟩ => ⟨S3072x8192, .bf16⟩
  | .hbm, ⟨29, _⟩ => ⟨S96x8192, .f32⟩
  | .hbm, ⟨30, _⟩ => ⟨S96x32x8192, .f32⟩
  | .hbm, ⟨31, _⟩ => ⟨S3072x8192, .f32⟩
  | .hbm, ⟨32, _⟩ => ⟨S3072x8192, .bf16⟩
  | .hbm, ⟨33, _⟩ => ⟨S3072x8192, .bf16⟩
  | .hbm, ⟨34, _⟩ => ⟨S3072x8192, .bf16⟩
  | .hbm, ⟨35, _⟩ => ⟨S3072x8192, .bf16⟩
  | .hbm, ⟨36, _⟩ => ⟨S3072x8192, .bf16⟩
  | .hbm, ⟨37, _⟩ => ⟨S2048x8192, .f32⟩
  | .hbm, ⟨38, _⟩ => ⟨S2048x8192, .f32⟩
  | .hbm, ⟨39, _⟩ => ⟨S2048x8192, .f32⟩
  | .hbm, ⟨40, _⟩ => ⟨S2048x8192, .f32⟩
  | .hbm, ⟨41, _⟩ => ⟨S2048x8192, .f32⟩
  | .hbm, ⟨42, _⟩ => ⟨S2048x8192, .f32⟩
  | .hbm, ⟨43, _⟩ => ⟨S2048x4096x2, .f32⟩
  | .hbm, ⟨44, _⟩ => ⟨S2048x4096x1, .f32⟩
  | .hbm, ⟨45, _⟩ => ⟨S2048x4096, .f32⟩
  | .hbm, ⟨46, _⟩ => ⟨S2048x4096x1, .f32⟩
  | .hbm, ⟨47, _⟩ => ⟨S2048x4096, .f32⟩
  | .hbm, ⟨48, _⟩ => ⟨S2048x4096, .f32⟩
  | .hbm, ⟨49, _⟩ => ⟨S2048x4096, .f32⟩
  | .hbm, ⟨50, _⟩ => ⟨S2048x4096, .f32⟩
  | .hbm, ⟨51, _⟩ => ⟨S_, .f32⟩
  | .hbm, ⟨52, _⟩ => ⟨S2048x4096, .f32⟩
  | .hbm, ⟨53, _⟩ => ⟨S2048x4096, .f32⟩
  | .hbm, ⟨54, _⟩ => ⟨S_, .f32⟩
  | .hbm, ⟨55, _⟩ => ⟨S2048x4096, .f32⟩
  | .hbm, ⟨56, _⟩ => ⟨S2048x4096, .f32⟩
  | .hbm, ⟨57, _⟩ => ⟨S2048x4096, .f32⟩
  | .hbm, ⟨58, _⟩ => ⟨S2048x4096x2, .f32⟩
  | .hbm, ⟨59, _⟩ => ⟨S2048x4096x1, .f32⟩
  | .hbm, ⟨60, _⟩ => ⟨S2048x4096, .f32⟩
  | .hbm, ⟨61, _⟩ => ⟨S2048x4096x1, .f32⟩
  | .hbm, ⟨62, _⟩ => ⟨S2048x4096, .f32⟩
  | .hbm, ⟨63, _⟩ => ⟨S2048x4096, .f32⟩
  | .hbm, ⟨64, _⟩ => ⟨S2048x4096, .f32⟩
  | .hbm, ⟨65, _⟩ => ⟨S2048x4096, .f32⟩
  | .hbm, ⟨66, _⟩ => ⟨S_, .f32⟩
  | .hbm, ⟨67, _⟩ => ⟨S2048x4096, .f32⟩
  | .hbm, ⟨68, _⟩ => ⟨S2048x4096, .f32⟩
  | .hbm, ⟨69, _⟩ => ⟨S_, .f32⟩
  | .hbm, ⟨70, _⟩ => ⟨S2048x4096, .f32⟩
  | .hbm, ⟨71, _⟩ => ⟨S2048x4096, .f32⟩
  | .hbm, ⟨72, _⟩ => ⟨S2048x4096, .f32⟩
  | .hbm, ⟨73, _⟩ => ⟨S1x2048x4096, .f32⟩
  | .hbm, ⟨74, _⟩ => ⟨S1x2048x4096, .f32⟩
  | .hbm, ⟨75, _⟩ => ⟨S2x2048x4096, .f32⟩
  | .hbm, ⟨76, _⟩ => ⟨S1x2048x4096, .f32⟩
  | .hbm, ⟨77, _⟩ => ⟨S2048x4096, .f32⟩
  | .hbm, ⟨78, _⟩ => ⟨S1x2048x4096, .f32⟩
  | .hbm, ⟨79, _⟩ => ⟨S2048x4096, .f32⟩
  | .hbm, ⟨80, _⟩ => ⟨S2048x8192, .f32⟩
  | .hbm, ⟨81, _⟩ => ⟨S_, .f32⟩
  | .hbm, ⟨82, _⟩ => ⟨S2048, .f32⟩
  | .hbm, ⟨83, _⟩ => ⟨S_, .f32⟩
  | .hbm, ⟨84, _⟩ => ⟨S2048, .f32⟩
  | .hbm, ⟨85, _⟩ => ⟨S2048, .f32⟩
  | .hbm, ⟨86, _⟩ => ⟨S_, .f32⟩
  | .hbm, ⟨87, _⟩ => ⟨S2048, .f32⟩
  | .hbm, ⟨88, _⟩ => ⟨S_, .f32⟩
  | .hbm, ⟨89, _⟩ => ⟨S2048, .f32⟩
  | .hbm, ⟨90, _⟩ => ⟨S2048, .f32⟩
  | .hbm, ⟨91, _⟩ => ⟨S2048, .f32⟩
  | .hbm, ⟨92, _⟩ => ⟨S_, .f32⟩
  | .hbm, ⟨93, _⟩ => ⟨S2048, .f32⟩
  | .hbm, ⟨94, _⟩ => ⟨S2048, .i1⟩
  | .hbm, ⟨95, _⟩ => ⟨S_, .f32⟩
  | .hbm, ⟨96, _⟩ => ⟨S2048, .f32⟩
  | .hbm, ⟨97, _⟩ => ⟨S2048, .f32⟩
  | .hbm, ⟨98, _⟩ => ⟨S_, .f32⟩
  | .hbm, ⟨99, _⟩ => ⟨S_, .f32⟩
  | .hbm, ⟨100, _⟩ => ⟨S2048, .f32⟩
  | .hbm, ⟨101, _⟩ => ⟨S2048, .f32⟩
  | .hbm, ⟨102, _⟩ => ⟨S2048, .f32⟩
  | .hbm, ⟨103, _⟩ => ⟨S2048, .f32⟩
  | .hbm, ⟨104, _⟩ => ⟨S_, .f32⟩
  | .hbm, ⟨105, _⟩ => ⟨S2048, .f32⟩
  | .hbm, ⟨106, _⟩ => ⟨S2048, .f32⟩
  | .hbm, ⟨107, _⟩ => ⟨S_, .i32⟩
  | .hbm, ⟨108, _⟩ => ⟨S_, .i32⟩
  | .hbm, ⟨109, _⟩ => ⟨S_, .f32⟩
  | .hbm, ⟨110, _⟩ => ⟨S2048, .f32⟩
  | .hbm, ⟨111, _⟩ => ⟨S2048, .f32⟩
  | .hbm, ⟨112, _⟩ => ⟨S_, .f32⟩
  | .hbm, ⟨113, _⟩ => ⟨S2048, .f32⟩
  | .hbm, ⟨114, _⟩ => ⟨S2048, .f32⟩
  | .hbm, ⟨115, _⟩ => ⟨S2048x1, .f32⟩
  | .hbm, ⟨116, _⟩ => ⟨S2048x128, .f32⟩
  | .hbm, ⟨117, _⟩ => ⟨S2048x1, .f32⟩
  | .hbm, ⟨118, _⟩ => ⟨S2048x128, .f32⟩
  | .hbm, ⟨119, _⟩ => ⟨S1x2048, .f32⟩
  | .hbm, ⟨120, _⟩ => ⟨S1x2048, .f32⟩
  | .hbm, ⟨121, _⟩ => ⟨S1x2048, .i32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_cst_11 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_12 : Ref sig .tc := ⟨.hbm, 92, rfl⟩
abbrev main_v74 : Ref sig .tc := ⟨.hbm, 93, rfl⟩
abbrev main_v75 : Ref sig .tc := ⟨.hbm, 94, rfl⟩
abbrev main_cst_13 : Ref sig .tc := ⟨.hbm, 95, rfl⟩
abbrev main_v76 : Ref sig .tc := ⟨.hbm, 96, rfl⟩
abbrev main_v77 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_v82 : Ref sig .tc := ⟨.hbm, 106, rfl⟩
abbrev main_c_16 : Ref sig .tc := ⟨.hbm, 107, rfl⟩
abbrev main_c_17 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Down.lean ====
abbrev S2x2048x4096 : Shape := ⟨3, ![2, 2048, 4096]⟩
abbrev S2048x1 : Shape := ⟨2, ![2048, 1]⟩
abbrev S8192x1536 : Shape := ⟨2, ![8192, 1536]⟩
abbrev S256x3072 : Shape := ⟨2, ![256, 3072]⟩
abbrev S2048x3072 : Shape := ⟨2, ![2048, 3072]⟩
abbrev S2048x128 : Shape := ⟨2, ![2048, 128]⟩
abbrev S2048x8192 : Shape := ⟨2, ![2048, 8192]⟩
abbrev S1x2048x512 : Shape := ⟨3, ![1, 2048, 512]⟩
abbrev S512x1536 : Shape := ⟨2, ![512, 1536]⟩
abbrev S16x1536 : Shape := ⟨2, ![16, 1536]⟩
abbrev S2048x512 : Shape := ⟨2, ![2048, 512]⟩
abbrev S512x3072 : Shape := ⟨2, ![512, 3072]⟩
abbrev S128x3072 : Shape := ⟨2, ![128, 3072]⟩
abbrev S_ : Shape := ⟨0, ![]⟩
abbrev S256x128 : Shape := ⟨2, ![256, 128]⟩
abbrev S64x128 : Shape := ⟨2, ![64, 128]⟩
abbrev S8x128 : Shape := ⟨2, ![8, 128]⟩
abbrev S1x128 : Shape := ⟨2, ![1, 128]⟩
abbrev S32x128 : Shape := ⟨2, ![32, 128]⟩
abbrev S1x256x512 : Shape := ⟨3, ![1, 256, 512]⟩
abbrev S256x512 : Shape := ⟨2, ![256, 512]⟩
abbrev S256x1024 : Shape := ⟨2, ![256, 1024]⟩
abbrev S512x1024 : Shape := ⟨2, ![512, 1024]⟩
abbrev S128x128 : Shape := ⟨2, ![128, 128]⟩

abbrev nBuf : Space → Nat
  | .hbm => 11
  | .vmem => 16
  | .smem => 0
  | _ => 0

abbrev bufTy : (tb : Table) → Fin (tcTables nBuf tb) → BufTy
  | .hbm, ⟨0, _⟩ => ⟨S2x2048x4096, .f32⟩
  | .hbm, ⟨1, _⟩ => ⟨S2048x1, .f32⟩
  | .hbm, ⟨2, _⟩ => ⟨S2048x1, .i32⟩
  | .hbm, ⟨3, _⟩ => ⟨S8192x1536, .i8⟩
  | .hbm, ⟨4, _⟩ => ⟨S256x3072, .f32⟩
  | .hbm, ⟨5, _⟩ => ⟨S2048x3072, .f32⟩
  | .hbm, ⟨6, _⟩ => ⟨S2048x128, .f32⟩
  | .hbm, ⟨7, _⟩ => ⟨S2048x1, .f32⟩
  | .hbm, ⟨8, _⟩ => ⟨S2048x128, .f32⟩
  | .hbm, ⟨9, _⟩ => ⟨S2048x3072, .bf16⟩
  | .hbm, ⟨10, _⟩ => ⟨S2048x8192, .i8⟩
  | .local _ .vmem, ⟨0, _⟩ => ⟨S1x2048x512, .f32⟩
  | .local _ .vmem, ⟨1, _⟩ => ⟨S1x2048x512, .f32⟩
  | .local _ .vmem, ⟨2, _⟩ => ⟨S2048x128, .f32⟩
  | .local _ .vmem, ⟨3, _⟩ => ⟨S2048x128, .f32⟩
  | .local _ .vmem, ⟨4, _⟩ => ⟨S512x1536, .i8⟩
  | .local _ .vmem, ⟨5, _⟩ => ⟨S512x1536, .i8⟩
  | .local _ .vmem, ⟨6, _⟩ => ⟨S16x1536, .f32⟩
  | .local _ .vmem, ⟨7, _⟩ => ⟨S16x1536, .f32⟩
  | .local _ .vmem, ⟨8, _⟩ => ⟨S16x1536, .f32⟩
  | .local _ .vmem, ⟨9, _⟩ => ⟨S16x1536, .f32⟩
  | .local _ .vmem, ⟨10, _⟩ => ⟨S2048x3072, .bf16⟩
  | .local _ .vmem, ⟨11, _⟩ => ⟨S2048x512, .i8⟩
  | .local _ .vmem, ⟨12, _⟩ => ⟨S2048x512, .i8⟩
  | .local _ .vmem, ⟨13, _⟩ => ⟨S2048x3072, .f32⟩
  | .local _ .vmem, ⟨14, _⟩ => ⟨S512x3072, .bf16⟩
  | .local _ .vmem, ⟨15, _⟩ => ⟨S128x3072, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v4235 : BitVec 1 := Scalar.cmpi .eq arg0 c15_i32
  let v4236 : BitVec 32 := Scalar.extui v4235
  let c0_i32_1257 : BitVec 32 := 0#32
  let v4237 : BitVec 1 := Scalar.cmpi .ne v4236 c0_i32_1257
  v4237

@[reducible] def k0_t1_loop : Scf.Loop 32 :=
  let c0_i32_1258 : BitVec 32 := 0#32
  let c16_i32 : BitVec 32 := 16#32
  let v4238 : BitVec 32 := Scalar.addi c0_i32_1258 c16_i32
  let c1_i32 : BitVec 32 := 1#32
  ⟨c0_i32_1258, v4238, c1_i32⟩
def k0_mult1 (k0_t1 : Fin k0_t1_loop.trips) : BitVec 32 :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  v4240
def k0_off1 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let c0_i32_1261 : BitVec 32 := 0#32
  ![v4241.toNat, 0]
def k0_off2 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4244 : Index := Scalar.indexCast v4241
  let c0_1263 : Index := 0#32
  ![v4244.toNat, 0]
def k0_off3 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4248 : Index := Scalar.indexCast v4241
  let c0_1266 : Index := 0#32
  ![v4248.toNat, 0]
def k0_off4 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4256 : Index := Scalar.indexCast v4241
  let c128_1270 : Index := 128#32
  ![v4256.toNat, 128]
def k0_off5 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4264 : Index := Scalar.indexCast v4241
  let c256_1274 : Index := 256#32
  ![v4264.toNat, 256]
def k0_off6 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4272 : Index := Scalar.indexCast v4241
  let c384_1278 : Index := 384#32
  ![v4272.toNat, 384]
def k0_off7 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4280 : Index := Scalar.indexCast v4241
  let c512_1282 : Index := 512#32
  ![v4280.toNat, 512]
def k0_off8 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4288 : Index := Scalar.indexCast v4241
  let c640_1286 : Index := 640#32
  ![v4288.toNat, 640]
def k0_off9 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4296 : Index := Scalar.indexCast v4241
  let c768_1290 : Index := 768#32
  ![v4296.toNat, 768]
def k0_off10 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4304 : Index := Scalar.indexCast v4241
  let c896_1294 : Index := 896#32
  ![v4304.toNat, 896]
def k0_off11 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4312 : Index := Scalar.indexCast v4241
  let c1024_1298 : Index := 1024#32
  ![v4312.toNat, 1024]
def k0_off12 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4320 : Index := Scalar.indexCast v4241
  let c1152_1302 : Index := 1152#32
  ![v4320.toNat, 1152]
def k0_off13 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4328 : Index := Scalar.indexCast v4241
  let c1280_1306 : Index := 1280#32
  ![v4328.toNat, 1280]
def k0_off14 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4336 : Index := Scalar.indexCast v4241
  let c1408_1310 : Index := 1408#32
  ![v4336.toNat, 1408]
def k0_off15 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4344 : Index := Scalar.indexCast v4241
  let c1536_1314 : Index := 1536#32
  ![v4344.toNat, 1536]
def k0_off16 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4352 : Index := Scalar.indexCast v4241
  let c1664_1318 : Index := 1664#32
  ![v4352.toNat, 1664]
def k0_off17 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4360 : Index := Scalar.indexCast v4241
  let c1792_1322 : Index := 1792#32
  ![v4360.toNat, 1792]
def k0_off18 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4368 : Index := Scalar.indexCast v4241
  let c1920_1326 : Index := 1920#32
  ![v4368.toNat, 1920]
def k0_off19 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4376 : Index := Scalar.indexCast v4241
  let c2048_1330 : Index := 2048#32
  ![v4376.toNat, 2048]
def k0_off20 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4384 : Index := Scalar.indexCast v4241
  let c2176_1334 : Index := 2176#32
  ![v4384.toNat, 2176]
def k0_off21 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4392 : Index := Scalar.indexCast v4241
  let c2304_1338 : Index := 2304#32
  ![v4392.toNat, 2304]
def k0_off22 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4400 : Index := Scalar.indexCast v4241
  let c2432_1342 : Index := 2432#32
  ![v4400.toNat, 2432]
def k0_off23 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4408 : Index := Scalar.indexCast v4241
  let c2560_1346 : Index := 2560#32
  ![v4408.toNat, 2560]
def k0_off24 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4416 : Index := Scalar.indexCast v4241
  let c2688_1350 : Index := 2688#32
  ![v4416.toNat, 2688]
def k0_off25 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4424 : Index := Scalar.indexCast v4241
  let c2816_1354 : Index := 2816#32
  ![v4424.toNat, 2816]
def k0_off26 (k0_t1 : Fin k0_t1_loop.trips) : Fin 2 → Nat :=
  let c0_i32_1260 : BitVec 32 := 0#32
  let c0_i32_1258 : BitVec 32 := 0#32
  let c1_i32 : BitVec 32 := 1#32
  let arg14 : BitVec 32 := Scf.iv c0_i32_1258 c1_i32 k0_t1
  let c128_i32 : BitVec 32 := 128#32
  let v4239 : BitVec 32 := Scalar.muli arg14 c128_i32
  let v4240 : BitVec 32 := Scalar.addi c0_i32_1260 v4239
  let v4241 : BitVec 32 := v4240
  let v4432 : Index := Scalar.indexCast v4241
  let c2944_1358 : Index := 2944#32
  ![v4432.toNat, 2944]
def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownReferenceIdeal.lean ====
abbrev S2x2048x4096 : Shape := ⟨3, ![2, 2048, 4096]⟩
abbrev S2048x1 : Shape := ⟨2, ![2048, 1]⟩
abbrev S8192x1536 : Shape := ⟨2, ![8192, 1536]⟩
abbrev S256x3072 : Shape := ⟨2, ![256, 3072]⟩
abbrev S2048x3072 : Shape := ⟨2, ![2048, 3072]⟩
abbrev S_ : Shape := ⟨0, ![]⟩
abbrev S256x1536 : Shape := ⟨2, ![256, 1536]⟩
abbrev S256x32x1536 : Shape := ⟨3, ![256, 32, 1536]⟩
abbrev S1x2048x4096 : Shape := ⟨3, ![1, 2048, 4096]⟩
abbrev S2048x4096 : Shape := ⟨2, ![2048, 4096]⟩
abbrev S2048x8192 : Shape := ⟨2, ![2048, 8192]⟩
abbrev S2048x1536 : Shape := ⟨2, ![2048, 1536]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2048x1, .f32⟩
  | .hbm, ⟨2, _⟩ => ⟨S2048x1, .i32⟩
  | .hbm, ⟨3, _⟩ => ⟨S8192x1536, .i8⟩
  | .hbm, ⟨4, _⟩ => ⟨S256x3072, .f32⟩
  | .hbm, ⟨5, _⟩ => ⟨S2048x3072, .f32⟩
  | .hbm, ⟨6, _⟩ => ⟨S8192x1536, .i32⟩
  | .hbm, ⟨7, _⟩ => ⟨S_, .i32⟩
  | .hbm, ⟨8, _⟩ => ⟨S8192x1536, .i32⟩
  | .hbm, ⟨9, _⟩ => ⟨S8192x1536, .i32⟩
  | .hbm, ⟨10, _⟩ => ⟨S_, .i32⟩
  | .hbm, ⟨11, _⟩ => ⟨S8192x1536, .i32⟩
  | .hbm, ⟨12, _⟩ => ⟨S8192x1536, .i1⟩
  | .hbm, ⟨13, _⟩ => ⟨S_, .i32⟩
  | .hbm, ⟨14, _⟩ => ⟨S8192x1536, .i32⟩
  | .hbm, ⟨15, _⟩ => ⟨S8192x1536, .i32⟩
  | .hbm, ⟨16, _⟩ => ⟨S8192x1536, .i32⟩
  | .hbm, ⟨17, _⟩ => ⟨S_, .i32⟩
  | .hbm, ⟨18, _⟩ => ⟨S8192x1536, .i32⟩
  | .hbm, ⟨19, _⟩ => ⟨S8192x1536, .i32⟩
  | .hbm, ⟨20, _⟩ => ⟨S_, .i32⟩
  | .hbm, ⟨21, _⟩ => ⟨S8192x1536, .i32⟩
  | .hbm, ⟨22, _⟩ => ⟨S8192x1536, .i1⟩
  | .hbm, ⟨23, _⟩ => ⟨S_, .i32⟩
  | .hbm, ⟨24, _⟩ => ⟨S8192x1536, .i32⟩
  | .hbm, ⟨25, _⟩ => ⟨S8192x1536, .i32⟩
  | .hbm, ⟨26, _⟩ => ⟨S8192x1536, .i32⟩
  | .hbm, ⟨27, _⟩ => ⟨S256x1536, .f32⟩
  | .hbm, ⟨28, _⟩ => ⟨S256x32x1536, .f32⟩
  | .hbm, ⟨29, _⟩ => ⟨S8192x1536, .f32⟩
  | .hbm, ⟨30, _⟩ => ⟨S8192x1536, .bf16⟩
  | .hbm, ⟨31, _⟩ => ⟨S256x1536, .f32⟩
  | .hbm, ⟨32, _⟩ => ⟨S256x32x1536, .f32⟩
  | .hbm, ⟨33, _⟩ => ⟨S8192x1536, .f32⟩
  | .hbm, ⟨34, _⟩ => ⟨S8192x1536, .bf16⟩
  | .hbm, ⟨35, _⟩ => ⟨S8192x1536, .bf16⟩
  | .hbm, ⟨36, _⟩ => ⟨S8192x1536, .bf16⟩
  | .hbm, ⟨37, _⟩ => ⟨S8192x1536, .bf16⟩
  | .hbm, ⟨38, _⟩ => ⟨S8192x1536, .bf16⟩
  | .hbm, ⟨39, _⟩ => ⟨S1x2048x4096, .f32⟩
  | .hbm, ⟨40, _⟩ => ⟨S2048x4096, .f32⟩
  | .hbm, ⟨41, _⟩ => ⟨S1x2048x4096, .f32⟩
  | .hbm, ⟨42, _⟩ => ⟨S2048x4096, .f32⟩
  | .hbm, ⟨43, _⟩ => ⟨S2048x8192, .f32⟩
  | .hbm, ⟨44, _⟩ => ⟨S2048x8192, .f32⟩
  | .hbm, ⟨45, _⟩ => ⟨S2048x8192, .f32⟩
  | .hbm, ⟨46, _⟩ => ⟨S2048x8192, .f32⟩
  | .hbm, ⟨47, _⟩ => ⟨S2048x1, .f32⟩
  | .hbm, ⟨48, _⟩ => ⟨S2048x8192, .f32⟩
  | .hbm, ⟨49, _⟩ => ⟨S2048x8192, .f32⟩
  | .hbm, ⟨50, _⟩ => ⟨S_, .i32⟩
  | .hbm, ⟨51, _⟩ => ⟨S_, .i32⟩
  | .hbm, ⟨52, _⟩ => ⟨S_, .f32⟩
  | .hbm, ⟨53, _⟩ => ⟨S2048x8192, .f32⟩
  | .hbm, ⟨54, _⟩ => ⟨S2048x8192, .f32⟩
  | .hbm, ⟨55, _⟩ => ⟨S_, .f32⟩
  | .hbm, ⟨56, _⟩ => ⟨S2048x8192, .f32⟩
  | .hbm, ⟨57, _⟩ => ⟨S2048x8192, .f32⟩
  | .hbm, ⟨58, _⟩ => ⟨S2048x8192, .i32⟩
  | .hbm, ⟨59, _⟩ => ⟨S2048x8192, .i8⟩
  | .hbm, ⟨60, _⟩ => ⟨S2048x8192, .i32⟩
  | .hbm, ⟨61, _⟩ => ⟨S2048x8192, .i32⟩
  | .hbm, ⟨62, _⟩ => ⟨S2048x8192, .i32⟩
  | .hbm, ⟨63, _⟩ => ⟨S2048x8192, .bf16⟩
  | .hbm, ⟨64, _⟩ => ⟨S2048x1536, .f32⟩
  | .hbm, ⟨65, _⟩ => ⟨S2048x1536, .f32⟩
  | .hbm, ⟨66, _⟩ => ⟨S2048x1536, .f32⟩
  | .hbm, ⟨67, _⟩ => ⟨S2048x1536, .f32⟩
  | .hbm, ⟨68, _⟩ => ⟨S2048x1536, .f32⟩
  | .hbm, ⟨69, _⟩ => ⟨S2048x1536, .f32⟩
  | .hbm, ⟨70, _⟩ => ⟨S2048x3072, .f32⟩
  | .hbm, ⟨71, _⟩ => ⟨S2048x3072, .f32⟩
  | .hbm, ⟨72, _⟩ => ⟨S2048x3072, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_c_6 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Norm.lean ====
abbrev S2048x3072 : Shape := ⟨2, ![2048, 3072]⟩
abbrev S1x3072 : Shape := ⟨2, ![1, 3072]⟩
abbrev S2048x48 : Shape := ⟨2, ![2048, 48]⟩
abbrev S1x2048 : Shape := ⟨2, ![1, 2048]⟩
abbrev S2048x128 : Shape := ⟨2, ![2048, 128]⟩
abbrev S256x3072 : Shape := ⟨2, ![256, 3072]⟩
abbrev S256x48 : Shape := ⟨2, ![256, 48]⟩
abbrev S1x256 : Shape := ⟨2, ![1, 256]⟩
abbrev S256x128 : Shape := ⟨2, ![256, 128]⟩
abbrev S64x3072 : Shape := ⟨2, ![64, 3072]⟩
abbrev S64 : Shape := ⟨1, ![64]⟩
abbrev S64x1 : Shape := ⟨2, ![64, 1]⟩
abbrev S64x128 : Shape := ⟨2, ![64, 128]⟩
abbrev S128x256 : Shape := ⟨2, ![128, 256]⟩
abbrev S256x32 : Shape := ⟨2, ![256, 32]⟩

abbrev nBuf : Space → Nat
  | .hbm => 11
  | .vmem => 21
  | .smem => 0
  | _ => 0

abbrev bufTy : (tb : Table) → Fin (tcTables nBuf tb) → BufTy
  | .hbm, ⟨0, _⟩ => ⟨S2048x3072, .bf16⟩
  | .hbm, ⟨1, _⟩ => ⟨S1x3072, .f32⟩
  | .hbm, ⟨2, _⟩ => ⟨S2048x48, .f32⟩
  | .hbm, ⟨3, _⟩ => ⟨S2048x48, .f32⟩
  | .hbm, ⟨4, _⟩ => ⟨S2048x3072, .bf16⟩
  | .hbm, ⟨5, _⟩ => ⟨S2048x3072, .i8⟩
  | .hbm, ⟨6, _⟩ => ⟨S1x2048, .f32⟩
  | .hbm, ⟨7, _⟩ => ⟨S1x2048, .i32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S256x3072, .bf16⟩
  | .local _ .vmem, ⟨1, _⟩ => ⟨S256x3072, .bf16⟩
  | .local _ .vmem, ⟨2, _⟩ => ⟨S1x3072, .f32⟩
  | .local _ .vmem, ⟨3, _⟩ => ⟨S256x48, .f32⟩
  | .local _ .vmem, ⟨4, _⟩ => ⟨S256x48, .f32⟩
  | .local _ .vmem, ⟨5, _⟩ => ⟨S256x48, .f32⟩
  | .local _ .vmem, ⟨6, _⟩ => ⟨S256x48, .f32⟩
  | .local _ .vmem, ⟨7, _⟩ => ⟨S256x3072, .bf16⟩
  | .local _ .vmem, ⟨8, _⟩ => ⟨S256x3072, .bf16⟩
  | .local _ .vmem, ⟨9, _⟩ => ⟨S256x3072, .i8⟩
  | .local _ .vmem, ⟨10, _⟩ => ⟨S256x3072, .i8⟩
  | .local _ .vmem, ⟨11, _⟩ => ⟨S1x256, .f32⟩
  | .local _ .vmem, ⟨12, _⟩ => ⟨S1x256, .f32⟩
  | .local _ .vmem, ⟨13, _⟩ => ⟨S1x256, .i32⟩
  | .local _ .vmem, ⟨14, _⟩ => ⟨S1x256, .i32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== NormReferenceIdeal.lean ====
abbrev S2048x3072 : Shape := ⟨2, ![2048, 3072]⟩
abbrev S1x3072 : Shape := ⟨2, ![1, 3072]⟩
abbrev S2048x48 : Shape := ⟨2, ![2048, 48]⟩
abbrev S_ : Shape := ⟨0, ![]⟩
abbrev S2048 : Shape := ⟨1, ![2048]⟩
abbrev S2048x1 : Shape := ⟨2, ![2048, 1]⟩
abbrev S2048x32 : Shape := ⟨2, ![2048, 32]⟩
abbrev S2048x128 : Shape := ⟨2, ![2048, 128]⟩
abbrev S1x2048 : Shape := ⟨2, ![1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1x3072, .f32⟩
  | .hbm, ⟨2, _⟩ => ⟨S2048x48, .f32⟩
  | .hbm, ⟨3, _⟩ => ⟨S2048x48, .f32⟩
  | .hbm, ⟨4, _⟩ => ⟨S2048x3072, .f32⟩
  | .hbm, ⟨5, _⟩ => ⟨S2048x3072, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .i1⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048, .i32⟩
  | .hbm, ⟨55, _⟩ => ⟨S2048x1, .f32⟩
  | .hbm, ⟨56, _⟩ => ⟨S2048x3072, .f32⟩
  | .hbm, ⟨57, _⟩ => ⟨S2048x3072, .f32⟩
  | .hbm, ⟨58, _⟩ => ⟨S2048x3072, .f32⟩
  | .hbm, ⟨59, _⟩ => ⟨S2048x1, .i32⟩
  | .hbm, ⟨60, _⟩ => ⟨S2048x1, .f32⟩
  | .hbm, ⟨61, _⟩ => ⟨S2048x3072, .f32⟩
  | .hbm, ⟨62, _⟩ => ⟨S2048x3072, .f32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S2048x3072, .f32⟩
  | .hbm, ⟨67, _⟩ => ⟨S2048x3072, .f32⟩
  | .hbm, ⟨68, _⟩ => ⟨S_, .f32⟩
  | .hbm, ⟨69, _⟩ => ⟨S2048x3072, .f32⟩
  | .hbm, ⟨70, _⟩ => ⟨S2048x3072, .f32⟩
  | .hbm, ⟨71, _⟩ => ⟨S2048x3072, .i32⟩
  | .hbm, ⟨72, _⟩ => ⟨S2048x3072, .i8⟩
  | .hbm, ⟨73, _⟩ => ⟨S2048x3072, .i32⟩
  | .hbm, ⟨74, _⟩ => ⟨S2048x1, .i32⟩
  | .hbm, ⟨75, _⟩ => ⟨S2048x3072, .i32⟩
  | .hbm, ⟨76, _⟩ => ⟨S2048x3072, .i32⟩
  | .hbm, ⟨77, _⟩ => ⟨S2048x3072, .bf16⟩
  | .hbm, ⟨78, _⟩ => ⟨S_, .f32⟩
  | .hbm, ⟨79, _⟩ => ⟨S2048x32, .f32⟩
  | .hbm, ⟨80, _⟩ => ⟨S2048x128, .f32⟩
  | .hbm, ⟨81, _⟩ => ⟨S2048x48, .f32⟩
  | .hbm, ⟨82, _⟩ => ⟨S_, .f32⟩
  | .hbm, ⟨83, _⟩ => ⟨S2048x32, .f32⟩
  | .hbm, ⟨84, _⟩ => ⟨S2048x128, .f32⟩
  | .hbm, ⟨85, _⟩ => ⟨S1x2048, .f32⟩
  | .hbm, ⟨86, _⟩ => ⟨S1x2048, .i32⟩
  | .hbm, ⟨87, _⟩ => ⟨S2048x1, .f32⟩
  | .hbm, ⟨88, _⟩ => ⟨S2048x128, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_c_10 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_c_12 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_14 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩

abbrev nD : Nat := 1
abbrev τ : Topo := Topo.v7x

variable {F : FTy → Type} [FloatOps F]
-- ==== Oproj.lean ====
abbrev S2048x3072 : Shape := ⟨2, ![2048, 3072]⟩
abbrev S1x3072 : Shape := ⟨2, ![1, 3072]⟩
abbrev S3072x1536 : Shape := ⟨2, ![3072, 1536]⟩
abbrev S96x3072 : Shape := ⟨2, ![96, 3072]⟩
abbrev S2048x128 : Shape := ⟨2, ![2048, 128]⟩
abbrev S1x2048 : Shape := ⟨2, ![1, 2048]⟩
abbrev S256x3072 : Shape := ⟨2, ![256, 3072]⟩
abbrev S96x1536 : Shape := ⟨2, ![96, 1536]⟩
abbrev S256x128 : Shape := ⟨2, ![256, 128]⟩
abbrev S1x256 : Shape := ⟨2, ![1, 256]⟩
abbrev S3072x3072 : Shape := ⟨2, ![3072, 3072]⟩
abbrev S256x1536 : Shape := ⟨2, ![256, 1536]⟩
abbrev S64x128 : Shape := ⟨2, ![64, 128]⟩
abbrev S8x1536 : Shape := ⟨2, ![8, 1536]⟩
abbrev S8x128 : Shape := ⟨2, ![8, 128]⟩
abbrev S1x128 : Shape := ⟨2, ![1, 128]⟩
abbrev S32x128 : Shape := ⟨2, ![32, 128]⟩
abbrev S64x3072 : Shape := ⟨2, ![64, 3072]⟩
abbrev S64 : Shape := ⟨1, ![64]⟩
abbrev S64x1 : Shape := ⟨2, ![64, 1]⟩
abbrev S128x256 : Shape := ⟨2, ![128, 256]⟩
abbrev S3072x512 : Shape := ⟨2, ![3072, 512]⟩
abbrev S256x512 : Shape := ⟨2, ![256, 512]⟩

abbrev nBuf : Space → Nat
  | .hbm => 14
  | .vmem => 30
  | .smem => 0
  | _ => 0

abbrev bufTy : (tb : Table) → Fin (tcTables nBuf tb) → BufTy
  | .hbm, ⟨0, _⟩ => ⟨S2048x3072, .f32⟩
  | .hbm, ⟨1, _⟩ => ⟨S2048x3072, .bf16⟩
  | .hbm, ⟨2, _⟩ => ⟨S1x3072, .f32⟩
  | .hbm, ⟨3, _⟩ => ⟨S3072x1536, .i8⟩
  | .hbm, ⟨4, _⟩ => ⟨S96x3072, .f32⟩
  | .hbm, ⟨5, _⟩ => ⟨S2048x3072, .f32⟩
  | .hbm, ⟨6, _⟩ => ⟨S2048x3072, .bf16⟩
  | .hbm, ⟨7, _⟩ => ⟨S2048x3072, .i8⟩
  | .hbm, ⟨8, _⟩ => ⟨S2048x128, .f32⟩
  | .hbm, ⟨9, _⟩ => ⟨S1x2048, .f32⟩
  | .hbm, ⟨10, _⟩ => ⟨S1x2048, .i32⟩
  | .hbm, ⟨11, _⟩ => ⟨S2048x3072, .i8⟩
  | .hbm, ⟨12, _⟩ => ⟨S1x2048, .f32⟩
  | .hbm, ⟨13, _⟩ => ⟨S1x2048, .i32⟩
  | .local _ .vmem, ⟨0, _⟩ => ⟨S256x3072, .f32⟩
  | .local _ .vmem, ⟨1, _⟩ => ⟨S256x3072, .f32⟩
  | .local _ .vmem, ⟨2, _⟩ => ⟨S256x3072, .bf16⟩
  | .local _ .vmem, ⟨3, _⟩ => ⟨S256x3072, .bf16⟩
  | .local _ .vmem, ⟨4, _⟩ => ⟨S1x3072, .f32⟩
  | .local _ .vmem, ⟨5, _⟩ => ⟨S3072x1536, .i8⟩
  | .local _ .vmem, ⟨6, _⟩ => ⟨S96x1536, .f32⟩
  | .local _ .vmem, ⟨7, _⟩ => ⟨S96x1536, .f32⟩
  | .local _ .vmem, ⟨8, _⟩ => ⟨S256x3072, .f32⟩
  | .local _ .vmem, ⟨9, _⟩ => ⟨S256x3072, .f32⟩
  | .local _ .vmem, ⟨10, _⟩ => ⟨S256x3072, .bf16⟩
  | .local _ .vmem, ⟨11, _⟩ => ⟨S256x3072, .bf16⟩
  | .local _ .vmem, ⟨12, _⟩ => ⟨S256x3072, .i8⟩
  | .local _ .vmem, ⟨13, _⟩ => ⟨S256x3072, .i8⟩
  | .local _ .vmem, ⟨14, _⟩ => ⟨S256x128, .f32⟩
  | .local _ .vmem, ⟨15, _⟩ => ⟨S256x128, .f32⟩
  | .local _ .vmem, ⟨16, _⟩ => ⟨S1x256, .f32⟩
  | .local _ .vmem, ⟨17, _⟩ => ⟨S1x256, .f32⟩
  | .local _ .vmem, ⟨18, _⟩ => ⟨S1x256, .i32⟩
  | .local _ .vmem, ⟨19, _⟩ => ⟨S1x256, .i32⟩
  | .local _ .vmem, ⟨20, _⟩ => ⟨S256x3072, .i8⟩
  | .local _ .vmem, ⟨21, _⟩ => ⟨S256x3072, .i8⟩
  | .local _ .vmem, ⟨22, _⟩ => ⟨S1x256, .f32⟩
  | .local _ .vmem, ⟨23, _⟩ => ⟨S1x256, .f32⟩
  | .local _ .vmem, ⟨24, _⟩ => ⟨S1x256, .i32⟩
  | .local _ .vmem, ⟨25, _⟩ => ⟨S1x256, .i32⟩
  | .local _ .vmem, ⟨26, _⟩ => ⟨S3072x3072, .bf16⟩
  | .local _ .vmem, ⟨27, _⟩ => ⟨S256x3072, .bf16⟩
  | .local _ .vmem, ⟨28, _⟩ => ⟨S256x128, .f32⟩
  | .local _ .vmem, ⟨29, _⟩ => ⟨S256x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_277 : BitVec 32 := 0#32
  let c12_i32 : BitVec 32 := 12#32
  let v554 : BitVec 32 := Scalar.addi c0_i32_277 c12_i32
  let c1_i32 : BitVec 32 := 1#32
  ⟨c0_i32_277, v554, c1_i32⟩
def k0_mult1 (k0_t1 : Fin k0_t1_loop.trips) : BitVec 32 :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  v556
def k0_mult2 (k0_t1 : Fin k0_t1_loop.trips) : BitVec 32 :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let c0_i32_280 : BitVec 32 := 0#32
  let v559 : BitVec 1 := Scalar.cmpi .sgt v556 c0_i32_280
  let v560 : BitVec 32 := Scalar.extui v559
  let c0_i32_281 : BitVec 32 := 0#32
  let v561 : BitVec 1 := Scalar.cmpi .slt v556 c0_i32_281
  let v562 : BitVec 32 := Scalar.extui v561
  let v563 : BitVec 32 := Scalar.subi v560 v562
  let c32_i32 : BitVec 32 := 32#32
  let c0_i32_282 : BitVec 32 := 0#32
  let v564 : BitVec 1 := Scalar.cmpi .sgt c32_i32 c0_i32_282
  let v565 : BitVec 32 := Scalar.extui v564
  let c0_i32_283 : BitVec 32 := 0#32
  let v566 : BitVec 1 := Scalar.cmpi .slt c32_i32 c0_i32_283
  let v567 : BitVec 32 := Scalar.extui v566
  let v568 : BitVec 32 := Scalar.subi v565 v567
  let v569 : BitVec 1 := Scalar.cmpi .ne v563 v568
  let v570 : BitVec 32 := Scalar.remsi v556 c32_i32
  let c0_i32_284 : BitVec 32 := 0#32
  let v571 : BitVec 1 := Scalar.cmpi .ne v570 c0_i32_284
  let v572 : BitVec 1 := Scalar.andi v569 v571
  let v558 : BitVec 32 := Scalar.divsi v556 c32_i32
  let c1_i32_285 : BitVec 32 := 1#32
  let v573 : BitVec 32 := Scalar.subi v558 c1_i32_285
  let v574 : BitVec 32 := Scalar.select v572 v573 v558
  v574
def k0_off1 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_286 : BitVec 32 := 0#32
  ![v557.toNat, 0]
def k0_off2 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let c0_i32_280 : BitVec 32 := 0#32
  let v559 : BitVec 1 := Scalar.cmpi .sgt v556 c0_i32_280
  let v560 : BitVec 32 := Scalar.extui v559
  let c0_i32_281 : BitVec 32 := 0#32
  let v561 : BitVec 1 := Scalar.cmpi .slt v556 c0_i32_281
  let v562 : BitVec 32 := Scalar.extui v561
  let v563 : BitVec 32 := Scalar.subi v560 v562
  let c32_i32 : BitVec 32 := 32#32
  let c0_i32_282 : BitVec 32 := 0#32
  let v564 : BitVec 1 := Scalar.cmpi .sgt c32_i32 c0_i32_282
  let v565 : BitVec 32 := Scalar.extui v564
  let c0_i32_283 : BitVec 32 := 0#32
  let v566 : BitVec 1 := Scalar.cmpi .slt c32_i32 c0_i32_283
  let v567 : BitVec 32 := Scalar.extui v566
  let v568 : BitVec 32 := Scalar.subi v565 v567
  let v569 : BitVec 1 := Scalar.cmpi .ne v563 v568
  let v570 : BitVec 32 := Scalar.remsi v556 c32_i32
  let c0_i32_284 : BitVec 32 := 0#32
  let v571 : BitVec 1 := Scalar.cmpi .ne v570 c0_i32_284
  let v572 : BitVec 1 := Scalar.andi v569 v571
  let v558 : BitVec 32 := Scalar.divsi v556 c32_i32
  let c1_i32_285 : BitVec 32 := 1#32
  let v573 : BitVec 32 := Scalar.subi v558 c1_i32_285
  let v574 : BitVec 32 := Scalar.select v572 v573 v558
  let v575 : BitVec 32 := v574
  let c0_i32_289 : BitVec 32 := 0#32
  ![v575.toNat, 0]
def k0_off3 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_298 : BitVec 32 := 0#32
  ![v557.toNat, 0]
def k0_off4 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_298 : BitVec 32 := 0#32
  ![v557.toNat, 0]
def k0_off5 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 1536]
def k0_off6 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_304 : BitVec 32 := 0#32
  ![Nat.add v557.toNat 32, 0]
def k0_off7 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 1536]
def k0_off8 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_309 : BitVec 32 := 0#32
  ![Nat.add v557.toNat 64, 0]
def k0_off9 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 1536]
def k0_off10 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_315 : BitVec 32 := 0#32
  ![Nat.add v557.toNat 96, 0]
def k0_off11 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 1536]
def k0_off12 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_320 : BitVec 32 := 0#32
  ![Nat.add v557.toNat 128, 0]
def k0_off13 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 1536]
def k0_off14 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_326 : BitVec 32 := 0#32
  ![Nat.add v557.toNat 160, 0]
def k0_off15 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 1536]
def k0_off16 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_331 : BitVec 32 := 0#32
  ![Nat.add v557.toNat 192, 0]
def k0_off17 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 1536]
def k0_off18 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  let c0_i32_337 : BitVec 32 := 0#32
  ![Nat.add v557.toNat 224, 0]
def k0_off19 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 1536]
def k0_off20 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 128]
def k0_off21 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 1664]
def k0_off22 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 128]
def k0_off23 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 1664]
def k0_off24 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 128]
def k0_off25 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 1664]
def k0_off26 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 128]
def k0_off27 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 1664]
def k0_off28 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 128]
def k0_off29 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 1664]
def k0_off30 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 128]
def k0_off31 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 1664]
def k0_off32 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 128]
def k0_off33 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 1664]
def k0_off34 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 128]
def k0_off35 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 1664]
def k0_off36 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 256]
def k0_off37 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 1792]
def k0_off38 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 256]
def k0_off39 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 1792]
def k0_off40 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 256]
def k0_off41 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 1792]
def k0_off42 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 256]
def k0_off43 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 1792]
def k0_off44 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 256]
def k0_off45 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 1792]
def k0_off46 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 256]
def k0_off47 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 1792]
def k0_off48 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 256]
def k0_off49 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 1792]
def k0_off50 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 256]
def k0_off51 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 1792]
def k0_off52 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 384]
def k0_off53 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 1920]
def k0_off54 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 384]
def k0_off55 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 1920]
def k0_off56 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 384]
def k0_off57 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 1920]
def k0_off58 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 384]
def k0_off59 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 1920]
def k0_off60 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 384]
def k0_off61 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 1920]
def k0_off62 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 384]
def k0_off63 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 1920]
def k0_off64 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 384]
def k0_off65 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 1920]
def k0_off66 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 384]
def k0_off67 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 1920]
def k0_off68 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 512]
def k0_off69 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 2048]
def k0_off70 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 512]
def k0_off71 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 2048]
def k0_off72 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 512]
def k0_off73 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 2048]
def k0_off74 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 512]
def k0_off75 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 2048]
def k0_off76 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 512]
def k0_off77 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 2048]
def k0_off78 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 512]
def k0_off79 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 2048]
def k0_off80 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 512]
def k0_off81 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 2048]
def k0_off82 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 512]
def k0_off83 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 2048]
def k0_off84 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 640]
def k0_off85 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 2176]
def k0_off86 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 640]
def k0_off87 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 2176]
def k0_off88 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 640]
def k0_off89 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 2176]
def k0_off90 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 640]
def k0_off91 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 2176]
def k0_off92 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 640]
def k0_off93 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 2176]
def k0_off94 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 640]
def k0_off95 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 2176]
def k0_off96 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 640]
def k0_off97 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 2176]
def k0_off98 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 640]
def k0_off99 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 2176]
def k0_off100 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 768]
def k0_off101 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 2304]
def k0_off102 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 768]
def k0_off103 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 2304]
def k0_off104 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 768]
def k0_off105 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 2304]
def k0_off106 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 768]
def k0_off107 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 2304]
def k0_off108 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 768]
def k0_off109 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 2304]
def k0_off110 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 768]
def k0_off111 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 2304]
def k0_off112 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 768]
def k0_off113 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 2304]
def k0_off114 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 768]
def k0_off115 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 2304]
def k0_off116 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 896]
def k0_off117 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 2432]
def k0_off118 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 896]
def k0_off119 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 2432]
def k0_off120 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 896]
def k0_off121 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 2432]
def k0_off122 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 896]
def k0_off123 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 2432]
def k0_off124 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 896]
def k0_off125 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 2432]
def k0_off126 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 896]
def k0_off127 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 2432]
def k0_off128 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 896]
def k0_off129 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 2432]
def k0_off130 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 896]
def k0_off131 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 2432]
def k0_off132 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 1024]
def k0_off133 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 2560]
def k0_off134 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 1024]
def k0_off135 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 2560]
def k0_off136 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 1024]
def k0_off137 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 2560]
def k0_off138 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 1024]
def k0_off139 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 2560]
def k0_off140 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 1024]
def k0_off141 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 2560]
def k0_off142 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 1024]
def k0_off143 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 2560]
def k0_off144 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 1024]
def k0_off145 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 2560]
def k0_off146 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 1024]
def k0_off147 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 2560]
def k0_off148 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 1152]
def k0_off149 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 2688]
def k0_off150 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 1152]
def k0_off151 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 2688]
def k0_off152 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 1152]
def k0_off153 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 2688]
def k0_off154 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 1152]
def k0_off155 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 2688]
def k0_off156 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 1152]
def k0_off157 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 2688]
def k0_off158 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 1152]
def k0_off159 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 2688]
def k0_off160 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 1152]
def k0_off161 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 2688]
def k0_off162 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 1152]
def k0_off163 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 2688]
def k0_off164 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 1280]
def k0_off165 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 2816]
def k0_off166 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 1280]
def k0_off167 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 2816]
def k0_off168 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 1280]
def k0_off169 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 2816]
def k0_off170 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 1280]
def k0_off171 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 2816]
def k0_off172 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 1280]
def k0_off173 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 2816]
def k0_off174 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 1280]
def k0_off175 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 2816]
def k0_off176 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 1280]
def k0_off177 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 2816]
def k0_off178 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 1280]
def k0_off179 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 2816]
def k0_off180 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 1408]
def k0_off181 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![v557.toNat, 2944]
def k0_off182 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 1408]
def k0_off183 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 32, 2944]
def k0_off184 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 1408]
def k0_off185 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 64, 2944]
def k0_off186 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 1408]
def k0_off187 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 96, 2944]
def k0_off188 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 1408]
def k0_off189 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 128, 2944]
def k0_off190 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 1408]
def k0_off191 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 160, 2944]
def k0_off192 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 1408]
def k0_off193 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 192, 2944]
def k0_off194 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 1408]
def k0_off195 (k0_t1 : Fin k0_t1_loop.trips) : Fin 2 → Nat :=
  let c0_i32_279 : BitVec 32 := 0#32
  let c0_i32_277 : BitVec 32 := 0#32
  let c1_i32 : BitVec 32 := 1#32
  let arg20 : BitVec 32 := Scf.iv c0_i32_277 c1_i32 k0_t1
  let c256_i32 : BitVec 32 := 256#32
  let v555 : BitVec 32 := Scalar.muli arg20 c256_i32
  let v556 : BitVec 32 := Scalar.addi c0_i32_279 v555
  let v557 : BitVec 32 := v556
  ![Nat.add v557.toNat 224, 2944]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OprojReferenceIdeal.lean ====
abbrev S2048x3072 : Shape := ⟨2, ![2048, 3072]⟩
abbrev S1x3072 : Shape := ⟨2, ![1, 3072]⟩
abbrev S3072x1536 : Shape := ⟨2, ![3072, 1536]⟩
abbrev S96x3072 : Shape := ⟨2, ![96, 3072]⟩
abbrev S_ : Shape := ⟨0, ![]⟩
abbrev S2048 : Shape := ⟨1, ![2048]⟩
abbrev S2048x1 : Shape := ⟨2, ![2048, 1]⟩
abbrev S96x1536 : Shape := ⟨2, ![96, 1536]⟩
abbrev S96x32x1536 : Shape := ⟨3, ![96, 32, 1536]⟩
abbrev S2048x1536 : Shape := ⟨2, ![2048, 1536]⟩
abbrev S2048x128 : Shape := ⟨2, ![2048, 128]⟩
abbrev S1x2048 : Shape := ⟨2, ![1, 2048]⟩

abbrev nBuf : Space → Nat
  | .hbm => 186
  | .vmem => 0
  | .smem => 0
  | _ => 0

abbrev hbmTy0_0 (i : Nat) : BufTy := match i % 128 with
  | 0 => ⟨S2048x3072, .f32⟩
  | 1 => ⟨S2048x3072, .bf16⟩
  | 2 => ⟨S1x3072, .f32⟩
  | 3 => ⟨S3072x1536, .i8⟩
  | 4 => ⟨S96x3072, .f32⟩
  | 5 => ⟨S3072x1536, .i32⟩
  | 6 => ⟨S_, .i32⟩
  | 7 => ⟨S3072x1536, .i32⟩
  | 8 => ⟨S3072x1536, .i32⟩
  | 9 => ⟨S_, .i32⟩
  | 10 => ⟨S3072x1536, .i32⟩
  | 11 => ⟨S3072x1536, .i1⟩
  | 12 => ⟨S_, .i32⟩
  | 13 => ⟨S3072x1536, .i32⟩
  | 14 => ⟨S3072x1536, .i32⟩
  | 15 => ⟨S3072x1536, .i32⟩
  | 16 => ⟨S_, .i32⟩
  | 17 => ⟨S3072x1536, .i32⟩
  | 18 => ⟨S3072x1536, .i32⟩
  | 19 => ⟨S_, .i32⟩
  | 20 => ⟨S3072x1536, .i32⟩
  | 21 => ⟨S3072x1536, .i1⟩
  | 22 => ⟨S_, .i32⟩
  | 23 => ⟨S3072x1536, .i32⟩
  | 24 => ⟨S3072x1536, .i32⟩
  | 25 => ⟨S3072x1536, .i32⟩
  | 26 => ⟨S_, .f32⟩
  | 27 => ⟨S2048, .f32⟩
  | 28 => ⟨S_, .f32⟩
  | 29 => ⟨S2048, .f32⟩
  | 30 => ⟨S2048, .f32⟩
  | 31 => ⟨S_, .f32⟩
  | 32 => ⟨S2048, .f32⟩
  | 33 => ⟨S_, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .i1⟩
  | 40 => ⟨S_, .f32⟩
  | 41 => ⟨S2048, .f32⟩
  | 42 => ⟨S2048, .f32⟩
  | 43 => ⟨S_, .f32⟩
  | 44 => ⟨S_, .f32⟩
  | 45 => ⟨S2048, .f32⟩
  | 46 => ⟨S2048, .f32⟩
  | 47 => ⟨S2048, .f32⟩
  | 48 => ⟨S2048, .f32⟩
  | 49 => ⟨S_, .f32⟩
  | 50 => ⟨S2048, .f32⟩
  | 51 => ⟨S2048, .f32⟩
  | 52 => ⟨S_, .i32⟩
  | 53 => ⟨S_, .i32⟩
  | 54 => ⟨S_, .f32⟩
  | 55 => ⟨S2048, .f32⟩
  | 56 => ⟨S2048, .f32⟩
  | 57 => ⟨S_, .f32⟩
  | 58 => ⟨S2048, .f32⟩
  | 59 => ⟨S2048, .f32⟩
  | 60 => ⟨S2048, .i32⟩
  | 61 => ⟨S2048x1, .f32⟩
  | 62 => ⟨S2048x3072, .f32⟩
  | 63 => ⟨S2048x3072, .f32⟩
  | 64 => ⟨S2048x3072, .f32⟩
  | 65 => ⟨S2048x1, .i32⟩
  | 66 => ⟨S2048x1, .f32⟩
  | 67 => ⟨S2048x3072, .f32⟩
  | 68 => ⟨S2048x3072, .f32⟩
  | 69 => ⟨S_, .i32⟩
  | 70 => ⟨S_, .i32⟩
  | 71 => ⟨S_, .f32⟩
  | 72 => ⟨S2048x3072, .f32⟩
  | 73 => ⟨S2048x3072, .f32⟩
  | 74 => ⟨S_, .f32⟩
  | 75 => ⟨S2048x3072, .f32⟩
  | 76 => ⟨S2048x3072, .f32⟩
  | 77 => ⟨S2048x3072, .i32⟩
  | 78 => ⟨S2048x3072, .i8⟩
  | 79 => ⟨S2048x3072, .i32⟩
  | 80 => ⟨S2048x1, .i32⟩
  | 81 => ⟨S2048x3072, .i32⟩
  | 82 => ⟨S2048x3072, .i32⟩
  | 83 => ⟨S2048x3072, .bf16⟩
  | 84 => ⟨S96x1536, .f32⟩
  | 85 => ⟨S96x32x1536, .f32⟩
  | 86 => ⟨S3072x1536, .f32⟩
  | 87 => ⟨S3072x1536, .bf16⟩
  | 88 => ⟨S96x1536, .f32⟩
  | 89 => ⟨S96x32x1536, .f32⟩
  | 90 => ⟨S3072x1536, .f32⟩
  | 91 => ⟨S3072x1536, .bf16⟩
  | 92 => ⟨S3072x1536, .bf16⟩
  | 93 => ⟨S3072x1536, .bf16⟩
  | 94 => ⟨S3072x1536, .bf16⟩
  | 95 => ⟨S3072x1536, .bf16⟩
  | 96 => ⟨S2048x1536, .f32⟩
  | 97 => ⟨S2048x1, .f32⟩
  | 98 => ⟨S2048x1536, .f32⟩
  | 99 => ⟨S2048x1536, .f32⟩
  | 100 => ⟨S2048x1536, .f32⟩
  | 101 => ⟨S2048x1, .f32⟩
  | 102 => ⟨S2048x1536, .f32⟩
  | 103 => ⟨S2048x1536, .f32⟩
  | 104 => ⟨S2048x3072, .f32⟩
  | 105 => ⟨S2048x3072, .f32⟩
  | 106 => ⟨S2048x3072, .f32⟩
  | 107 => ⟨S2048x3072, .f32⟩
  | 108 => ⟨S_, .f32⟩
  | 109 => ⟨S2048, .f32⟩
  | 110 => ⟨S2048x1, .f32⟩
  | 111 => ⟨S_, .f32⟩
  | 112 => ⟨S2048x1, .f32⟩
  | 113 => ⟨S2048x1, .f32⟩
  | 114 => ⟨S_, .f32⟩
  | 115 => ⟨S2048x1, .f32⟩
  | 116 => ⟨S2048x1, .f32⟩
  | 117 => ⟨S2048x1, .f32⟩
  | 118 => ⟨S2048x3072, .f32⟩
  | 119 => ⟨S2048x3072, .f32⟩
  | 120 => ⟨S2048x3072, .f32⟩
  | 121 => ⟨S2048x3072, .f32⟩
  | 122 => ⟨S_, .f32⟩
  | 123 => ⟨S2048, .f32⟩
  | 124 => ⟨S_, .f32⟩
  | 125 => ⟨S2048, .f32⟩
  | 126 => ⟨S2048, .f32⟩
  | 127 => ⟨S_, .f32⟩
  | _ => ⟨S2048x3072, .f32⟩

abbrev hbmTy0_1 (i : Nat) : BufTy := match i % 128 with
  | 0 => ⟨S2048, .f32⟩
  | 1 => ⟨S_, .f32⟩
  | 2 => ⟨S2048, .f32⟩
  | 3 => ⟨S2048, .f32⟩
  | 4 => ⟨S2048, .f32⟩
  | 5 => ⟨S_, .f32⟩
  | 6 => ⟨S2048, .f32⟩
  | 7 => ⟨S2048, .i1⟩
  | 8 => ⟨S_, .f32⟩
  | 9 => ⟨S2048, .f32⟩
  | 10 => ⟨S2048, .f32⟩
  | 11 => ⟨S_, .f32⟩
  | 12 => ⟨S_, .f32⟩
  | 13 => ⟨S2048, .f32⟩
  | 14 => ⟨S2048, .f32⟩
  | 15 => ⟨S2048, .f32⟩
  | 16 => ⟨S2048, .f32⟩
  | 17 => ⟨S_, .f32⟩
  | 18 => ⟨S2048, .f32⟩
  | 19 => ⟨S2048, .f32⟩
  | 20 => ⟨S_, .i32⟩
  | 21 => ⟨S_, .i32⟩
  | 22 => ⟨S_, .f32⟩
  | 23 => ⟨S2048, .f32⟩
  | 24 => ⟨S2048, .f32⟩
  | 25 => ⟨S_, .f32⟩
  | 26 => ⟨S2048, .f32⟩
  | 27 => ⟨S2048, .f32⟩
  | 28 => ⟨S2048, .i32⟩
  | 29 => ⟨S2048x1, .f32⟩
  | 30 => ⟨S2048x3072, .f32⟩
  | 31 => ⟨S2048x3072, .f32⟩
  | 32 => ⟨S2048x3072, .f32⟩
  | 33 => ⟨S2048x1, .i32⟩
  | 34 => ⟨S2048x1, .f32⟩
  | 35 => ⟨S2048x3072, .f32⟩
  | 36 => ⟨S2048x3072, .f32⟩
  | 37 => ⟨S_, .i32⟩
  | 38 => ⟨S_, .i32⟩
  | 39 => ⟨S_, .f32⟩
  | 40 => ⟨S2048x3072, .f32⟩
  | 41 => ⟨S2048x3072, .f32⟩
  | 42 => ⟨S_, .f32⟩
  | 43 => ⟨S2048x3072, .f32⟩
  | 44 => ⟨S2048x3072, .f32⟩
  | 45 => ⟨S2048x3072, .i32⟩
  | 46 => ⟨S2048x3072, .i8⟩
  | 47 => ⟨S2048x3072, .i32⟩
  | 48 => ⟨S2048x1, .i32⟩
  | 49 => ⟨S2048x3072, .i32⟩
  | 50 => ⟨S2048x3072, .i32⟩
  | 51 => ⟨S2048x3072, .bf16⟩
  | 52 => ⟨S2048x1, .f32⟩
  | 53 => ⟨S2048x128, .f32⟩
  | 54 => ⟨S1x2048, .f32⟩
  | 55 => ⟨S1x2048, .i32⟩
  | 56 => ⟨S1x2048, .f32⟩
  | 57 => ⟨S1x2048, .i32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_v25 : Ref sig .tc := ⟨.hbm, 42, rfl⟩
abbrev main_cst_10 : Ref sig .tc := ⟨.hbm, 43, rfl⟩
abbrev main_call2_v0 : Ref sig .tc := ⟨.hbm, 44, rfl⟩
abbrev main_call2_v1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_11 : Ref sig .tc := ⟨.hbm, 49, rfl⟩
abbrev main_v29 : Ref sig .tc := ⟨.hbm, 50, rfl⟩
abbrev main_v30 : Ref sig .tc := ⟨.hbm, 51, rfl⟩
abbrev main_c_12 : Ref sig .tc := ⟨.hbm, 52, rfl⟩
abbrev main_c_13 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_14 : Ref sig .tc := ⟨.hbm, 69, rfl⟩
abbrev main_c_15 : Ref sig .tc := ⟨.hbm, 70, rfl⟩
abbrev main_call6_v0 : Ref sig .tc := ⟨.hbm, 71, rfl⟩
abbrev main_call6_v1 : Ref sig .tc := ⟨.hbm, 72, rfl⟩
abbrev main_call6_v2 : Ref sig .tc := ⟨.hbm, 73, rfl⟩
abbrev main_call6_v3 : Ref sig .tc := ⟨.hbm, 74, rfl⟩
abbrev main_call6_v4 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_cst_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_19 : Ref sig .tc := ⟨.hbm, 122, rfl⟩
abbrev main_v84 : Ref sig .tc := ⟨.hbm, 123, rfl⟩
abbrev main_cst_20 : Ref sig .tc := ⟨.hbm, 124, rfl⟩
abbrev main_v85 : Ref sig .tc := ⟨.hbm, 125, rfl⟩
abbrev main_v86 : Ref sig .tc := ⟨.hbm, 126, rfl⟩
abbrev main_cst_21 : Ref sig .tc := ⟨.hbm, 127, rfl⟩
abbrev main_v87 : Ref sig .tc := ⟨.hbm, 128, rfl⟩
abbrev main_cst_22 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_23 : Ref sig .tc := ⟨.hbm, 133, rfl⟩
abbrev main_v91 : Ref sig .tc := ⟨.hbm, 134, rfl⟩
abbrev main_v92 : Ref sig .tc := ⟨.hbm, 135, rfl⟩
abbrev main_cst_24 : Ref sig .tc := ⟨.hbm, 136, rfl⟩
abbrev main_v93 : Ref sig .tc := ⟨.hbm, 137, rfl⟩
abbrev main_v94 : Ref sig .tc := ⟨.hbm, 138, rfl⟩
abbrev main_cst_25 : Ref sig .tc := ⟨.hbm, 139, rfl⟩
abbrev main_call7_v0 : Ref sig .tc := ⟨.hbm, 140, rfl⟩
abbrev main_call7_v1 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_26 : Ref sig .tc := ⟨.hbm, 145, rfl⟩
abbrev main_v98 : Ref sig .tc := ⟨.hbm, 146, rfl⟩
abbrev main_v99 : Ref sig .tc := ⟨.hbm, 147, rfl⟩
abbrev main_c_27 : Ref sig .tc := ⟨.hbm, 148, rfl⟩
abbrev main_c_28 : Ref sig .tc := ⟨.hbm, 149, rfl⟩
abbrev main_call9_v0 : Ref sig .tc := ⟨.hbm, 150, rfl⟩
abbrev main_call9_v1 : Ref sig .tc := ⟨.hbm, 151, rfl⟩
abbrev main_call9_v2 : Ref sig .tc := ⟨.hbm, 152, rfl⟩
abbrev main_call9_v3 : Ref sig .tc := ⟨.hbm, 153, rfl⟩
abbrev main_call9_v4 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_c_29 : Ref sig .tc := ⟨.hbm, 165, rfl⟩
abbrev main_c_30 : Ref sig .tc := ⟨.hbm, 166, rfl⟩
abbrev main_call11_v0 : Ref sig .tc := ⟨.hbm, 167, rfl⟩
abbrev main_call11_v1 : Ref sig .tc := ⟨.hbm, 168, rfl⟩
abbrev main_call11_v2 : Ref sig .tc := ⟨.hbm, 169, rfl⟩
abbrev main_call11_v3 : Ref sig .tc := ⟨.hbm, 170, rfl⟩
abbrev main_call11_v4 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩

abbrev nD : Nat := 1
abbrev τ : Topo := Topo.v7x

variable {F : FTy → Type} [FloatOps F]
-- ==== Proof.Stripes.lean ====
/- The weight stripes one grid step unpacks: the kernel's own operations on one chunk of packed codes
   and one block of group scales, written once for every stripe. -/
module
public import proofs.«01_k».proof.Proof.Gen.KernelIdeal.Frame.Runs
@[expose] public section
noncomputable section
namespace Cert.GateUp
open Idealize.ShloMosaic Idealize.ShloMosaic.TcCoe Cert.KernelIdeal Cert.KernelIdeal.Gen

/-- The lane number of every element of an array of 128 lanes. -/
abbrev lane64 : IVec S64x128 32 := iota .tc S64x128 32 [1] iota_S64x128_d1_w32
abbrev lane8 : IVec S8x128 32 := iota .tc S8x128 32 [1] iota_S8x128_d1_w32

section
variable {s : Shape} (l : IVec s 32)

/-- Whether a lane lies in the lower half. -/
def lowHalf : IVec s 1 := cmpi .slt l (broadcast s 64#32)
/-- The source lane of the even columns. -/
def evenSrc : IVec s 32 :=
  select (lowHalf l) (muli (broadcast s 2#32) l) (subi (muli (broadcast s 2#32) l) (broadcast s 127#32))
/-- The source lane of the odd columns. -/
def oddSrc : IVec s 32 :=
  select (lowHalf l) (addi (muli (broadcast s 2#32) l) (broadcast s 1#32))
    (subi (muli (broadcast s 2#32) l) (broadcast s 128#32))
/-- A lane index with the negative ones counted from the end. -/
def wrapLane (x : IVec s 32) : IVec s 32 :=
  select (cmpi .slt x (broadcast s 0#32)) (addi x (broadcast s 128#32)) x
end

/-- Lane gather on an array of packed words. -/
def gather64 (x idx : IVec S64x128 32) : IVec S64x128 32 :=
  dynamicGather 1 x (shapeCast S64x128 (shapeCast S64x128x1 (wrapLane idx) shapeCasts_S64x128_S64x128x1)
    shapeCasts_S64x128x1_S64x128)

variable {F : FTy → Type} [FloatOps F]

/-- Lane gather on a block of scales. -/
def gather8 (x : FVec F S8x128 .f32) (idx : IVec S8x128 32) : FVec F S8x128 .f32 :=
  dynamicGather 1 x (shapeCast S8x128 (shapeCast S8x128x1 (wrapLane idx) shapeCasts_S8x128_S8x128x1)
    shapeCasts_S8x128x1_S8x128)

/-- The even (`i = 0`) or odd (`i = 1`) columns of two neighbouring blocks of packed words. -/
def words (i : Fin 2) (x0 x1 : IVec S64x128 32) : IVec S64x128 32 :=
  match i with
  | 0 => select (lowHalf lane64) (gather64 x0 (evenSrc lane64)) (gather64 x1 (oddSrc lane64))
  | 1 => select (lowHalf lane64) (gather64 x0 (oddSrc lane64)) (gather64 x1 (evenSrc lane64))

/-- The even or odd columns of two neighbouring blocks of scales. -/
def scales (i : Fin 2) (x0 x1 : FVec F S8x128 .f32) : FVec F S8x128 .f32 :=
  match i with
  | 0 => select (lowHalf lane8) (gather8 x0 (evenSrc lane8)) (gather8 x1 (oddSrc lane8))
  | 1 => select (lowHalf lane8) (gather8 x0 (oddSrc lane8)) (gather8 x1 (evenSrc lane8))

/-- A scale block times one sixteenth. -/
def sixteenth (x : FVec F S8x128 .f32) : FVec F S8x128 .f32 :=
  mulf x (broadcast S8x128 (Scalar.ofBits .f32 0x3D800000#32))

/-- The low (`hi = 0`) or high (`hi = 1`) nibbles of packed words in the high bits of each byte, zeros below. -/
def masked (hi : Fin 2) (w : IVec S64x128 32) : IVec S64x128 32 :=
  match hi with
  | 0 => andi (shli w (broadcast S64x128 4#32)) (broadcast S64x128 4042322160#32)
  | 1 => andi w (broadcast S64x128 4042322160#32)

/-- The bytes of packed words as numbers. -/
def byteVals (w : IVec S64x128 32) : FVec F S256x128 .bf16 :=
  sitofp .bf16 (bitcast S256x128 8 w bitcasts_S64x128_w32_S256x128_w8)

theorem slicesQ (g : Fin 8) : S256x128.Slices ![32 * g.val, 0] S32x128 := by
  revert g; decide
theorem slicesS (g : Fin 8) : S8x128.Slices ![g.val, 0] S1x128 := by
  revert g; decide

/-- Group `g` of a chunk: 32 rows of codes times that group's row of scales. -/
def stripe (g : Fin 8) (q : FVec F S256x128 .bf16) (s : FVec F S8x128 .f32) : FVec F S32x128 .bf16 :=
  shapeCast S32x128
    (mulf (extractStridedSlice S32x128 ![32 * g.val, 0] q (slicesQ g))
      (truncf .bf16 (broadcastTo S32x128 (shapeCast S1x128
        (extractStridedSlice S1x128 ![g.val, 0] s (slicesS g)) shapeCasts_S1x128_S1x128)
        broadcasts_S1x128_S32x128) bitsLt_bf16_f32))
    shapeCasts_S32x128_S32x128

/-- A stripe from two neighbouring blocks of packed codes and of scales. -/
def stripeOf (hi i : Fin 2) (g : Fin 8) (c0 c1 : IVec S256x128 8) (s0 s1 : FVec F S8x128 .f32) :
    FVec F S32x128 .bf16 :=
  stripe g (byteVals (masked hi (words i (bitcast S64x128 32 c0 bitcasts_S256x128_w8_S64x128_w32)
    (bitcast S64x128 32 c1 bitcasts_S256x128_w8_S64x128_w32))))
    (scales i (sixteenth s0) (sixteenth s1))

end Cert.GateUp
-- ==== Proof.Written.lean ====
/- The unpacked weight block as the kernel writes it: 384 stripes, one list, in every case of the step. -/
module
public import proofs.«01_k».proof.Proof.Stripes
public import proofs.«01_k».proof.Proof.Gen.KernelIdeal.Frame.RunA
@[expose] public section
set_option maxRecDepth 65536
noncomputable section
namespace Cert.GateUp
open Idealize.ShloMosaic Idealize.ShloMosaic.TcCoe Idealize.ShloMosaic.Tactic Cert.KernelIdeal Cert.KernelIdeal.Gen

variable {F : FTy → Type} [FloatOps F]

theorem inbCode (k : Fin 12) (j : Fin 2) : ∀ a, (![256 * k.val, 128 * j.val] : Fin 2 → Nat) a + S256x128.size a ≤ S3072x256.size a := by
  revert k j; decide
theorem inbScale (k : Fin 12) (j : Fin 2) : ∀ a, (![8 * k.val, 128 * j.val] : Fin 2 → Nat) a + S8x128.size a ≤ S96x256.size a := by
  revert k j; decide

/-- The chunk, column half, group and nibble of stripe `n`, counted in the order of writing. -/
def chunkOf (n : Fin 384) : Fin 12 := ⟨n.val / 32, by omega⟩
def sideOf (n : Fin 384) : Fin 2 := ⟨n.val % 32 / 16, by omega⟩
def groupOf (n : Fin 384) : Fin 8 := ⟨n.val % 16 / 2, by omega⟩
def nibOf (n : Fin 384) : Fin 2 := ⟨n.val % 2, by omega⟩

def stripeOff (n : Fin 384) : Fin 2 → Nat :=
  ![256 * (chunkOf n).val + 32 * (groupOf n).val, 256 * (sideOf n).val + 128 * (nibOf n).val]

theorem inbStripe (n : Fin 384) : ∀ a, stripeOff n a + S32x128.size a ≤ S3072x512.size a := by
  obtain ⟨n, hn⟩ := n
  intro a
  fin_cases a <;> simp [stripeOff, chunkOf, groupOf, sideOf, nibOf, S32x128, S3072x512] <;> omega

section
variable (arg2 : Memref sig .tc .vmem S3072x256 .i8) (harg2 : arg2.IsWhole)
  (arg3 : Memref sig .tc .vmem S96x256 .f32) (harg3 : arg3.IsWhole)
  (arg4 : Memref sig .tc .vmem S96x256 .f32) (harg4 : arg4.IsWhole)
  (x1 : Vec F S3072x256 .i8) (x2 x3 : Vec F S96x256 .f32)

/-- One block of packed codes as the step loads it. -/
def codeLoad (k : Fin 12) (j : Fin 2) : IVec S256x128 8 :=
  View.readAt (Elt F) arg2.view (Rect.unit (s := S3072x256) ![256 * k.val, 128 * j.val] S256x128.size (inbCode k j)).toLoadRect (harg2.unread x1)

/-- One block of scales as the step loads it. -/
def scaleLoad (m : Memref sig .tc .vmem S96x256 .f32) (h : m.IsWhole) (x : Vec F S96x256 .f32) (k : Fin 12) (j : Fin 2) : FVec F S8x128 .f32 :=
  View.readAt (Elt F) m.view (Rect.unit (s := S96x256) ![8 * k.val, 128 * j.val] S8x128.size (inbScale k j)).toLoadRect (h.unread x)

/-- Stripe `n` of the weight block. -/
def stripeAt (n : Fin 384) : FVec F S32x128 .bf16 :=
  stripeOf (nibOf n) (sideOf n) (groupOf n)
    (codeLoad arg2 harg2 x1 (chunkOf n) 0) (codeLoad arg2 harg2 x1 (chunkOf n) 1)
    (match nibOf n with
      | 0 => scaleLoad arg3 harg3 x2 (chunkOf n) 0
      | 1 => scaleLoad arg4 harg4 x3 (chunkOf n) 0)
    (match nibOf n with
      | 0 => scaleLoad arg3 harg3 x2 (chunkOf n) 1
      | 1 => scaleLoad arg4 harg4 x3 (chunkOf n) 1)

/-- The stripes, newest first. -/
def stripes : List (View.Piece (Elt F) S3072x512 .bf16) :=
  List.ofFn fun n : Fin 384 => ⟨Rect.unit (s := S3072x512) (stripeOff n.rev) S32x128.size (inbStripe n.rev),
    stripeAt arg2 harg2 arg3 harg3 arg4 harg4 x1 x2 x3 n.rev⟩

theorem written_A (c : Dev nD) :
    kernelRun0_A.sl.HS0_384 c arg2 harg2 arg3 harg3 arg4 harg4 x1 x2 x3 = stripes arg2 harg2 arg3 harg3 arg4 harg4 x1 x2 x3 := by
  sl_kernel_rfl
end
end Cert.GateUp
-- ==== Proof.Pieces.lean ====
/- What one grid step writes, as families over its eight row blocks: the products, the running minima and maxima,
   and at the last step the quantisation parameters. -/
module
public import proofs.«01_k».proof.Proof.Written
public import proofs.«01_k».proof.Proof.Gen.KernelIdeal.Frame
@[expose] public section
set_option maxRecDepth 65536
noncomputable section
namespace Cert.GateUp
open Idealize.ShloMosaic Idealize.ShloMosaic.TcCoe Idealize.ShloMosaic.Tactic Cert.KernelIdeal Cert.KernelIdeal.Gen

variable {F : FTy → Type} [FloatOps F]

theorem inbA (b : Fin 8) : ∀ a, (![256 * b.val, 0] : Fin 2 → Nat) a + S256x3072.size a ≤ S2048x3072.size a := by
  revert b; decide
theorem inbR (b : Fin 8) : ∀ a, (![256 * b.val, 0] : Fin 2 → Nat) a + S256x128.size a ≤ S2048x128.size a := by
  revert b; decide
theorem inbL (b : Fin 8) : ∀ a, (![0, 256 * b.val] : Fin 2 → Nat) a + S1x256.size a ≤ S1x2048.size a := by
  revert b; decide
theorem inbH (n : Fin 16) : ∀ a, (![n.val % 2, 256 * (n.val / 2), 0] : Fin 3 → Nat) a + S1x256x128.size a ≤ S2x2048x128.size a := by
  revert n; decide

/-- Rows `256 b …` of a 2048 × 128 buffer. -/
abbrev rowRect (b : Fin 8) : Rect S2048x128 := Rect.unit (s := S2048x128) ![256 * b.val, 0] S256x128.size (inbR b)

section
variable (arg1 : Memref sig .tc .vmem S2048x3072 .bf16) (harg1 : arg1.IsWhole)
  (arg5 : Memref sig .tc .vmem S2048x128 .f32) (harg5 : arg5.IsWhole)
  (x0 : Vec F S2048x3072 .bf16) (x4 : Vec F S2048x128 .f32) (W : Vec F S3072x512 .bf16)

/-- A row block of the activations as the step loads it. -/
def actLoad (b : Fin 8) : Vec F S256x3072 .bf16 :=
  View.readAt (Elt F) arg1.view (Rect.unit (s := S2048x3072) ![256 * b.val, 0] S256x3072.size (inbA b)).toLoadRect (harg1.unread x0)

/-- A row block of a 2048 × 128 array as the step loads it. -/
def rowLoad (m : Memref sig .tc .vmem S2048x128 .f32) (h : m.IsWhole) (x : Vec F S2048x128 .f32) (b : Fin 8) : Vec F S256x128 .f32 :=
  View.readAt (Elt F) m.view (rowRect b).toLoadRect (h.unread x)

/-- The products one step writes: for row block `n / 2`, the lower (`n % 2 = 0`) or upper 128 columns; newest first. -/
def prodPieces : List (View.Piece (Elt F) S2x2048x128 .f32) :=
  List.ofFn fun n : Fin 16 => ⟨Rect.unit (s := S2x2048x128) ![n.rev.val % 2, 256 * (n.rev.val / 2), 0] S1x256x128.size (inbH n.rev),
    match (⟨n.rev.val % 2, by omega⟩ : Fin 2) with
    | 0 => k0_pay1246 (actLoad arg1 harg1 x0 ⟨n.rev.val / 2, by omega⟩) W (rowLoad arg5 harg5 x4 ⟨n.rev.val / 2, by omega⟩)
    | 1 => k0_pay1248 (actLoad arg1 harg1 x0 ⟨n.rev.val / 2, by omega⟩) W (rowLoad arg5 harg5 x4 ⟨n.rev.val / 2, by omega⟩)⟩

/-- The running minimum of a row block after a step, from what it was. -/
def minStep (b : Fin 8) (old : Vec F S256x128 .f32) : Vec F S256x128 .f32 :=
  k0_pay1249 (actLoad arg1 harg1 x0 b) W (rowLoad arg5 harg5 x4 b) old
/-- The running maximum of a row block after a step, from what it was. -/
def maxStep (b : Fin 8) (old : Vec F S256x128 .f32) : Vec F S256x128 .f32 :=
  k0_pay1250 (actLoad arg1 harg1 x0 b) W (rowLoad arg5 harg5 x4 b) old
end

/-- What the first step writes to a running buffer, after `k` row blocks: zeros everywhere, then block by block the
    step's value of what was there. -/
def firstAcc (m : Memref sig .tc .vmem S2048x128 .f32) (st : Fin 8 → Vec F S256x128 .f32 → Vec F S256x128 .f32)
    (zero : Vec F S2048x128 .f32) : (k : Nat) → k ≤ 8 → List (View.Piece (Elt F) S2048x128 .f32)
  | 0, _ => [⟨Rect.unit (s := S2048x128) ![0, 0] S2048x128.size inb_S2048x128_S2048x128_0_0, zero⟩]
  | k + 1, h => ⟨rowRect ⟨k, h⟩, st ⟨k, h⟩ (m.view.readCov (firstAcc m st zero k (Nat.le_of_succ_le h)) (rowRect ⟨k, h⟩).toLoadRect)⟩
      :: firstAcc m st zero k (Nat.le_of_succ_le h)

/-- What a later step writes to a running buffer that held `xs`; newest first. -/
def nextAcc (m : Memref sig .tc .vmem S2048x128 .f32) (h : m.IsWhole) (st : Fin 8 → Vec F S256x128 .f32 → Vec F S256x128 .f32)
    (xs : Vec F S2048x128 .f32) : List (View.Piece (Elt F) S2048x128 .f32) :=
  List.ofFn fun n : Fin 8 => ⟨rowRect n.rev, st n.rev (rowLoad m h xs n.rev)⟩

/-- The quantisation scale and zero point of each row block, down a column and along a row. -/
def scaleCols (mn mx : Fin 8 → Vec F S256x128 .f32) : List (View.Piece (Elt F) S2048x128 .f32) :=
  List.ofFn fun n : Fin 8 => ⟨rowRect n.rev, k0_pay10 (mn n.rev) (mx n.rev)⟩
def zeroCols (mn mx : Fin 8 → Vec F S256x128 .f32) : List (View.Piece (Elt F) S2048x128 .f32) :=
  List.ofFn fun n : Fin 8 => ⟨rowRect n.rev, k0_pay11 (mn n.rev) (mx n.rev)⟩
def scaleRows (mn mx : Fin 8 → Vec F S256x128 .f32) : List (View.Piece (Elt F) S1x2048 .f32) :=
  List.ofFn fun n : Fin 8 => ⟨Rect.unit (s := S1x2048) ![0, 256 * n.rev.val] S1x256.size (inbL n.rev), k0_pay12 (mn n.rev) (mx n.rev)⟩
def zeroRows (mn mx : Fin 8 → Vec F S256x128 .f32) : List (View.Piece (Elt F) S1x2048 .i32) :=
  List.ofFn fun n : Fin 8 => ⟨Rect.unit (s := S1x2048) ![0, 256 * n.rev.val] S1x256.size (inbL n.rev), k0_pay13 (mn n.rev) (mx n.rev)⟩

section
variable (c : Dev nD) (i : grid0.Coords) (arg1 : Memref sig .tc .vmem S2048x3072 .bf16) (harg1 : arg1.IsWhole) (arg2 : Memref sig .tc .vmem S3072x256 .i8) (harg2 : arg2.IsWhole) (arg3 : Memref sig .tc .vmem S96x256 .f32) (harg3 : arg3.IsWhole) (arg4 : Memref sig .tc .vmem S96x256 .f32) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x2048 .f32) (harg9 : arg9.IsWhole) (arg10 : Memref sig .tc .vmem S1x2048 .i32) (harg10 : arg10.IsWhole) (arg11 : Memref sig .tc .vmem S3072x512 .bf16) (harg11 : arg11.IsWhole) (arg12 : Memref sig .tc .vmem S2048x128 .f32) (harg12 : arg12.IsWhole) (arg13 : Memref sig .tc .vmem S2048x128 .f32) (harg13 : arg13.IsWhole)
  (x0 : Vec F S2048x3072 .bf16) (x1 : Vec F S3072x256 .i8) (x2 : Vec F S96x256 .f32) (x3 : Vec F S96x256 .f32) (x4 : Vec F S2048x128 .f32) (xs1 xs2 : Vec F S2048x128 .f32)

/-- The weight block read back from the stripes. -/
def unpacked : Vec F S3072x512 .bf16 :=
  arg11.view.readCov (stripes arg2 harg2 arg3 harg3 arg4 harg4 x1 x2 x3)
    (Rect.unit (s := S3072x512) ![0, 0] S3072x512.size inb_S3072x512_S3072x512_0_0).toLoadRect

/-- The three cases of a step write the same products. -/
theorem prods_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1
      = prodPieces arg1 harg1 arg5 harg5 x0 x4 (unpacked arg2 harg2 arg3 harg3 arg4 harg4 arg11 x1 x2 x3) := by
  sl_kernel_rfl
theorem mins_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.1
      = firstAcc arg12 (minStep arg1 harg1 arg5 harg5 x0 x4 (unpacked arg2 harg2 arg3 harg3 arg4 harg4 arg11 x1 x2 x3)) k0_pay1241 8 (Nat.le_refl 8) := by
  sl_kernel_rfl
theorem maxs_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.1
      = firstAcc arg13 (maxStep arg1 harg1 arg5 harg5 x0 x4 (unpacked arg2 harg2 arg3 harg3 arg4 harg4 arg11 x1 x2 x3)) k0_pay1242 8 (Nat.le_refl 8) := by
  sl_kernel_rfl

theorem prods_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2).1
      = prodPieces arg1 harg1 arg5 harg5 x0 x4 (unpacked arg2 harg2 arg3 harg3 arg4 harg4 arg11 x1 x2 x3) := by
  sl_kernel_rfl
theorem mins_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2).2.2.2.2.2.1
      = nextAcc arg12 harg12 (minStep arg1 harg1 arg5 harg5 x0 x4 (unpacked arg2 harg2 arg3 harg3 arg4 harg4 arg11 x1 x2 x3)) xs1 := by
  sl_kernel_rfl
theorem maxs_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2).2.2.2.2.2.2.1
      = nextAcc arg13 harg13 (maxStep arg1 harg1 arg5 harg5 x0 x4 (unpacked arg2 harg2 arg3 harg3 arg4 harg4 arg11 x1 x2 x3)) xs2 := by
  sl_kernel_rfl

/-- The running buffers read back at the last step, a row block. -/
def accRead (m : Memref sig .tc .vmem S2048x128 .f32) (L : List (View.Piece (Elt F) S2048x128 .f32)) (b : Fin 8) : Vec F S256x128 .f32 :=
  m.view.readCov L (rowRect b).toLoadRect

theorem prods_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2).1
      = prodPieces arg1 harg1 arg5 harg5 x0 x4 (unpacked arg2 harg2 arg3 harg3 arg4 harg4 arg11 x1 x2 x3) := by
  sl_kernel_rfl
theorem scaleCols_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2).2.1
      = scaleCols
        (accRead arg12 (nextAcc arg12 harg12 (minStep arg1 harg1 arg5 harg5 x0 x4 (unpacked arg2 harg2 arg3 harg3 arg4 harg4 arg11 x1 x2 x3)) xs1))
        (accRead arg13 (nextAcc arg13 harg13 (maxStep arg1 harg1 arg5 harg5 x0 x4 (unpacked arg2 harg2 arg3 harg3 arg4 harg4 arg11 x1 x2 x3)) xs2)) := by
  sl_kernel_rfl
theorem zeroCols_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2).2.2.1
      = zeroCols
        (accRead arg12 (nextAcc arg12 harg12 (minStep arg1 harg1 arg5 harg5 x0 x4 (unpacked arg2 harg2 arg3 harg3 arg4 harg4 arg11 x1 x2 x3)) xs1))
        (accRead arg13 (nextAcc arg13 harg13 (maxStep arg1 harg1 arg5 harg5 x0 x4 (unpacked arg2 harg2 arg3 harg3 arg4 harg4 arg11 x1 x2 x3)) xs2)) := by
  sl_kernel_rfl
theorem scaleRows_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2).2.2.2.1
      = scaleRows
        (accRead arg12 (nextAcc arg12 harg12 (minStep arg1 harg1 arg5 harg5 x0 x4 (unpacked arg2 harg2 arg3 harg3 arg4 harg4 arg11 x1 x2 x3)) xs1))
        (accRead arg13 (nextAcc arg13 harg13 (maxStep arg1 harg1 arg5 harg5 x0 x4 (unpacked arg2 harg2 arg3 harg3 arg4 harg4 arg11 x1 x2 x3)) xs2)) := by
  sl_kernel_rfl
theorem zeroRows_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2).2.2.2.2.1
      = zeroRows
        (accRead arg12 (nextAcc arg12 harg12 (minStep arg1 harg1 arg5 harg5 x0 x4 (unpacked arg2 harg2 arg3 harg3 arg4 harg4 arg11 x1 x2 x3)) xs1))
        (accRead arg13 (nextAcc arg13 harg13 (maxStep arg1 harg1 arg5 harg5 x0 x4 (unpacked arg2 harg2 arg3 harg3 arg4 harg4 arg11 x1 x2 x3)) xs2)) := by
  sl_kernel_rfl
end
end Cert.GateUp
-- ==== Proof.StepValue.lean ====
/- The values one grid step leaves: the products of its block, the running minima and maxima, the quantisation
   parameters of a row. -/
module
public import proofs.«01_k».proof.Proof.Pieces
public import Idealize.ShloMosaic.Lib.Pointwise
public import Idealize.ShloMosaic.Lib.Pipeline.ValueKit
public import Idealize.ShloMosaic.Lib.WholeRead
@[expose] public section
noncomputable section
namespace Cert.GateUp
open Idealize.ShloMosaic Cert.KernelIdeal Cert.KernelIdeal.Gen

/-- A row of activations times a column of the weight block. -/
def dotAt (x0 : Vec Ideal S2048x3072 .bf16) (W : Vec Ideal S3072x512 .bf16) (R : Fin 2048) (c : Fin 512) : EReal :=
  ∑ k : Fin 3072, x0 (ix2 R k) * W (ix2 k c)

/-- The gated product of a scaled gate and a scaled up value. -/
def swiglu (gate up : EReal) : EReal := up * gate * Ideal.logistic gate

/-- What a step leaves at row `R`, column half `j`, lane `l`: columns 0–255 of the weight block are the gate's,
    256–511 the up values'. -/
def prodAt (x0 : Vec Ideal S2048x3072 .bf16) (W : Vec Ideal S3072x512 .bf16) (x4 : Vec Ideal S2048x128 .f32)
    (R : Fin 2048) (j : Fin 2) (l : Fin 128) : EReal :=
  swiglu (dotAt x0 W R ⟨128 * j.val + l.val, by omega⟩ * x4 (ix2 R l))
    (dotAt x0 W R ⟨256 + 128 * j.val + l.val, by omega⟩ * x4 (ix2 R l))

/-- The activation rows of a row block. -/
def actRows (x0 : Vec Ideal S2048x3072 .bf16) (b : Fin 8) : Vec Ideal S256x3072 .bf16 :=
  fun i => x0 (ix2 ⟨256 * b.val + (i 0).val, by have h : (i 0).val < 256 := (i 0).isLt; omega⟩ (i 1))
/-- The rows of a row block of a 2048 × 128 array. -/
def rowsOf (x : Vec Ideal S2048x128 .f32) (b : Fin 8) : Vec Ideal S256x128 .f32 :=
  fun i => x (ix2 ⟨256 * b.val + (i 0).val, by have h : (i 0).val < 256 := (i 0).isLt; omega⟩ (i 1))

theorem rowRect_idx (b : Fin 8) (j : (rowRect b).toLoadRect.shape.Idx) (x : Vec Ideal S2048x128 .f32) :
    x ((rowRect b).toLoadRect.idx j) = rowsOf x b j := by
  unfold rowsOf
  congr 1
  funext a
  match a with
  | ⟨0, _⟩ => exact Fin.ext (by show 256 * b.val + 1 * (j 0).val = _; rw [Nat.one_mul]; rfl)
  | ⟨1, _⟩ => exact Fin.ext (by show 0 + 1 * (j 1).val = _; rw [Nat.one_mul, Nat.zero_add]; rfl)

theorem rowRect_emb (b : Fin 8) (j : S256x128.Idx) (x : Vec Ideal S2048x128 .f32) :
    x ((rowRect b).emb j) = rowsOf x b j := by
  unfold rowsOf
  congr 1
  funext a
  match a with
  | ⟨0, _⟩ => exact Fin.ext (by show 256 * b.val + 1 * (j 0).val = _; rw [Nat.one_mul]; rfl)
  | ⟨1, _⟩ => exact Fin.ext (by show 0 + 1 * (j 1).val = _; rw [Nat.one_mul, Nat.zero_add]; rfl)

section
variable (arg1 : Memref sig .tc .vmem S2048x3072 .bf16) (harg1 : arg1.IsWhole)
  (arg5 : Memref sig .tc .vmem S2048x128 .f32) (harg5 : arg5.IsWhole)
  (x0 : Vec Ideal S2048x3072 .bf16) (x4 : Vec Ideal S2048x128 .f32) (W : Vec Ideal S3072x512 .bf16)

theorem actLoad_eq (b : Fin 8) : actLoad (F := Ideal) arg1 harg1 x0 b = actRows x0 b := by
  funext j
  unfold actLoad actRows
  rw [Memref.IsWhole.readAt_unread]
  congr 1
  funext a
  match a with
  | ⟨0, _⟩ => exact Fin.ext (by show 256 * b.val + 1 * (j 0).val = _; rw [Nat.one_mul]; rfl)
  | ⟨1, _⟩ => exact Fin.ext (by show 0 + 1 * (j 1).val = _; rw [Nat.one_mul, Nat.zero_add]; rfl)

theorem rowLoad_eq (m : Memref sig .tc .vmem S2048x128 .f32) (h : m.IsWhole) (x : Vec Ideal S2048x128 .f32) (b : Fin 8) :
    rowLoad (F := Ideal) m h x b = rowsOf x b := by
  funext j
  unfold rowLoad
  rw [Memref.IsWhole.readAt_unread]
  exact rowRect_idx b j x

theorem accRead_eq (m : Memref sig .tc .vmem S2048x128 .f32) (L : List (View.Piece (Elt Ideal) S2048x128 .f32)) (b : Fin 8) :
    accRead (F := Ideal) m L b = rowsOf (View.canon L) b := by
  funext j
  unfold accRead
  rw [View.readCov_eq_canon']
  exact rowRect_idx b j _

/-! ## The products -/

theorem low_at (b : Fin 8) (r : Fin 256) (l : Fin 128) :
    k0_pay1245 (F := Ideal) (actRows x0 b) W (rowsOf x4 b) (ix2 r l) = prodAt x0 W x4 ⟨256 * b.val + r.val, by omega⟩ 0 l := by
  pointwise [k0_pay1245, k0_pay1243, k0_pay1244, prodAt, swiglu, dotAt, actRows, rowsOf]

theorem up_at (b : Fin 8) (r : Fin 256) (l : Fin 128) :
    k0_pay1247 (F := Ideal) (actRows x0 b) W (rowsOf x4 b) (ix2 r l) = prodAt x0 W x4 ⟨256 * b.val + r.val, by omega⟩ 1 l := by
  pointwise [k0_pay1247, k0_pay1243, k0_pay1244, prodAt, swiglu, dotAt, actRows, rowsOf]

/-- The block of products one step leaves. -/
def prodBlock : Vec Ideal S2x2048x128 .f32 := fun y => prodAt x0 W x4 (y 1) (y 0) (y 2)

/-- One stored piece. -/
theorem piece_at (j : Fin 2) (b : Fin 8) (a : Fin 1) (r : Fin 256) (l : Fin 128) :
    (match j with
      | 0 => k0_pay1246 (F := Ideal) (actLoad arg1 harg1 x0 b) W (rowLoad arg5 harg5 x4 b)
      | 1 => k0_pay1248 (F := Ideal) (actLoad arg1 harg1 x0 b) W (rowLoad arg5 harg5 x4 b) : Vec Ideal S1x256x128 .f32) (ix3 a r l)
      = prodAt x0 W x4 ⟨256 * b.val + r.val, by omega⟩ j l := by
  rw [actLoad_eq, rowLoad_eq]
  match j with
  | 0 =>
    refine Eq.trans ?_ (low_at x0 x4 W b r l)
    pointwise [k0_pay1246]
  | 1 =>
    refine Eq.trans ?_ (up_at x0 x4 W b r l)
    pointwise [k0_pay1248]

theorem canon_prods : View.canon (prodPieces (F := Ideal) arg1 harg1 arg5 harg5 x0 x4 W) = prodBlock x0 x4 W := by
  funext y
  have hy0 : (y 0).val < 2 := (y 0).isLt
  have hy1 : (y 1).val < 2048 := (y 1).isLt
  have hy2 : (y 2).val < 128 := (y 2).isLt
  refine View.canon_ofFn_unit_eq_of_forall (S := S2x2048x128) (Val := Elt Ideal) (e := .f32)
    (fun n : Fin 16 => ![n.rev.val % 2, 256 * (n.rev.val / 2), 0]) S1x256x128.size (fun n => inbH n.rev) _ y _ ?_ ?_
  · refine ⟨(⟨2 * ((y 1).val / 256) + (y 0).val, by omega⟩ : Fin 16).rev, ?_⟩
    rw [Fin.rev_rev]
    intro a
    match a with
    | ⟨0, _⟩ => show (2 * ((y 1).val / 256) + (y 0).val) % 2 ≤ (y 0).val ∧ (y 0).val < (2 * ((y 1).val / 256) + (y 0).val) % 2 + 1; omega
    | ⟨1, _⟩ => show 256 * ((2 * ((y 1).val / 256) + (y 0).val) / 2) ≤ (y 1).val ∧ (y 1).val < 256 * ((2 * ((y 1).val / 256) + (y 0).val) / 2) + 256; omega
    | ⟨2, _⟩ => show 0 ≤ (y 2).val ∧ (y 2).val < 0 + 128; omega
  · intro n' x hx
    have h0 : (y 0).val = n'.rev.val % 2 + (x 0).val := hx 0
    have h1 : (y 1).val = 256 * (n'.rev.val / 2) + (x 1).val := hx 1
    have h2 : (y 2).val = 0 + (x 2).val := hx 2
    have hn : n'.rev.val < 16 := n'.rev.isLt
    have x0lt : (x 0).val < 1 := (x 0).isLt
    have x1lt : (x 1).val < 256 := (x 1).isLt
    have x2lt : (x 2).val < 128 := (x 2).isLt
    have e1 : (⟨256 * (n'.rev.val / 2) + (x 1).val, by omega⟩ : Fin 2048) = y 1 := Fin.ext h1.symm
    have e2 : (⟨(x 2).val, x2lt⟩ : Fin 128) = y 2 := Fin.ext (by show (x 2).val = (y 2).val; omega)
    have ex : x = ix3 (n0 := 1) (n1 := 256) (n2 := 128) (x 0) (x 1) (x 2) := by
      funext a
      match a with
      | ⟨0, _⟩ => rfl
      | ⟨1, _⟩ => rfl
      | ⟨2, _⟩ => rfl
    have ej : (⟨n'.rev.val % 2, by omega⟩ : Fin 2) = y 0 := Fin.ext (by show n'.rev.val % 2 = (y 0).val; omega)
    rw [ex]
    refine (piece_at arg1 harg1 arg5 harg5 x0 x4 W ⟨n'.rev.val % 2, by omega⟩ ⟨n'.rev.val / 2, by omega⟩ (x 0) (x 1) (x 2)).trans ?_
    show _ = prodAt x0 W x4 (y 1) (y 0) (y 2)
    rw [← ej, ← e1, ← e2]
    rfl

/-! ## The running minima and maxima -/

/-- The running minimum after a step. -/
def minNext (xs : Vec Ideal S2048x128 .f32) : Vec Ideal S2048x128 .f32 :=
  fun y => min (min (xs y) (prodAt x0 W x4 (y 0) 0 (y 1))) (prodAt x0 W x4 (y 0) 1 (y 1))
/-- The running maximum after a step. -/
def maxNext (xs : Vec Ideal S2048x128 .f32) : Vec Ideal S2048x128 .f32 :=
  fun y => max (max (xs y) (prodAt x0 W x4 (y 0) 0 (y 1))) (prodAt x0 W x4 (y 0) 1 (y 1))

theorem minStep_eq (b : Fin 8) (xs : Vec Ideal S2048x128 .f32) :
    minStep (F := Ideal) arg1 harg1 arg5 harg5 x0 x4 W b (rowsOf xs b) = rowsOf (minNext x0 x4 W xs) b := by
  unfold minStep
  rw [actLoad_eq, rowLoad_eq]
  funext j
  rw [← ix2_eta (n0 := 256) (n1 := 128) j]
  have e := low_at x0 x4 W b (j 0) (j 1)
  have e' := up_at x0 x4 W b (j 0) (j 1)
  pointwise [k0_pay1249]
  rw [ix2_eta] at e e'
  rw [e, e']
  rfl

theorem maxStep_eq (b : Fin 8) (xs : Vec Ideal S2048x128 .f32) :
    maxStep (F := Ideal) arg1 harg1 arg5 harg5 x0 x4 W b (rowsOf xs b) = rowsOf (maxNext x0 x4 W xs) b := by
  unfold maxStep
  rw [actLoad_eq, rowLoad_eq]
  funext j
  rw [← ix2_eta (n0 := 256) (n1 := 128) j]
  have e := low_at x0 x4 W b (j 0) (j 1)
  have e' := up_at x0 x4 W b (j 0) (j 1)
  pointwise [k0_pay1250]
  rw [ix2_eta] at e e'
  rw [e, e']
  rfl
end

/-- Row blocks written one by one hold the array whose rows they are. -/
theorem canon_rows (P : Fin 8 → Vec Ideal S256x128 .f32) (g : Vec Ideal S2048x128 .f32) (h : ∀ b, P b = rowsOf g b) :
    View.canon (List.ofFn fun n : Fin 8 => (⟨rowRect n.rev, P n.rev⟩ : View.Piece (Elt Ideal) S2048x128 .f32)) = g := by
  funext y
  have hy0 : (y 0).val < 2048 := (y 0).isLt
  have hy1 : (y 1).val < 128 := (y 1).isLt
  refine View.canon_ofFn_unit_eq_of_forall (S := S2048x128) (Val := Elt Ideal) (e := .f32)
    (fun n : Fin 8 => ![256 * n.rev.val, 0]) S256x128.size (fun n => inbR n.rev) (fun n => P n.rev) y _ ?_ ?_
  · refine ⟨(⟨(y 0).val / 256, by omega⟩ : Fin 8).rev, ?_⟩
    rw [Fin.rev_rev]
    intro a
    match a with
    | ⟨0, _⟩ => show 256 * ((y 0).val / 256) ≤ (y 0).val ∧ (y 0).val < 256 * ((y 0).val / 256) + 256; omega
    | ⟨1, _⟩ => show 0 ≤ (y 1).val ∧ (y 1).val < 0 + 128; omega
  · intro n' x hx
    generalize hn : n'.rev = n at hx ⊢
    have h0 : (y 0).val = 256 * n.val + (x 0).val := hx 0
    have h1 : (y 1).val = 0 + (x 1).val := hx 1
    show P n x = _
    rw [h]
    unfold rowsOf
    congr 1
    funext a
    match a with
    | ⟨0, _⟩ => exact Fin.ext h0.symm
    | ⟨1, _⟩ => exact Fin.ext ((h1.trans (Nat.zero_add _)).symm)

/-- A later step's running buffer. -/
theorem canon_next (m : Memref sig .tc .vmem S2048x128 .f32) (h : m.IsWhole)
    (st : Fin 8 → Vec Ideal S256x128 .f32 → Vec Ideal S256x128 .f32) (xs g : Vec Ideal S2048x128 .f32)
    (hst : ∀ b, st b (rowsOf xs b) = rowsOf g b) :
    View.canon (nextAcc (F := Ideal) m h st xs) = g :=
  canon_rows (fun b => st b (rowLoad m h xs b)) g (fun b => by rw [rowLoad_eq]; exact hst b)

theorem first_at (m : Memref sig .tc .vmem S2048x128 .f32)
    (st : Fin 8 → Vec Ideal S256x128 .f32 → Vec Ideal S256x128 .f32) (z g : Vec Ideal S2048x128 .f32)
    (hst : ∀ b, st b (rowsOf z b) = rowsOf g b) (k : Nat) (hk : k ≤ 8) (y : S2048x128.Idx) :
    View.canon (firstAcc (F := Ideal) m st z k hk) y = if (y 0).val < 256 * k then g y else z y := by
  induction k generalizing y with
  | zero =>
    rw [firstAcc]
    rw [View.canon_cons_unit_lit _ _ _ (fun a => by match a with | ⟨0, _⟩ => rfl | ⟨1, _⟩ => rfl)]
    simp
  | succ k ih =>
    have ih' := ih (Nat.le_of_succ_le hk)
    have hr : m.view.readCov (firstAcc (F := Ideal) m st z k (Nat.le_of_succ_le hk)) (rowRect ⟨k, hk⟩).toLoadRect
        = rowsOf z ⟨k, hk⟩ := by
      rw [View.readCov_eq_canon']
      funext j
      have hj : (((rowRect ⟨k, hk⟩).toLoadRect.idx j) 0).val = 256 * k + 1 * (j 0).val := rfl
      rw [ih', if_neg (by rw [hj]; omega)]
      exact rowRect_idx _ _ _
    rw [firstAcc, hr, hst]
    have hy1 : (y 1).val < 128 := (y 1).isLt
    by_cases hm : 256 * k ≤ (y 0).val ∧ (y 0).val < 256 * k + 256
    · have hd : (y 0).val - 256 * k < 256 := by omega
      have hx : (rowRect ⟨k, hk⟩).emb (ix2 (n0 := 256) (n1 := 128) ⟨(y 0).val - 256 * k, hd⟩ ⟨(y 1).val, hy1⟩) = y := by
        funext a
        match a with
        | ⟨0, _⟩ => exact Fin.ext (by show 256 * k + 1 * ((y 0).val - 256 * k) = (y 0).val; omega)
        | ⟨1, _⟩ => exact Fin.ext (by show 0 + 1 * (y 1).val = (y 1).val; omega)
      have hlt : (y 0).val < 256 * (k + 1) := by omega
      rw [if_pos hlt, ← hx, rowRect_emb _ _ g]
      exact View.canon_cons_emb _ _ _ _
    · have hn : y ∉ (rowRect ⟨k, hk⟩).set := fun hb => hm ((Rect.mem_set_unit.1 hb) 0)
      rw [View.canon_cons_of_not_mem (⟨rowRect ⟨k, hk⟩, rowsOf g ⟨k, hk⟩⟩ : View.Piece (Elt Ideal) S2048x128 .f32) _ hn, ih']
      by_cases hlt : (y 0).val < 256 * k
      · rw [if_pos hlt, if_pos (by omega)]
      · rw [if_neg hlt, if_neg (by omega)]

/-- The first step's running buffer: the step's value of zeros. -/
theorem canon_first (m : Memref sig .tc .vmem S2048x128 .f32)
    (st : Fin 8 → Vec Ideal S256x128 .f32 → Vec Ideal S256x128 .f32) (z g : Vec Ideal S2048x128 .f32)
    (hst : ∀ b, st b (rowsOf z b) = rowsOf g b) :
    View.canon (firstAcc (F := Ideal) m st z 8 (Nat.le_refl 8)) = g := by
  funext y
  have hy0 : (y 0).val < 2048 := (y 0).isLt
  rw [first_at m st z g hst, if_pos (by omega)]

end Cert.GateUp
-- ==== Proof.StepParams.lean ====
/- The quantisation parameters the last grid step leaves, from the running minima and maxima. -/
module
public import proofs.«01_k».proof.Proof.StepValue
@[expose] public section
noncomputable section
namespace Cert.GateUp
open Idealize.ShloMosaic Cert.KernelIdeal Cert.KernelIdeal.Gen

/-- The least entry of a row over its 128 lanes. -/
def rowMin (mn : Vec Ideal S2048x128 .f32) (R : Fin 2048) : EReal :=
  Finset.fold min (Ideal.ofBits .f32 2139095040#32) (fun l : Fin 128 => mn (ix2 R l)) Finset.univ
/-- The greatest entry of a row over its 128 lanes. -/
def rowMax (mx : Vec Ideal S2048x128 .f32) (R : Fin 2048) : EReal :=
  Finset.fold max (Ideal.ofBits .f32 4286578688#32) (fun l : Fin 128 => mx (ix2 R l)) Finset.univ

/-- The scale of a range. -/
def scaleOf (lo hi : EReal) : EReal :=
  if hi - lo = 0 then 1 else Ideal.div (hi - lo) (Ideal.ofBits .f32 1132396544#32)
/-- The zero point of a range. -/
def zeroOf (lo hi : EReal) : EReal :=
  min (Ideal.ofBits .f32 1123942400#32) (max (Ideal.ofBits .f32 3271557120#32)
    (Ideal.ofBits .f32 3271557120#32 - Ideal.liftRound Ideal.roundHalfEven (Ideal.div lo (scaleOf lo hi))))

theorem scale_at (mn mx : Vec Ideal S2048x128 .f32) (b : Fin 8) (r : Fin 256) (l : Fin 128) :
    k0_pay10 (F := Ideal) (rowsOf mn b) (rowsOf mx b) (ix2 r l)
      = scaleOf (rowMin mn ⟨256 * b.val + r.val, by omega⟩) (rowMax mx ⟨256 * b.val + r.val, by omega⟩) := by
  pointwise [k0_pay10, k0_pay9, k0_pay8, scaleOf, rowMin, rowMax, rowsOf]

theorem zero_at (mn mx : Vec Ideal S2048x128 .f32) (b : Fin 8) (r : Fin 256) (l : Fin 128) :
    k0_pay11 (F := Ideal) (rowsOf mn b) (rowsOf mx b) (ix2 r l)
      = zeroOf (rowMin mn ⟨256 * b.val + r.val, by omega⟩) (rowMax mx ⟨256 * b.val + r.val, by omega⟩) := by
  pointwise [k0_pay11, k0_pay9, k0_pay8, zeroOf, scaleOf, rowMin, rowMax, rowsOf]

theorem scale_row_at (mn mx : Vec Ideal S256x128 .f32) (a : Fin 1) (r : Fin 256) :
    k0_pay12 (F := Ideal) mn mx (ix2 a r) = k0_pay10 (F := Ideal) mn mx (ix2 r ⟨0, by decide⟩) := by
  pointwise [k0_pay12]

theorem zero_row_at (mn mx : Vec Ideal S256x128 .f32) (a : Fin 1) (r : Fin 256) :
    k0_pay13 (F := Ideal) mn mx (ix2 a r) = Ideal.fptosi 32 (k0_pay11 (F := Ideal) mn mx (ix2 r ⟨0, by decide⟩)) := by
  pointwise [k0_pay13]
  rfl

/-- The scales down the columns. -/
theorem canon_scaleCols (mn mx : Vec Ideal S2048x128 .f32) :
    View.canon (scaleCols (F := Ideal) (rowsOf mn) (rowsOf mx))
      = fun y => scaleOf (rowMin mn (y 0)) (rowMax mx (y 0)) := by
  refine canon_rows (fun b => k0_pay10 (F := Ideal) (rowsOf mn b) (rowsOf mx b)) _ fun b => ?_
  funext j
  rw [← ix2_eta (n0 := 256) (n1 := 128) j]
  exact scale_at mn mx b (j 0) (j 1)

/-- The zero points down the columns. -/
theorem canon_zeroCols (mn mx : Vec Ideal S2048x128 .f32) :
    View.canon (zeroCols (F := Ideal) (rowsOf mn) (rowsOf mx))
      = fun y => zeroOf (rowMin mn (y 0)) (rowMax mx (y 0)) := by
  refine canon_rows (fun b => k0_pay11 (F := Ideal) (rowsOf mn b) (rowsOf mx b)) _ fun b => ?_
  funext j
  rw [← ix2_eta (n0 := 256) (n1 := 128) j]
  exact zero_at mn mx b (j 0) (j 1)

/-- Blocks of 256 entries written one by one along a row hold the row. -/
theorem canon_lanes {e : EltTy} (P : Fin 8 → Vec Ideal S1x256 e) (g : Fin 2048 → Elt Ideal e)
    (h : ∀ (b : Fin 8) (a : Fin 1) (r : Fin 256), P b (ix2 a r) = g ⟨256 * b.val + r.val, by omega⟩) :
    View.canon (List.ofFn fun n : Fin 8 => (⟨Rect.unit (s := S1x2048) ![0, 256 * n.rev.val] S1x256.size (inbL n.rev), P n.rev⟩ : View.Piece (Elt Ideal) S1x2048 e))
      = fun y => g (y 1) := by
  funext y
  have hy0 : (y 0).val < 1 := (y 0).isLt
  have hy1 : (y 1).val < 2048 := (y 1).isLt
  refine View.canon_ofFn_unit_eq_of_forall (S := S1x2048) (Val := Elt Ideal) (e := e)
    (fun n : Fin 8 => ![0, 256 * n.rev.val]) S1x256.size (fun n => inbL n.rev) (fun n => P n.rev) y _ ?_ ?_
  · refine ⟨(⟨(y 1).val / 256, by omega⟩ : Fin 8).rev, ?_⟩
    rw [Fin.rev_rev]
    intro a
    match a with
    | ⟨0, _⟩ => show 0 ≤ (y 0).val ∧ (y 0).val < 0 + 1; omega
    | ⟨1, _⟩ => show 256 * ((y 1).val / 256) ≤ (y 1).val ∧ (y 1).val < 256 * ((y 1).val / 256) + 256; omega
  · intro n' x hx
    generalize hn : n'.rev = n at hx ⊢
    have h1 : (y 1).val = 256 * n.val + (x 1).val := hx 1
    have ex : x = ix2 (n0 := 1) (n1 := 256) (x 0) (x 1) := by
      funext a
      match a with
      | ⟨0, _⟩ => rfl
      | ⟨1, _⟩ => rfl
    show P n x = _
    rw [ex]
    refine (h n (x 0) (x 1)).trans ?_
    congr 1
    exact Fin.ext h1.symm

/-- The scales along a row. -/
theorem canon_scaleRows (mn mx : Vec Ideal S2048x128 .f32) :
    View.canon (scaleRows (F := Ideal) (rowsOf mn) (rowsOf mx))
      = fun y => scaleOf (rowMin mn (y 1)) (rowMax mx (y 1)) := by
  refine canon_lanes (e := .f32) (fun b => k0_pay12 (F := Ideal) (rowsOf mn b) (rowsOf mx b))
    (fun R => scaleOf (rowMin mn R) (rowMax mx R)) fun b a r => ?_
  rw [scale_row_at, scale_at]

/-- The zero points along a row. -/
theorem canon_zeroRows (mn mx : Vec Ideal S2048x128 .f32) :
    View.canon (zeroRows (F := Ideal) (rowsOf mn) (rowsOf mx))
      = fun y => Ideal.fptosi 32 (zeroOf (rowMin mn (y 1)) (rowMax mx (y 1))) := by
  refine canon_lanes (e := .i32) (fun b => k0_pay13 (F := Ideal) (rowsOf mn b) (rowsOf mx b))
    (fun R => Ideal.fptosi 32 (zeroOf (rowMin mn R) (rowMax mx R))) fun b a r => ?_
  rw [zero_row_at, zero_at]

end Cert.GateUp
-- ==== Proof.Nibble.lean ====
/- Bytes, packed words and signed nibbles. -/
module
public import proofs.«01_k».proof.Proof.Stripes
public import Idealize.ShloMosaic.Lib.BitcastFour
public import Idealize.ShloMosaic.Lib.ValueIdx
@[expose] public section
noncomputable section
namespace Cert.GateUp
open Idealize.ShloMosaic Idealize.ShloMosaic.ValueIdx Cert.KernelIdeal Cert.KernelIdeal.Gen

/-- The signed value of a byte's low nibble (`hi = 0`) or high nibble (`hi = 1`). -/
def nib (hi : Fin 2) (b : BitVec 8) : Int :=
  match hi with
  | 0 => ((b <<< 4).sshiftRight 4).toInt
  | 1 => (b.sshiftRight 4).toInt

/-- A byte's low or high nibble in the high four bits, zeros below. -/
def topBits (hi : Fin 2) (b : BitVec 8) : BitVec 8 :=
  match hi with
  | 0 => (b <<< 4) &&& 0xF0#8
  | 1 => b &&& 0xF0#8

/-- A nibble in the high four bits of a byte counts sixteen times its signed value. -/
theorem topBits_toInt (hi : Fin 2) (b : BitVec 8) : (topBits hi b).toInt = nib hi b * 16 := by
  revert hi b; decide +kernel

/-- A bit of a word with its bytes' nibbles moved to the top is the bit of that byte's nibble. -/
theorem masked_bit (hi : Fin 2) (w : BitVec 32) (b : BitVec 8) (m : Fin 4)
    (hb : ∀ q, q < 8 → w.getLsbD (8 * m.val + q) = b.getLsbD q) (q : Nat) (hq : q < 8) :
    (match hi with
      | 0 => IntOp.andi (IntOp.shli .vector w 4#32) 4042322160#32
      | 1 => IntOp.andi w 4042322160#32).getLsbD (8 * m.val + q) = (topBits hi b).getLsbD q := by
  have hM : (4042322160#32).getLsbD (8 * m.val + q) = decide (4 ≤ q) := by
    revert m; intro m _; fin_cases m <;> interval_cases q <;> rfl
  have hF : (0xF0#8).getLsbD q = decide (4 ≤ q) := by interval_cases q <;> rfl
  match hi with
  | 0 =>
    have hs : IntOp.shli .vector w 4#32 = w <<< 4 := rfl
    simp only [IntOp.andi, topBits, hs, BitVec.getLsbD_and, hM, hF, BitVec.getLsbD_shiftLeft]
    by_cases h4 : 4 ≤ q
    · have h1 := hb (q - 4) (by omega)
      rw [show 8 * m.val + (q - 4) = 8 * m.val + q - 4 by omega] at h1
      rw [h1]
      simp [h4, hq, show 8 * m.val + q < 32 by omega, show ¬ 8 * m.val + q < 4 by omega, show ¬ q < 4 by omega]
    · simp [h4]
  | 1 => simp only [IntOp.andi, topBits, BitVec.getLsbD_and, hM, hF, hb q hq]

/-- A byte of masked words is the nibble, moved to the top, of the byte the words hold there. -/
theorem masked_byte (hi : Fin 2) (w : IVec S64x128 32) (R : Fin 256) (l : Fin 128) (b : BitVec 8)
    (hb : ∀ q, q < 8 → (w (ix2 ⟨R.val / 4, by omega⟩ l)).getLsbD (8 * (R.val % 4) + q) = b.getLsbD q) :
    bitcast S256x128 8 (masked hi w) bitcasts_S64x128_w32_S256x128_w8 (ix2 R l) = topBits hi b := by
  apply BitVec.eq_of_getLsbD_eq
  intro q hq
  rw [bitcast_getLsbD _ _ _ q hq (by decide)]
  have hrow : S256x128.row (ix2 R l) = R.val := rfl
  have e1 : (S256x128.row (ix2 R l) * 8 + q) / 32 = R.val / 4 := by rw [hrow]; omega
  have e2 : (S256x128.row (ix2 R l) * 8 + q) % 32 = 8 * (R.val % 4) + q := by rw [hrow]; omega
  rw [e2]
  have hi' : ∀ hp, (bitcasts_S64x128_w32_S256x128_w8).srcIdx (ix2 R l) ((S256x128.row (ix2 R l) * 8 + q) / 32) hp
      = (ix2 ⟨R.val / 4, by omega⟩ l : S64x128.Idx) := by
    intro hp
    funext c
    match c with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by show ¬ 1 + 2 = 2; omega))
  rw [hi']
  rw [← masked_bit hi (w (ix2 ⟨R.val / 4, by omega⟩ l)) b ⟨R.val % 4, by omega⟩ hb q hq]
  match hi with
  | 0 => rfl
  | 1 => rfl

/-- A bit of a packed word is a bit of the byte it was packed from. -/
theorem packed_bit (x : IVec S256x128 8) (R : Fin 256) (l : Fin 128) (q : Nat) (hq : q < 8) :
    (bitcast S64x128 32 x bitcasts_S256x128_w8_S64x128_w32 (ix2 ⟨R.val / 4, by omega⟩ l)).getLsbD (8 * (R.val % 4) + q)
      = (x (ix2 R l)).getLsbD q := by
  rw [bitcast_8_32_getLsbD_ix2 x _ _ l _ (by omega) R (by show R.val = 4 * (R.val / 4) + _; omega)]
  congr 1; omega

end Cert.GateUp
-- ==== Proof.StripeValue.lean ====
/- The value of one unpacked stripe: signed nibble times group scale, the columns taken two apart. -/
module
public import proofs.«01_k».proof.Proof.Nibble
public import Idealize.ShloMosaic.Lib.Pointwise
public import Idealize.ShloMosaic.Lib.Pipeline.Value
@[expose] public section
noncomputable section
namespace Cert.GateUp
open Idealize.ShloMosaic hiding ix1 ix2 ix3
open Idealize.ShloMosaic.ValueIdx Cert.KernelIdeal Cert.KernelIdeal.Gen

/-! ## The lane gathers -/

theorem wrap_even (l : Fin 128) :
    let x : IVec ⟨1, ![128]⟩ 32 := fun i => BitVec.ofNat 32 (i 0).val
    (lowHalf x (ix1 l) = if l.val < 64 then 1 else 0) ∧
    (wrapLane (evenSrc x) (ix1 l)).toNat % 128 = (if l.val < 64 then 2 * l.val else 2 * l.val - 127) ∧
    (wrapLane (oddSrc x) (ix1 l)).toNat % 128 = (if l.val < 64 then 2 * l.val + 1 else 2 * l.val - 128) := by
  revert l; decide +kernel

theorem lane64_at (a : Fin 64) (l : Fin 128) :
    lane64 (ix2 a l) = BitVec.ofNat 32 l.val := by
  unfold lane64
  rw [iota_apply]
  simp
theorem lane8_at (a : Fin 8) (l : Fin 128) :
    lane8 (ix2 a l) = BitVec.ofNat 32 l.val := by
  unfold lane8
  rw [iota_apply]
  simp

/-- The lane functions only look at the lane number. -/
theorem lanes_of {s : Shape} (x : IVec s 32) (i : s.Idx) (l : Fin 128) (h : x i = BitVec.ofNat 32 l.val) :
    (lowHalf x i = if l.val < 64 then 1 else 0) ∧
    (wrapLane (evenSrc x) i).toNat % 128 = (if l.val < 64 then 2 * l.val else 2 * l.val - 127) ∧
    (wrapLane (oddSrc x) i).toNat % 128 = (if l.val < 64 then 2 * l.val + 1 else 2 * l.val - 128) := by
  have e := wrap_even l
  simp only [lowHalf, wrapLane, evenSrc, oddSrc, select, cmpi, muli, subi, addi, broadcast, h] at e ⊢
  exact e

theorem cast64 (x : IVec S64x128 32) :
    shapeCast S64x128 (shapeCast S64x128x1 x shapeCasts_S64x128_S64x128x1) shapeCasts_S64x128x1_S64x128 = x := by
  exact shapeCast_shapeCast _ _ _
theorem cast8 (x : IVec S8x128 32) :
    shapeCast S8x128 (shapeCast S8x128x1 x shapeCasts_S8x128_S8x128x1) shapeCasts_S8x128x1_S8x128 = x := by
  exact shapeCast_shapeCast _ _ _

theorem gather64_at (x idx : IVec S64x128 32) (a : Fin 64) (l : Fin 128) (p : Fin 128)
    (hp : (wrapLane idx (ix2 a l)).toNat % 128 = p.val) : gather64 x idx (ix2 a l) = x (ix2 a p) := by
  unfold gather64
  rw [cast64]
  show x _ = _
  congr 1
  funext c
  match c with
  | ⟨0, _⟩ => rfl
  | ⟨1, _⟩ => exact Fin.ext hp

theorem gather8_at (x : FVec Ideal S8x128 .f32) (idx : IVec S8x128 32) (a : Fin 8) (l : Fin 128) (p : Fin 128)
    (hp : (wrapLane idx (ix2 a l)).toNat % 128 = p.val) : gather8 x idx (ix2 a l) = x (ix2 a p) := by
  unfold gather8
  rw [cast8]
  show x _ = _
  congr 1
  funext c
  match c with
  | ⟨0, _⟩ => rfl
  | ⟨1, _⟩ => exact Fin.ext hp

/-- The source column of lane `l`, counted over the two blocks: `2 l + i`. -/
def srcCol (i : Fin 2) (l : Fin 128) : Fin 128 := ⟨(2 * l.val + i.val) % 128, by omega⟩

theorem words_at (i : Fin 2) (x0 x1 : IVec S64x128 32) (a : Fin 64) (l : Fin 128) :
    words i x0 x1 (ix2 a l) = if l.val < 64 then x0 (ix2 a (srcCol i l)) else x1 (ix2 a (srcCol i l)) := by
  obtain ⟨h0, h1, h2⟩ := lanes_of lane64 (ix2 a l) l (lane64_at a l)
  by_cases hl : l.val < 64
  · rw [if_pos hl] at h0 h1 h2 ⊢
    match i with
    | 0 =>
      show Scalar.select (lowHalf lane64 (ix2 a l)) _ _ = _; rw [h0]
      exact gather64_at _ _ _ _ _ (h1.trans (by simp [srcCol]; omega))
    | 1 =>
      show Scalar.select (lowHalf lane64 (ix2 a l)) _ _ = _; rw [h0]
      exact gather64_at _ _ _ _ _ (h2.trans (by simp [srcCol]; omega))
  · rw [if_neg hl] at h0 h1 h2 ⊢
    match i with
    | 0 =>
      show Scalar.select (lowHalf lane64 (ix2 a l)) _ _ = _; rw [h0]
      exact gather64_at _ _ _ _ _ (h2.trans (by simp [srcCol]; omega))
    | 1 =>
      show Scalar.select (lowHalf lane64 (ix2 a l)) _ _ = _; rw [h0]
      exact gather64_at _ _ _ _ _ (h1.trans (by simp [srcCol]; omega))

theorem scales_at (i : Fin 2) (x0 x1 : FVec Ideal S8x128 .f32) (a : Fin 8) (l : Fin 128) :
    scales i x0 x1 (ix2 a l) = if l.val < 64 then x0 (ix2 a (srcCol i l)) else x1 (ix2 a (srcCol i l)) := by
  obtain ⟨h0, h1, h2⟩ := lanes_of lane8 (ix2 a l) l (lane8_at a l)
  by_cases hl : l.val < 64
  · rw [if_pos hl] at h0 h1 h2 ⊢
    match i with
    | 0 =>
      show Scalar.select (lowHalf lane8 (ix2 a l)) _ _ = _; rw [h0]
      exact gather8_at _ _ _ _ _ (h1.trans (by simp [srcCol]; omega))
    | 1 =>
      show Scalar.select (lowHalf lane8 (ix2 a l)) _ _ = _; rw [h0]
      exact gather8_at _ _ _ _ _ (h2.trans (by simp [srcCol]; omega))
  · rw [if_neg hl] at h0 h1 h2 ⊢
    match i with
    | 0 =>
      show Scalar.select (lowHalf lane8 (ix2 a l)) _ _ = _; rw [h0]
      exact gather8_at _ _ _ _ _ (h2.trans (by simp [srcCol]; omega))
    | 1 =>
      show Scalar.select (lowHalf lane8 (ix2 a l)) _ _ = _; rw [h0]
      exact gather8_at _ _ _ _ _ (h1.trans (by simp [srcCol]; omega))

/-! ## One stripe -/

/-- Sixteen times a nibble times a sixteenth of a scale is the nibble times the scale. -/
theorem sixteen_sixteenth (n : Int) (s : EReal) :
    (((n * 16 : Int) : ℝ) : EReal) * (s * ((0.0625 : ℝ) : EReal)) = ((n : ℝ) : EReal) * s := by
  rw [mul_comm s, ← mul_assoc, ← EReal.coe_mul]
  congr 2
  push_cast; ring

/-- A stripe's element: the chunk's code times the group's scale. -/
theorem stripe_at (g : Fin 8) (q : FVec Ideal S256x128 .bf16) (s : FVec Ideal S8x128 .f32) (r : Fin 32) (l : Fin 128) :
    stripe g q s (ix2 r l) = q (ix2 ⟨32 * g.val + r.val, by omega⟩ l) * s (ix2 g l) := by
  have h1 : extractStridedSlice S32x128 ![32 * g.val, 0] q (slicesQ g) (ix2 r l)
      = q (ix2 ⟨32 * g.val + r.val, by omega⟩ l) :=
    extractStridedSlice_apply _ _ _ _ _ (fun a => by
      match a with
      | ⟨0, _⟩ => rfl
      | ⟨1, _⟩ => exact (Nat.zero_add _).symm)
  have h2 : extractStridedSlice S1x128 ![g.val, 0] s (slicesS g) (ix2 0 l) = s (ix2 g l) :=
    extractStridedSlice_apply _ _ _ _ _ (fun a => by
      match a with
      | ⟨0, _⟩ => rfl
      | ⟨1, _⟩ => exact (Nat.zero_add _).symm)
  have h3 (x : FVec Ideal S1x128 .f32) : broadcastTo S32x128 x broadcasts_S1x128_S32x128 (ix2 r l) = x (ix2 0 l) :=
    broadcastTo_apply _ _ _ _ (fun a => by
      match a with
      | ⟨0, _⟩ => rfl
      | ⟨1, _⟩ => rfl)
  unfold stripe
  rw [shapeCast_self, ValueIdx.mulf_apply, ValueIdx.truncf_apply, shapeCast_self, h1, h3, h2]

theorem sixteenth_at (s : FVec Ideal S8x128 .f32) (j : S8x128.Idx) :
    sixteenth s j = s j * ((0.0625 : ℝ) : EReal) := by
  unfold sixteenth
  rw [ValueIdx.mulf_apply]
  congr 1
  show Ideal.ofBits .f32 0x3D800000#32 = _
  simp [Ideal.ofBits, Ideal.ieee, -EReal.coe_mul]; norm_num

theorem stripeOf_at (hi i : Fin 2) (g : Fin 8) (c0 c1 : IVec S256x128 8) (s0 s1 : FVec Ideal S8x128 .f32)
    (r : Fin 32) (l : Fin 128) :
    stripeOf hi i g c0 c1 s0 s1 (ix2 r l)
      = if l.val < 64 then
          (((nib hi (c0 (ix2 ⟨32 * g.val + r.val, by omega⟩ (srcCol i l)))) : ℝ) : EReal) * s0 (ix2 g (srcCol i l))
        else
          (((nib hi (c1 (ix2 ⟨32 * g.val + r.val, by omega⟩ (srcCol i l)))) : ℝ) : EReal) * s1 (ix2 g (srcCol i l)) := by
  have hs : stripeOf hi i g c0 c1 s0 s1 (ix2 r l)
      = (byteVals (F := Ideal) (masked hi (words i (bitcast S64x128 32 c0 bitcasts_S256x128_w8_S64x128_w32)
          (bitcast S64x128 32 c1 bitcasts_S256x128_w8_S64x128_w32)))) (ix2 ⟨32 * g.val + r.val, by omega⟩ l)
        * scales i (sixteenth s0) (sixteenth s1) (ix2 g l) :=
    stripe_at _ _ _ _ _
  rw [hs, scales_at]
  unfold byteVals
  rw [ValueIdx.sitofp_apply]
  have hb (b : BitVec 8) (h : ∀ q, q < 8 → ((words i (bitcast S64x128 32 c0 bitcasts_S256x128_w8_S64x128_w32)
          (bitcast S64x128 32 c1 bitcasts_S256x128_w8_S64x128_w32)) (ix2 ⟨(32 * g.val + r.val) / 4, by omega⟩ l)).getLsbD
            (8 * ((32 * g.val + r.val) % 4) + q) = b.getLsbD q) :=
    masked_byte hi _ ⟨32 * g.val + r.val, by omega⟩ l b h
  by_cases hl : l.val < 64
  · rw [if_pos hl, if_pos hl, hb (c0 (ix2 ⟨32 * g.val + r.val, by omega⟩ (srcCol i l)))
      (fun q hq => by rw [words_at, if_pos hl]; exact packed_bit c0 ⟨32 * g.val + r.val, by omega⟩ _ q hq)]
    show (((topBits hi _).toInt : ℝ) : EReal) * _ = _
    rw [topBits_toInt, sixteenth_at]
    exact sixteen_sixteenth _ _
  · rw [if_neg hl, if_neg hl, hb (c1 (ix2 ⟨32 * g.val + r.val, by omega⟩ (srcCol i l)))
      (fun q hq => by rw [words_at, if_neg hl]; exact packed_bit c1 ⟨32 * g.val + r.val, by omega⟩ _ q hq)]
    show (((topBits hi _).toInt : ℝ) : EReal) * _ = _
    rw [topBits_toInt, sixteenth_at]
    exact sixteen_sixteenth _ _

end Cert.GateUp
-- ==== Proof.Weights.lean ====
/- The unpacked weight block as one function of the packed codes and the group scales. -/
module
public import proofs.«01_k».proof.Proof.Written
public import proofs.«01_k».proof.Proof.StripeValue
public import Idealize.ShloMosaic.Lib.Pipeline.ValueKit
public import Idealize.ShloMosaic.Lib.WholeRead
@[expose] public section
noncomputable section
namespace Cert.GateUp
open Idealize.ShloMosaic hiding ix1 ix2 ix3
open Idealize.ShloMosaic.ValueIdx Cert.KernelIdeal Cert.KernelIdeal.Gen

/-- The column of the packed codes that column `c` of the weight block unpacks, and the nibble it takes. -/
def wCol (c : Fin 512) : Fin 256 := ⟨2 * (c.val % 128) + c.val / 256, by omega⟩
def wNib (c : Fin 512) : Fin 2 := ⟨c.val / 128 % 2, by omega⟩

/-- The scale of a packed code: the low nibble's or the high nibble's. -/
def pick (hi : Fin 2) (lo up : EReal) : EReal := match hi with | 0 => lo | 1 => up

/-- The unpacked weight block: signed nibble times the scale of its group of 32 rows. -/
def weightBlock (x1 : Vec Ideal S3072x256 .i8) (x2 x3 : Vec Ideal S96x256 .f32) : Vec Ideal S3072x512 .bf16 := fun y =>
  let k : Fin 3072 := y 0
  let c : Fin 512 := y 1
  (((nib (wNib c) (x1 (ix2 k (wCol c)))) : ℝ) : EReal)
    * pick (wNib c) (x2 (ix2 ⟨k.val / 32, by omega⟩ (wCol c))) (x3 (ix2 ⟨k.val / 32, by omega⟩ (wCol c)))

section
variable (arg2 : Memref sig .tc .vmem S3072x256 .i8) (harg2 : arg2.IsWhole)
  (arg3 : Memref sig .tc .vmem S96x256 .f32) (harg3 : arg3.IsWhole)
  (arg4 : Memref sig .tc .vmem S96x256 .f32) (harg4 : arg4.IsWhole)
  (x1 : Vec Ideal S3072x256 .i8) (x2 x3 : Vec Ideal S96x256 .f32)

theorem codeLoad_at (k : Fin 12) (j : Fin 2) (R : Fin 256) (l : Fin 128) :
    codeLoad (F := Ideal) arg2 harg2 x1 k j (ix2 R l)
      = x1 (ix2 ⟨256 * k.val + R.val, by omega⟩ ⟨128 * j.val + l.val, by omega⟩) := by
  unfold codeLoad
  rw [Memref.IsWhole.readAt_unread]
  congr 1
  funext c
  match c with
  | ⟨0, _⟩ => exact Fin.ext (by show 256 * k.val + 1 * R.val = _; simp)
  | ⟨1, _⟩ => exact Fin.ext (by show 128 * j.val + 1 * l.val = _; simp)

theorem scaleLoad_at (m : Memref sig .tc .vmem S96x256 .f32) (h : m.IsWhole) (x : Vec Ideal S96x256 .f32)
    (k : Fin 12) (j : Fin 2) (g : Fin 8) (l : Fin 128) :
    scaleLoad (F := Ideal) m h x k j (ix2 g l)
      = x (ix2 ⟨8 * k.val + g.val, by omega⟩ ⟨128 * j.val + l.val, by omega⟩) := by
  unfold scaleLoad
  rw [Memref.IsWhole.readAt_unread]
  congr 1
  funext c
  match c with
  | ⟨0, _⟩ => exact Fin.ext (by show 8 * k.val + 1 * g.val = _; simp)
  | ⟨1, _⟩ => exact Fin.ext (by show 128 * j.val + 1 * l.val = _; simp)

/-- A stripe from the loads of its chunk: the packed code's nibble times the scale of its group. -/
theorem stripe_value (k : Fin 12) (hi i : Fin 2) (g : Fin 8) (r : Fin 32) (l : Fin 128) :
    stripeOf (F := Ideal) hi i g (codeLoad arg2 harg2 x1 k 0) (codeLoad arg2 harg2 x1 k 1)
      (match hi with | 0 => scaleLoad arg3 harg3 x2 k 0 | 1 => scaleLoad arg4 harg4 x3 k 0)
      (match hi with | 0 => scaleLoad arg3 harg3 x2 k 1 | 1 => scaleLoad arg4 harg4 x3 k 1) (ix2 r l)
      = (((nib hi (x1 (ix2 ⟨256 * k.val + 32 * g.val + r.val, by omega⟩
          ⟨2 * l.val + i.val, by omega⟩))) : ℝ) : EReal)
        * pick hi (x2 (ix2 ⟨8 * k.val + g.val, by omega⟩ ⟨2 * l.val + i.val, by omega⟩))
          (x3 (ix2 ⟨8 * k.val + g.val, by omega⟩ ⟨2 * l.val + i.val, by omega⟩)) := by
  rw [stripeOf_at]
  have hr : (⟨256 * k.val + (32 * g.val + r.val), by omega⟩ : Fin 3072)
      = ⟨256 * k.val + 32 * g.val + r.val, by omega⟩ := Fin.ext (by simp; omega)
  by_cases hl : l.val < 64
  · have hp : (⟨128 * (0 : Fin 2).val + (srcCol i l).val, by omega⟩ : Fin 256) = ⟨2 * l.val + i.val, by omega⟩ :=
      Fin.ext (by simp [srcCol]; omega)
    rw [if_pos hl, codeLoad_at, hp, hr]
    match hi with
    | 0 => dsimp only [pick]; rw [scaleLoad_at, hp]
    | 1 => dsimp only [pick]; rw [scaleLoad_at, hp]
  · have hp : (⟨128 * (1 : Fin 2).val + (srcCol i l).val, by omega⟩ : Fin 256) = ⟨2 * l.val + i.val, by omega⟩ :=
      Fin.ext (by simp [srcCol]; omega)
    rw [if_neg hl, codeLoad_at, hp, hr]
    match hi with
    | 0 => dsimp only [pick]; rw [scaleLoad_at, hp]
    | 1 => dsimp only [pick]; rw [scaleLoad_at, hp]

omit x1 x2 x3 in
/-- A stripe's element is the weight block's where the stripe lies. -/
theorem stripe_in_block (x1 : Vec Ideal S3072x256 .i8) (x2 x3 : Vec Ideal S96x256 .f32)
    (k : Fin 12) (hi i : Fin 2) (g : Fin 8) (r : Fin 32) (l : Fin 128) (R : Fin 3072) (c : Fin 512)
    (h0 : R.val = 256 * k.val + 32 * g.val + r.val) (h1 : c.val = 256 * i.val + 128 * hi.val + l.val) :
    (((nib hi (x1 (ix2 ⟨256 * k.val + 32 * g.val + r.val, by omega⟩ ⟨2 * l.val + i.val, by omega⟩))) : ℝ) : EReal)
        * pick hi (x2 (ix2 ⟨8 * k.val + g.val, by omega⟩ ⟨2 * l.val + i.val, by omega⟩))
          (x3 (ix2 ⟨8 * k.val + g.val, by omega⟩ ⟨2 * l.val + i.val, by omega⟩))
      = weightBlock x1 x2 x3 (ix2 R c) := by
  have ec : wCol c = ⟨2 * l.val + i.val, by omega⟩ := Fin.ext (by
    show 2 * (c.val % 128) + c.val / 256 = _; simp; omega)
  have en : wNib c = hi := Fin.ext (by show c.val / 128 % 2 = _; omega)
  have er : (⟨R.val / 32, by omega⟩ : Fin 96) = ⟨8 * k.val + g.val, by omega⟩ := Fin.ext (by simp; omega)
  have ek : R = ⟨256 * k.val + 32 * g.val + r.val, by omega⟩ := Fin.ext h0
  show _ = (((nib (wNib c) (x1 (ix2 R (wCol c)))) : ℝ) : EReal)
    * pick (wNib c) (x2 (ix2 ⟨R.val / 32, by omega⟩ (wCol c))) (x3 (ix2 ⟨R.val / 32, by omega⟩ (wCol c)))
  rw [ec, en, er, ← ek]

/-- The 384 stripes together are the weight block. -/
theorem canon_stripes :
    View.canon (stripes (F := Ideal) arg2 harg2 arg3 harg3 arg4 harg4 x1 x2 x3) = weightBlock x1 x2 x3 := by
  funext y
  have hy0 : (y 0).val < 3072 := (y 0).isLt
  have hy1 : (y 1).val < 512 := (y 1).isLt
  refine View.canon_ofFn_unit_eq_of_forall (S := S3072x512) (Val := Elt Ideal) (e := .bf16) (fun n : Fin 384 => stripeOff n.rev) S32x128.size (fun n => inbStripe n.rev)
    (fun n => stripeAt arg2 harg2 arg3 harg3 arg4 harg4 x1 x2 x3 n.rev) y _ ?_ ?_
  · refine ⟨(⟨(y 0).val / 256 * 32 + (y 1).val / 256 * 16 + (y 0).val % 256 / 32 * 2 + (y 1).val / 128 % 2, by omega⟩ : Fin 384).rev, ?_⟩
    rw [Fin.rev_rev]
    intro a
    match a with
    | ⟨0, _⟩ => simp only [stripeOff, chunkOf, groupOf, sideOf, nibOf]; show _ ≤ (y 0).val ∧ (y 0).val < _ + 32; simp; omega
    | ⟨1, _⟩ => simp only [stripeOff, chunkOf, groupOf, sideOf, nibOf]; show _ ≤ (y 1).val ∧ (y 1).val < _ + 128; simp; omega
  · intro n' x hx
    generalize hn : n'.rev = n at hx ⊢
    have h0 : (y 0).val = 256 * (chunkOf n).val + 32 * (groupOf n).val + (x 0).val := hx 0
    have h1 : (y 1).val = 256 * (sideOf n).val + 128 * (nibOf n).val + (x 1).val := hx 1
    show stripeAt arg2 harg2 arg3 harg3 arg4 harg4 x1 x2 x3 n x = _
    rw [show x = ix2 (x 0) (x 1) from ValueIdx.eq_ix2 (n0 := 32) (n1 := 128) x]
    exact (stripe_value arg2 harg2 arg3 harg3 arg4 harg4 x1 x2 x3 (chunkOf n) (nibOf n) (sideOf n) (groupOf n) (x 0) (x 1)).trans
      (stripe_in_block x1 x2 x3 (chunkOf n) (nibOf n) (sideOf n) (groupOf n) (x 0) (x 1) (y 0) (y 1) h0 h1)

/-- The read of the whole weight block, in a step's first case. -/
theorem weights_A (c : Dev nD) (arg11 : Memref sig .tc .vmem S3072x512 .bf16) :
    kernelRun0_A.sl.v5800 (F := Ideal) c arg2 harg2 arg3 harg3 arg4 harg4 arg11 x1 x2 x3 = weightBlock x1 x2 x3 := by
  show arg11.view.readCov (kernelRun0_A.sl.HS0_384 c arg2 harg2 arg3 harg3 arg4 harg4 x1 x2 x3) _ = _
  rw [written_A, View.readCov_eq_canon', canon_stripes]
  funext j
  congr 1
  funext a
  match a with
  | ⟨0, _⟩ => exact Fin.ext (by show 0 + 1 * _ = _; simp)
  | ⟨1, _⟩ => exact Fin.ext (by show 0 + 1 * _ = _; simp)
end
end Cert.GateUp
-- ==== Proof.Steps.lean ====
/- What one grid step leaves in each output block and running buffer, case by case: the first step, a middle one, the
   last. -/
module
public import proofs.«01_k».proof.Proof.StepParams
public import proofs.«01_k».proof.Proof.Weights
public import proofs.«01_k».proof.Proof.Gen.KernelIdeal.Value
@[expose] public section
set_option maxRecDepth 65536
noncomputable section
namespace Cert.GateUp
open Idealize.ShloMosaic Cert.KernelIdeal Cert.KernelIdeal.Gen Cert.KernelIdeal.Value

section
variable (c : Dev nD) (i : grid0.Coords) (arg1 : Memref sig .tc .vmem S2048x3072 .bf16) (harg1 : arg1.IsWhole) (arg2 : Memref sig .tc .vmem S3072x256 .i8) (harg2 : arg2.IsWhole) (arg3 : Memref sig .tc .vmem S96x256 .f32) (harg3 : arg3.IsWhole) (arg4 : Memref sig .tc .vmem S96x256 .f32) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x2048 .f32) (harg9 : arg9.IsWhole) (arg10 : Memref sig .tc .vmem S1x2048 .i32) (harg10 : arg10.IsWhole) (arg11 : Memref sig .tc .vmem S3072x512 .bf16) (harg11 : arg11.IsWhole) (arg12 : Memref sig .tc .vmem S2048x128 .f32) (harg12 : arg12.IsWhole) (arg13 : Memref sig .tc .vmem S2048x128 .f32) (harg13 : arg13.IsWhole)
  (x0 : Vec Ideal S2048x3072 .bf16) (x1 : Vec Ideal S3072x256 .i8) (x2 : Vec Ideal S96x256 .f32) (x3 : Vec Ideal S96x256 .f32) (x4 : Vec Ideal S2048x128 .f32) (xs1 xs2 : Vec Ideal S2048x128 .f32)

/-- The weight block a step reads back is the block it unpacked. -/
theorem unpacked_eq : unpacked (F := Ideal) arg2 harg2 arg3 harg3 arg4 harg4 arg11 x1 x2 x3 = weightBlock x1 x2 x3 := by
  unfold unpacked
  rw [View.readCov_eq_canon', canon_stripes]
  funext j
  congr 1
  funext a
  match a with
  | ⟨0, _⟩ => exact Fin.ext (by show 0 + 1 * _ = _; simp)
  | ⟨1, _⟩ => exact Fin.ext (by show 0 + 1 * _ = _; simp)

theorem block_A (hc0 : cond0_0 i) (hc1 : ¬cond0_1 i) :
    out0_A_5 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = prodBlock x0 x4 (weightBlock x1 x2 x3) := by
  unfold out0_A_5
  rw [prods_A]
  funext y
  rw [View.read_writes_junk_apply_eq_canon]
  rw [canon_prods, unpacked_eq]

theorem block_B (hc0 : ¬cond0_0 i) (hc1 : ¬cond0_1 i) :
    out0_B_5 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2 = prodBlock x0 x4 (weightBlock x1 x2 x3) := by
  unfold out0_B_5
  rw [prods_B]
  funext y
  rw [View.read_writes_junk_apply_eq_canon]
  rw [canon_prods, unpacked_eq]

theorem block_C (hc0 : ¬cond0_0 i) (hc1 : cond0_1 i) :
    out0_C_5 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2 = prodBlock x0 x4 (weightBlock x1 x2 x3) := by
  unfold out0_C_5
  rw [prods_C]
  funext y
  rw [View.read_writes_junk_apply_eq_canon]
  rw [canon_prods, unpacked_eq]

theorem min_A (hc0 : cond0_0 i) (hc1 : ¬cond0_1 i) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = minNext x0 x4 (weightBlock x1 x2 x3) (k0_pay1241 (F := Ideal)) := by
  unfold sout0_A_1
  rw [mins_A]
  funext y
  rw [View.read_writes_junk_apply_eq_canon]
  rw [canon_first _ _ _ _ fun b => minStep_eq _ _ _ _ _ _ _ b _, unpacked_eq]

theorem max_A (hc0 : cond0_0 i) (hc1 : ¬cond0_1 i) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = maxNext x0 x4 (weightBlock x1 x2 x3) (k0_pay1242 (F := Ideal)) := by
  unfold sout0_A_2
  rw [maxs_A]
  funext y
  rw [View.read_writes_junk_apply_eq_canon]
  rw [canon_first _ _ _ _ fun b => maxStep_eq _ _ _ _ _ _ _ b _, unpacked_eq]

theorem min_B (hc0 : ¬cond0_0 i) (hc1 : ¬cond0_1 i) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2 = minNext x0 x4 (weightBlock x1 x2 x3) xs1 := by
  unfold sout0_B_1
  rw [mins_B]
  funext y
  rw [View.read_writes_junk_apply_eq_canon]
  rw [canon_next _ _ _ _ _ fun b => minStep_eq _ _ _ _ _ _ _ b _, unpacked_eq]

theorem max_B (hc0 : ¬cond0_0 i) (hc1 : ¬cond0_1 i) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2 = maxNext x0 x4 (weightBlock x1 x2 x3) xs2 := by
  unfold sout0_B_2
  rw [maxs_B]
  funext y
  rw [View.read_writes_junk_apply_eq_canon]
  rw [canon_next _ _ _ _ _ fun b => maxStep_eq _ _ _ _ _ _ _ b _, unpacked_eq]

/-- The running minima and maxima read back at the last step. -/
theorem accRead_min : accRead (F := Ideal) arg12 (nextAcc arg12 harg12 (minStep arg1 harg1 arg5 harg5 x0 x4 (unpacked arg2 harg2 arg3 harg3 arg4 harg4 arg11 x1 x2 x3)) xs1)
    = rowsOf (minNext x0 x4 (weightBlock x1 x2 x3) xs1) := by
  funext b
  rw [accRead_eq, canon_next _ _ _ _ _ fun b => minStep_eq _ _ _ _ _ _ _ b _, unpacked_eq]
theorem accRead_max : accRead (F := Ideal) arg13 (nextAcc arg13 harg13 (maxStep arg1 harg1 arg5 harg5 x0 x4 (unpacked arg2 harg2 arg3 harg3 arg4 harg4 arg11 x1 x2 x3)) xs2)
    = rowsOf (maxNext x0 x4 (weightBlock x1 x2 x3) xs2) := by
  funext b
  rw [accRead_eq, canon_next _ _ _ _ _ fun b => maxStep_eq _ _ _ _ _ _ _ b _, unpacked_eq]

theorem scaleCol_C (hc0 : ¬cond0_0 i) (hc1 : cond0_1 i) :
    out0_C_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2 = fun y => scaleOf (rowMin (minNext x0 x4 (weightBlock x1 x2 x3) xs1) (y 0)) (rowMax (maxNext x0 x4 (weightBlock x1 x2 x3) xs2) (y 0)) := by
  unfold out0_C_6
  rw [scaleCols_C]
  funext y
  rw [View.read_writes_junk_apply_eq_canon]
  rw [accRead_min, accRead_max, canon_scaleCols]

theorem zeroCol_C (hc0 : ¬cond0_0 i) (hc1 : cond0_1 i) :
    out0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2 = fun y => zeroOf (rowMin (minNext x0 x4 (weightBlock x1 x2 x3) xs1) (y 0)) (rowMax (maxNext x0 x4 (weightBlock x1 x2 x3) xs2) (y 0)) := by
  unfold out0_C_7
  rw [zeroCols_C]
  funext y
  rw [View.read_writes_junk_apply_eq_canon]
  rw [accRead_min, accRead_max, canon_zeroCols]

theorem scaleRow_C (hc0 : ¬cond0_0 i) (hc1 : cond0_1 i) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2 = fun y => scaleOf (rowMin (minNext x0 x4 (weightBlock x1 x2 x3) xs1) (y 1)) (rowMax (maxNext x0 x4 (weightBlock x1 x2 x3) xs2) (y 1)) := by
  unfold out0_C_8
  rw [scaleRows_C]
  funext y
  rw [View.read_writes_junk_apply_eq_canon]
  rw [accRead_min, accRead_max, canon_scaleRows]

theorem zeroRow_C (hc0 : ¬cond0_0 i) (hc1 : cond0_1 i) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs2 = fun y => Ideal.fptosi 32 (zeroOf (rowMin (minNext x0 x4 (weightBlock x1 x2 x3) xs1) (y 1)) (rowMax (maxNext x0 x4 (weightBlock x1 x2 x3) xs2) (y 1))) := by
  unfold out0_C_9
  rw [zeroRows_C]
  funext y
  rw [View.read_writes_junk_apply_eq_canon]
  rw [accRead_min, accRead_max, canon_zeroRows]

end

variable (m : (ℓ : Loc nD τ sig) → Buf (Elt Ideal) ℓ)

/-- The weight block of a point. -/
def wAt (c : Dev nD) (t : Fin cfg0.N) : Vec Ideal S3072x512 .bf16 := weightBlock (iblk m c 1 t) (iblk m c 2 t) (iblk m c 3 t)

theorem at_block_A (c : Dev nD) (t : Fin cfg0.N) (acc) (h0 : t.val % 32 = 0) (h1 : ¬t.val % 32 = 31) :
    (stAt0 m c t.val t.isLt acc).1 = prodBlock (iblk m c 0 t) (iblk m c 4 t) (wAt m c t) := by
  rw [stAt0_A m c t acc h0 h1]
  dsimp only
  rw [block_A]
  rfl

theorem at_block_B (c : Dev nD) (t : Fin cfg0.N) (acc) (h0 : ¬t.val % 32 = 0) (h1 : ¬t.val % 32 = 31) :
    (stAt0 m c t.val t.isLt acc).1 = prodBlock (iblk m c 0 t) (iblk m c 4 t) (wAt m c t) := by
  rw [stAt0_B m c t acc h0 h1]
  dsimp only
  rw [block_B]
  rfl

theorem at_block_C (c : Dev nD) (t : Fin cfg0.N) (acc) (h0 : ¬t.val % 32 = 0) (h1 : t.val % 32 = 31) :
    (stAt0 m c t.val t.isLt acc).1 = prodBlock (iblk m c 0 t) (iblk m c 4 t) (wAt m c t) := by
  rw [stAt0_C m c t acc h0 h1]
  dsimp only
  rw [block_C]
  rfl

theorem at_min_A (c : Dev nD) (t : Fin cfg0.N) (acc) (h0 : t.val % 32 = 0) (h1 : ¬t.val % 32 = 31) :
    (stAt0 m c t.val t.isLt acc).2.2.2.2.2.1 = minNext (iblk m c 0 t) (iblk m c 4 t) (wAt m c t) (k0_pay1241 (F := Ideal)) := by
  rw [stAt0_A m c t acc h0 h1]
  dsimp only
  rw [min_A]
  rfl

theorem at_max_A (c : Dev nD) (t : Fin cfg0.N) (acc) (h0 : t.val % 32 = 0) (h1 : ¬t.val % 32 = 31) :
    (stAt0 m c t.val t.isLt acc).2.2.2.2.2.2 = maxNext (iblk m c 0 t) (iblk m c 4 t) (wAt m c t) (k0_pay1242 (F := Ideal)) := by
  rw [stAt0_A m c t acc h0 h1]
  dsimp only
  rw [max_A]
  rfl

theorem at_min_B (c : Dev nD) (t : Fin cfg0.N) (acc) (h0 : ¬t.val % 32 = 0) (h1 : ¬t.val % 32 = 31) :
    (stAt0 m c t.val t.isLt acc).2.2.2.2.2.1 = minNext (iblk m c 0 t) (iblk m c 4 t) (wAt m c t) acc.2.2.2.2.2.1 := by
  rw [stAt0_B m c t acc h0 h1]
  dsimp only
  rw [min_B]
  rfl

theorem at_max_B (c : Dev nD) (t : Fin cfg0.N) (acc) (h0 : ¬t.val % 32 = 0) (h1 : ¬t.val % 32 = 31) :
    (stAt0 m c t.val t.isLt acc).2.2.2.2.2.2 = maxNext (iblk m c 0 t) (iblk m c 4 t) (wAt m c t) acc.2.2.2.2.2.2 := by
  rw [stAt0_B m c t acc h0 h1]
  dsimp only
  rw [max_B]
  rfl

theorem at_scaleCol_C (c : Dev nD) (t : Fin cfg0.N) (acc) (h0 : ¬t.val % 32 = 0) (h1 : t.val % 32 = 31) :
    (stAt0 m c t.val t.isLt acc).2.1 = fun y => scaleOf (rowMin (minNext (iblk m c 0 t) (iblk m c 4 t) (wAt m c t) acc.2.2.2.2.2.1) (y 0)) (rowMax (maxNext (iblk m c 0 t) (iblk m c 4 t) (wAt m c t) acc.2.2.2.2.2.2) (y 0)) := by
  rw [stAt0_C m c t acc h0 h1]
  dsimp only
  rw [scaleCol_C]
  rfl

theorem at_zeroCol_C (c : Dev nD) (t : Fin cfg0.N) (acc) (h0 : ¬t.val % 32 = 0) (h1 : t.val % 32 = 31) :
    (stAt0 m c t.val t.isLt acc).2.2.1 = fun y => zeroOf (rowMin (minNext (iblk m c 0 t) (iblk m c 4 t) (wAt m c t) acc.2.2.2.2.2.1) (y 0)) (rowMax (maxNext (iblk m c 0 t) (iblk m c 4 t) (wAt m c t) acc.2.2.2.2.2.2) (y 0)) := by
  rw [stAt0_C m c t acc h0 h1]
  dsimp only
  rw [zeroCol_C]
  rfl

theorem at_scaleRow_C (c : Dev nD) (t : Fin cfg0.N) (acc) (h0 : ¬t.val % 32 = 0) (h1 : t.val % 32 = 31) :
    (stAt0 m c t.val t.isLt acc).2.2.2.1 = fun y => scaleOf (rowMin (minNext (iblk m c 0 t) (iblk m c 4 t) (wAt m c t) acc.2.2.2.2.2.1) (y 1)) (rowMax (maxNext (iblk m c 0 t) (iblk m c 4 t) (wAt m c t) acc.2.2.2.2.2.2) (y 1)) := by
  rw [stAt0_C m c t acc h0 h1]
  dsimp only
  rw [scaleRow_C]
  rfl

theorem at_zeroRow_C (c : Dev nD) (t : Fin cfg0.N) (acc) (h0 : ¬t.val % 32 = 0) (h1 : t.val % 32 = 31) :
    (stAt0 m c t.val t.isLt acc).2.2.2.2.1 = fun y => Ideal.fptosi 32 (zeroOf (rowMin (minNext (iblk m c 0 t) (iblk m c 4 t) (wAt m c t) acc.2.2.2.2.2.1) (y 1)) (rowMax (maxNext (iblk m c 0 t) (iblk m c 4 t) (wAt m c t) acc.2.2.2.2.2.2) (y 1))) := by
  rw [stAt0_C m c t acc h0 h1]
  dsimp only
  rw [zeroRow_C]
  rfl

end Cert.GateUp
-- ==== Proof.Blocks.lean ====
/- What each grid point reads: the blocks of the input arrays at a point, entry by entry. -/
module
public import proofs.«01_k».proof.Proof.Steps
@[expose] public section
set_option maxRecDepth 65536
noncomputable section
namespace Cert.GateUp
open Idealize.ShloMosaic Idealize.ShloMosaic.TcCoe Cert.KernelIdeal Cert.KernelIdeal.Gen

/-- The windows' block numbers at a point. -/
theorem idx : ∀ t : Fin cfg0.N, win0_0.index t = ![0, 0] ∧ win0_1.index t = ![0, t.val] ∧ win0_2.index t = ![0, t.val]
    ∧ win0_3.index t = ![0, t.val + 32] ∧ win0_4.index t = ![0, 0] :=
  (by decide +kernel : ∀ t : Fin grid0.N, _)

variable (m : (ℓ : Loc nD τ sig) → Buf (Elt Ideal) ℓ)

/-- The four arguments: activations, packed codes, group scales, row scales. -/
abbrev actM (c : Dev nD) : Vec Ideal S2048x3072 .bf16 := m ((c : Thread nD τ).loc main_arg0)
abbrev codesM (c : Dev nD) : Vec Ideal S3072x8192 .i8 := m ((c : Thread nD τ).loc main_arg1)
abbrev scalesM (c : Dev nD) : Vec Ideal S96x16384 .f32 := m ((c : Thread nD τ).loc main_arg2)
abbrev rowScaleM (c : Dev nD) : Vec Ideal S2048x1 .f32 := m ((c : Thread nD τ).loc main_arg3)

theorem pt_lt (t : Fin cfg0.N) : t.val < 32 := lt_of_lt_of_eq t.isLt (show cfg0.N = 32 from N_0)

theorem act_at (c : Dev nD) (t : Fin cfg0.N) (R : Fin 2048) (k : Fin 3072) :
    (iblk m c 0 t : Vec Ideal S2048x3072 .bf16) (ix2 R k) = actM m c (ix2 R k) := by
  blk_ext [iblk, V, idx t]

theorem code_at (c : Dev nD) (t : Fin cfg0.N) (k : Fin 3072) (p : Fin 256) :
    (iblk m c 1 t : Vec Ideal S3072x256 .i8) (ix2 k p)
      = codesM m c (ix2 k ⟨256 * t.val + p.val, by have := pt_lt t; omega⟩) := by
  blk_ext [iblk, V, idx t]

theorem scaleLo_at (c : Dev nD) (t : Fin cfg0.N) (g : Fin 96) (p : Fin 256) :
    (iblk m c 2 t : Vec Ideal S96x256 .f32) (ix2 g p)
      = scalesM m c (ix2 g ⟨256 * t.val + p.val, by have := pt_lt t; omega⟩) := by
  blk_ext [iblk, V, idx t]

theorem scaleHi_at (c : Dev nD) (t : Fin cfg0.N) (g : Fin 96) (p : Fin 256) :
    (iblk m c 3 t : Vec Ideal S96x256 .f32) (ix2 g p)
      = scalesM m c (ix2 g ⟨8192 + 256 * t.val + p.val, by have := pt_lt t; omega⟩) := by
  blk_ext [iblk, V, idx t]

theorem rowScale_at (c : Dev nD) (t : Fin cfg0.N) (R : Fin 2048) (l : Fin 128) :
    (iblk m c 4 t : Vec Ideal S2048x128 .f32) (ix2 R l) = rowScaleM m c (ix2 R 0) := by
  have e : (V m c main_v0 : Vec Ideal S2048x128 .f32) = broadcastInDim S2048x128 ![0, 1] bcast_S2048x1_S2048x128_0_1 (rowScaleM m c) := by
    show StableHlo.after hostOps0 _ _ = _
    after_results
  have e2 : (broadcastInDim S2048x128 ![0, 1] bcast_S2048x1_S2048x128_0_1 (rowScaleM m c) : Vec Ideal S2048x128 .f32) (ix2 R l)
      = rowScaleM m c (ix2 R 0) := by
    pointwise []
  have e3 : (iblk m c 4 t : Vec Ideal S2048x128 .f32) (ix2 R l) = (V m c main_v0 : Vec Ideal S2048x128 .f32) (ix2 R l) := by
    unfold iblk
    blk_ext [idx t]
  rw [e3, e, e2]

end Cert.GateUp
-- ==== Proof.Target.lean ====
/- The mathematics of the layer: a dot product with dequantised 4-bit weights, the gate, and what a grid point's
   products are of it. -/
module
public import proofs.«01_k».proof.Proof.Blocks
@[expose] public section
set_option maxRecDepth 65536
noncomputable section
namespace Cert.GateUp
open Idealize.ShloMosaic Idealize.ShloMosaic.TcCoe Cert.KernelIdeal Cert.KernelIdeal.Gen

/-- A row of activations times the dequantised 4-bit weights of a packed column: nibble `j` of each code, scaled by its
    group of 32 rows; the scales of the high nibbles follow those of the low. -/
def nibDot (a : Vec Ideal S2048x3072 .bf16) (codes : Vec Ideal S3072x8192 .i8) (scales : Vec Ideal S96x16384 .f32)
    (j : Fin 2) (R : Fin 2048) (p : Fin 8192) : EReal :=
  ∑ k : Fin 3072, a (ix2 R k) * (((nib j (codes (ix2 k p)) : ℝ) : EReal)
    * scales (ix2 ⟨k.val / 32, by omega⟩ ⟨8192 * j.val + p.val, by omega⟩))

/-- The gated product: a gate at an even packed column, its up value at the odd column after it. -/
def hid (a : Vec Ideal S2048x3072 .bf16) (codes : Vec Ideal S3072x8192 .i8) (scales : Vec Ideal S96x16384 .f32)
    (rs : Vec Ideal S2048x1 .f32) (j : Fin 2) (R : Fin 2048) (i : Fin 4096) : EReal :=
  swiglu (nibDot a codes scales j R ⟨2 * i.val, by omega⟩ * rs (ix2 R 0))
    (nibDot a codes scales j R ⟨2 * i.val + 1, by omega⟩ * rs (ix2 R 0))

variable (m : (ℓ : Loc nD τ sig) → Buf (Elt Ideal) ℓ)

/-- The gated products of the kernel's arguments. -/
abbrev hidM (c : Dev nD) : Fin 2 → Fin 2048 → Fin 4096 → EReal := hid (actM m c) (codesM m c) (scalesM m c) (rowScaleM m c)

/-- A dot product of a point's blocks is one of the arrays': column half `h` holds the even (0) or odd (1) packed columns. -/
theorem dot_at (c : Dev nD) (t : Fin cfg0.N) (R : Fin 2048) (h j : Fin 2) (l : Fin 128) :
    dotAt (iblk m c 0 t) (wAt m c t) R ⟨256 * h.val + 128 * j.val + l.val, by omega⟩
      = nibDot (actM m c) (codesM m c) (scalesM m c) j R ⟨2 * (128 * t.val + l.val) + h.val, by have := pt_lt t; omega⟩ := by
  have ht := pt_lt t
  unfold dotAt nibDot
  refine Finset.sum_congr rfl fun k _ => ?_
  have hw : wAt m c t (ix2 k ⟨256 * h.val + 128 * j.val + l.val, by omega⟩)
      = ((nib (wNib ⟨256 * h.val + 128 * j.val + l.val, by omega⟩) ((iblk m c 1 t : Vec Ideal S3072x256 .i8) (ix2 k (wCol ⟨256 * h.val + 128 * j.val + l.val, by omega⟩))) : ℝ) : EReal)
        * pick (wNib ⟨256 * h.val + 128 * j.val + l.val, by omega⟩)
          ((iblk m c 2 t : Vec Ideal S96x256 .f32) (ix2 ⟨k.val / 32, by omega⟩ (wCol ⟨256 * h.val + 128 * j.val + l.val, by omega⟩)))
          ((iblk m c 3 t : Vec Ideal S96x256 .f32) (ix2 ⟨k.val / 32, by omega⟩ (wCol ⟨256 * h.val + 128 * j.val + l.val, by omega⟩))) := rfl
  have hc : wCol ⟨256 * h.val + 128 * j.val + l.val, by omega⟩ = ⟨2 * l.val + h.val, by omega⟩ :=
    Fin.ext (by show 2 * ((256 * h.val + 128 * j.val + l.val) % 128) + (256 * h.val + 128 * j.val + l.val) / 256 = 2 * l.val + h.val; omega)
  have hn : wNib ⟨256 * h.val + 128 * j.val + l.val, by omega⟩ = j :=
    Fin.ext (by show (256 * h.val + 128 * j.val + l.val) / 128 % 2 = j.val; omega)
  rw [hw, hc, hn, act_at, code_at, scaleLo_at, scaleHi_at]
  have e1 : (⟨256 * t.val + (2 * l.val + h.val), by omega⟩ : Fin 8192) = ⟨2 * (128 * t.val + l.val) + h.val, by omega⟩ :=
    Fin.ext (by show 256 * t.val + (2 * l.val + h.val) = 2 * (128 * t.val + l.val) + h.val; omega)
  rw [e1]
  congr 2
  match j with
  | 0 =>
    refine congrArg (scalesM m c) (congrArg (ix2 _) (Fin.ext ?_))
    show 256 * t.val + (2 * l.val + h.val) = 8192 * 0 + (2 * (128 * t.val + l.val) + h.val)
    omega
  | 1 =>
    refine congrArg (scalesM m c) (congrArg (ix2 _) (Fin.ext ?_))
    show 8192 + 256 * t.val + (2 * l.val + h.val) = 8192 * 1 + (2 * (128 * t.val + l.val) + h.val)
    omega

/-- What a point leaves is the gated product of its columns. -/
theorem prod_at (c : Dev nD) (t : Fin cfg0.N) (R : Fin 2048) (j : Fin 2) (l : Fin 128) :
    prodAt (iblk m c 0 t) (wAt m c t) (iblk m c 4 t) R j l
      = hidM m c j R ⟨128 * t.val + l.val, by have := pt_lt t; omega⟩ := by
  have e0 := dot_at m c t R 0 j l
  have e1 := dot_at m c t R 1 j l
  unfold prodAt hidM hid
  rw [rowScale_at]
  congr 2
  · refine Eq.trans ?_ e0
    congr 1
    exact Fin.ext (by show 128 * j.val + l.val = 256 * 0 + 128 * j.val + l.val; omega)
end Cert.GateUp
-- ==== Proof.Fold.lean ====
/- What the arrays hold after the run: the gated products, and per row the scale and zero point of their range. -/
module
public import proofs.«01_k».proof.Proof.Target
@[expose] public section
set_option maxRecDepth 65536
noncomputable section
namespace Cert.GateUp
open Idealize.ShloMosaic Idealize.ShloMosaic.TcCoe Cert.KernelIdeal Cert.KernelIdeal.Gen Cert.KernelIdeal.Value

/-- The least value of a row of gated products, or zero if that is less; the greatest likewise. -/
def rowLo (h : Fin 2 → Fin 2048 → Fin 4096 → EReal) (R : Fin 2048) : EReal :=
  min 0 (Finset.univ.inf fun p : Fin 2 × Fin 4096 => h p.1 R p.2)
def rowHi (h : Fin 2 → Fin 2048 → Fin 4096 → EReal) (R : Fin 2048) : EReal :=
  max 0 (Finset.univ.sup fun p : Fin 2 × Fin 4096 => h p.1 R p.2)

theorem le_rowLo (h : Fin 2 → Fin 2048 → Fin 4096 → EReal) (R : Fin 2048) (z : EReal) :
    z ≤ rowLo h R ↔ z ≤ 0 ∧ ∀ j i, z ≤ h j R i := by
  simp [rowLo, Finset.le_inf_iff]
theorem rowHi_le (h : Fin 2 → Fin 2048 → Fin 4096 → EReal) (R : Fin 2048) (z : EReal) :
    rowHi h R ≤ z ↔ 0 ≤ z ∧ ∀ j i, h j R i ≤ z := by
  simp [rowHi, Finset.sup_le_iff]

theorem ofBits_top : Ideal.ofBits .f32 2139095040#32 = ⊤ := by
  simp [Ideal.ofBits, Ideal.ieee, -EReal.coe_mul]
theorem ofBits_bot : Ideal.ofBits .f32 4286578688#32 = ⊥ := by
  simp [Ideal.ofBits, Ideal.ieee, -EReal.coe_mul]

theorem le_rowMin (mn : Vec Ideal S2048x128 .f32) (R : Fin 2048) (z : EReal) :
    z ≤ rowMin mn R ↔ ∀ l : Fin 128, z ≤ mn (ix2 R l) := by
  unfold rowMin
  rw [Finset.le_fold_min, ofBits_top]
  simp
theorem rowMax_le (mx : Vec Ideal S2048x128 .f32) (R : Fin 2048) (z : EReal) :
    rowMax mx R ≤ z ↔ ∀ l : Fin 128, mx (ix2 R l) ≤ z := by
  unfold rowMax
  rw [Finset.fold_max_le, ofBits_bot]
  simp

theorem zeros_min (y : S2048x128.Idx) : k0_pay1241 (F := Ideal) y = 0 := by
  rw [← ix2_eta (n0 := 2048) (n1 := 128) y]
  pointwise [k0_pay1241]
theorem zeros_max (y : S2048x128.Idx) : k0_pay1242 (F := Ideal) y = 0 := by
  rw [← ix2_eta (n0 := 2048) (n1 := 128) y]
  pointwise [k0_pay1242]

variable (m : (ℓ : Loc nD τ sig) → Buf (Elt Ideal) ℓ)

/-- The block of products a point leaves. -/
theorem outs_block (c : Dev nD) (n : ℕ) (hn : n < cfg0.N) (j : Fin 2) (R : Fin 2048) (l : Fin 128) :
    (outsAt0 m c n hn).1 (ix3 j R l) = hidM m c j R ⟨128 * n + l.val, by have := pt_lt ⟨n, hn⟩; dsimp only at this; omega⟩ := by
  have hN := pt_lt ⟨n, hn⟩
  dsimp only at hN
  refine Eq.trans ?_ (prod_at m c ⟨n, hn⟩ R j l)
  match n, hn with
  | 0, hn => rw [outsAt0_zero, at_block_A m c ⟨0, hn⟩ _ (Nat.zero_mod 32) (by show ¬ 0 % 32 = 31; decide)]; rfl
  | n + 1, hn =>
    rw [outsAt0_succ]
    by_cases h : (n + 1) % 32 = 31
    · rw [at_block_C m c ⟨n + 1, hn⟩ _ (by dsimp only; omega) h]; rfl
    · rw [at_block_B m c ⟨n + 1, hn⟩ _ (by dsimp only; omega) h]; rfl

/-- The running minimum after a step, by its lower bounds. -/
theorem le_minNext (c : Dev nD) (t : Fin cfg0.N) (xs : Vec Ideal S2048x128 .f32) (R : Fin 2048) (l : Fin 128) (z : EReal) :
    z ≤ minNext (iblk m c 0 t) (iblk m c 4 t) (wAt m c t) xs (ix2 R l)
      ↔ z ≤ xs (ix2 R l) ∧ ∀ j, z ≤ hidM m c j R ⟨128 * t.val + l.val, by have := pt_lt t; omega⟩ := by
  have e : minNext (iblk m c 0 t) (iblk m c 4 t) (wAt m c t) xs (ix2 R l)
      = min (min (xs (ix2 R l)) (prodAt (iblk m c 0 t) (wAt m c t) (iblk m c 4 t) R 0 l)) (prodAt (iblk m c 0 t) (wAt m c t) (iblk m c 4 t) R 1 l) := rfl
  rw [e, prod_at, prod_at, le_min_iff, le_min_iff, Fin.forall_fin_two, and_assoc]
theorem maxNext_le (c : Dev nD) (t : Fin cfg0.N) (xs : Vec Ideal S2048x128 .f32) (R : Fin 2048) (l : Fin 128) (z : EReal) :
    maxNext (iblk m c 0 t) (iblk m c 4 t) (wAt m c t) xs (ix2 R l) ≤ z
      ↔ xs (ix2 R l) ≤ z ∧ ∀ j, hidM m c j R ⟨128 * t.val + l.val, by have := pt_lt t; omega⟩ ≤ z := by
  have e : maxNext (iblk m c 0 t) (iblk m c 4 t) (wAt m c t) xs (ix2 R l)
      = max (max (xs (ix2 R l)) (prodAt (iblk m c 0 t) (wAt m c t) (iblk m c 4 t) R 0 l)) (prodAt (iblk m c 0 t) (wAt m c t) (iblk m c 4 t) R 1 l) := rfl
  rw [e, prod_at, prod_at, max_le_iff, max_le_iff, Fin.forall_fin_two, and_assoc]

/-- The running minimum before the last point, by its lower bounds: zero and the products of the points so far. -/
theorem le_outs_min (c : Dev nD) (R : Fin 2048) (l : Fin 128) (z : EReal) : ∀ (n : ℕ) (hn : n < cfg0.N) (hl : n < 31),
    z ≤ (outsAt0 m c n hn).2.2.2.2.2.1 (ix2 R l)
      ↔ z ≤ 0 ∧ ∀ (t : Fin 32), t.val ≤ n → ∀ j, z ≤ hidM m c j R ⟨128 * t.val + l.val, by omega⟩
  | 0, hn, _ => by
    rw [outsAt0_zero, at_min_A m c ⟨0, hn⟩ _ (Nat.zero_mod 32) (by show ¬ 0 % 32 = 31; decide), le_minNext, zeros_min]
    refine and_congr_right fun _ => ⟨fun h t ht j => ?_, fun h j => h 0 (Nat.le_refl 0) j⟩
    obtain rfl : t = 0 := Fin.ext (Nat.le_zero.1 ht)
    exact h j
  | n + 1, hn, hl => by
    rw [outsAt0_succ, at_min_B m c ⟨n + 1, hn⟩ _ (by dsimp only; omega) (by dsimp only; omega), le_minNext, le_outs_min c R l z n _ (by omega), and_assoc]
    refine and_congr_right fun _ => ⟨fun h t ht j => ?_, fun h => ⟨fun t ht j => h t (by omega) j, fun j => h ⟨n + 1, by omega⟩ (Nat.le_refl _) j⟩⟩
    by_cases e : t.val ≤ n
    · exact h.1 t e j
    · have e' : t = ⟨n + 1, by omega⟩ := Fin.ext (by dsimp only; omega)
      rw [e']
      exact h.2 j
theorem outs_max_le (c : Dev nD) (R : Fin 2048) (l : Fin 128) (z : EReal) : ∀ (n : ℕ) (hn : n < cfg0.N) (hl : n < 31),
    (outsAt0 m c n hn).2.2.2.2.2.2 (ix2 R l) ≤ z
      ↔ 0 ≤ z ∧ ∀ (t : Fin 32), t.val ≤ n → ∀ j, hidM m c j R ⟨128 * t.val + l.val, by omega⟩ ≤ z
  | 0, hn, _ => by
    rw [outsAt0_zero, at_max_A m c ⟨0, hn⟩ _ (Nat.zero_mod 32) (by show ¬ 0 % 32 = 31; decide), maxNext_le, zeros_max]
    refine and_congr_right fun _ => ⟨fun h t ht j => ?_, fun h j => h 0 (Nat.le_refl 0) j⟩
    obtain rfl : t = 0 := Fin.ext (Nat.le_zero.1 ht)
    exact h j
  | n + 1, hn, hl => by
    rw [outsAt0_succ, at_max_B m c ⟨n + 1, hn⟩ _ (by dsimp only; omega) (by dsimp only; omega), maxNext_le, outs_max_le c R l z n _ (by omega), and_assoc]
    refine and_congr_right fun _ => ⟨fun h t ht j => ?_, fun h => ⟨fun t ht j => h t (by omega) j, fun j => h ⟨n + 1, by omega⟩ (Nat.le_refl _) j⟩⟩
    by_cases e : t.val ≤ n
    · exact h.1 t e j
    · have e' : t = ⟨n + 1, by omega⟩ := Fin.ext (by dsimp only; omega)
      rw [e']
      exact h.2 j

theorem h30 : 30 < cfg0.N := lt_of_lt_of_eq (by decide) N_0.symm
theorem h31 : 31 < cfg0.N := lt_of_lt_of_eq (by decide) N_0.symm

/-- A row's least value, from the last point. -/
theorem last_min (c : Dev nD) (R : Fin 2048) :
    rowMin (minNext (iblk m c 0 ⟨31, h31⟩) (iblk m c 4 ⟨31, h31⟩) (wAt m c ⟨31, h31⟩) (outsAt0 m c 30 h30).2.2.2.2.2.1) R
      = rowLo (hidM m c) R := by
  refine eq_of_forall_le_iff fun z => ?_
  rw [le_rowMin, le_rowLo]
  constructor
  · intro h
    have h' := fun l => (le_minNext m c ⟨31, h31⟩ _ R l z).1 (h l)
    have h'' := fun l => (le_outs_min m c R l z 30 h30 (by decide)).1 (h' l).1
    refine ⟨(h'' 0).1, fun j i => ?_⟩
    by_cases hi : i.val / 128 ≤ 30
    · have := (h'' ⟨i.val % 128, by omega⟩).2 ⟨i.val / 128, by omega⟩ hi j
      refine this.trans (le_of_eq (congrArg (hidM m c j R) (Fin.ext ?_)))
      show 128 * (i.val / 128) + i.val % 128 = i.val
      omega
    · have := (h' ⟨i.val % 128, by omega⟩).2 j
      refine this.trans (le_of_eq (congrArg (hidM m c j R) (Fin.ext ?_)))
      show 128 * 31 + i.val % 128 = i.val
      omega
  · intro h l
    exact (le_minNext m c ⟨31, h31⟩ _ R l z).2 ⟨(le_outs_min m c R l z 30 h30 (by decide)).2 ⟨h.1, fun t _ j => h.2 j _⟩, fun j => h.2 j _⟩
theorem last_max (c : Dev nD) (R : Fin 2048) :
    rowMax (maxNext (iblk m c 0 ⟨31, h31⟩) (iblk m c 4 ⟨31, h31⟩) (wAt m c ⟨31, h31⟩) (outsAt0 m c 30 h30).2.2.2.2.2.2) R
      = rowHi (hidM m c) R := by
  refine eq_of_forall_ge_iff fun z => ?_
  rw [rowMax_le, rowHi_le]
  constructor
  · intro h
    have h' := fun l => (maxNext_le m c ⟨31, h31⟩ _ R l z).1 (h l)
    have h'' := fun l => (outs_max_le m c R l z 30 h30 (by decide)).1 (h' l).1
    refine ⟨(h'' 0).1, fun j i => ?_⟩
    by_cases hi : i.val / 128 ≤ 30
    · have := (h'' ⟨i.val % 128, by omega⟩).2 ⟨i.val / 128, by omega⟩ hi j
      refine (le_of_eq (congrArg (hidM m c j R) (Fin.ext ?_))).trans this
      show i.val = 128 * (i.val / 128) + i.val % 128
      omega
    · have := (h' ⟨i.val % 128, by omega⟩).2 j
      refine (le_of_eq (congrArg (hidM m c j R) (Fin.ext ?_))).trans this
      show i.val = 128 * 31 + i.val % 128
      omega
  · intro h l
    exact (maxNext_le m c ⟨31, h31⟩ _ R l z).2 ⟨(outs_max_le m c R l z 30 h30 (by decide)).2 ⟨h.1, fun t _ j => h.2 j _⟩, fun j => h.2 j _⟩

/-- The fold at the last point is one step over the point before. -/
theorem last_step (c : Dev nD) (h : 0 + 31 < cfg0.N) :
    Pipeline.accAt (fun n h => stAt0 m c n h junk0) (stAt0 m c) 0 31 h = stAt0 m c 31 h31 (outsAt0 m c 30 h30) :=
  (outsAt0_sweep m c 31 h31).symm.trans (outsAt0_succ m c 30 h31)

/-- The array of gated products after the run. -/
theorem G5_eq (c : Dev nD) : (G5 m c : Vec Ideal S2x2048x4096 .f32) = fun i => hidM m c (i 0) (i 1) (i 2) := by
  funext i
  have hi0 : (i 0).val < 2 := (i 0).isLt
  have hi1 : (i 1).val < 2048 := (i 1).isLt
  have hi2 : (i 2).val < 4096 := (i 2).isLt
  have hp : pt5Of i = (i 2).val / 128 := by
    show 32 * ((i 0).val / 2 - 0) + 32 * ((i 1).val / 2048 - 0) + 1 * ((i 2).val / 128 - 0) = _
    omega
  have hl : loc5Of i = ix3 (i 0) (i 1) ⟨(i 2).val % 128, by omega⟩ := by
    funext a; apply Fin.ext
    match a with
    | ⟨0, _⟩ => show (i 0).val % 2 = (i 0).val; omega
    | ⟨1, _⟩ => show (i 1).val % 2048 = (i 1).val; omega
    | ⟨2, _⟩ => rfl
  have hd : (i 2).val / 128 < cfg0.N := lt_of_lt_of_eq (by omega : (i 2).val / 128 < 32) N_0.symm
  unfold G5
  rw [dif_pos (by rw [hp]; exact hd), hl, fold0_congr m c _ _ _ (by omega) hp, ← outsAt0_sweep m c _ hd]
  refine (outs_block m c _ hd (i 0) (i 1) ⟨(i 2).val % 128, by omega⟩).trans (congrArg (hidM m c (i 0) (i 1)) (Fin.ext ?_))
  show 128 * ((i 2).val / 128) + (i 2).val % 128 = (i 2).val
  omega

/-- The arrays of scales and zero points after the run. -/
theorem G6_eq (c : Dev nD) : (G6 m c : Vec Ideal S2048x128 .f32) = fun i => scaleOf (rowLo (hidM m c) (i 0)) (rowHi (hidM m c) (i 0)) := by
  rw [G6_last, last_step, at_scaleCol_C m c ⟨31, h31⟩ _ (by decide) (by decide)]
  funext i
  exact congrArg₂ scaleOf (last_min m c (i 0)) (last_max m c (i 0))
theorem G7_eq (c : Dev nD) : (G7 m c : Vec Ideal S2048x128 .f32) = fun i => zeroOf (rowLo (hidM m c) (i 0)) (rowHi (hidM m c) (i 0)) := by
  rw [G7_last, last_step, at_zeroCol_C m c ⟨31, h31⟩ _ (by decide) (by decide)]
  funext i
  exact congrArg₂ zeroOf (last_min m c (i 0)) (last_max m c (i 0))
theorem G8_eq (c : Dev nD) : (G8 m c : Vec Ideal S1x2048 .f32) = fun i => scaleOf (rowLo (hidM m c) (i 1)) (rowHi (hidM m c) (i 1)) := by
  rw [G8_last, last_step, at_scaleRow_C m c ⟨31, h31⟩ _ (by decide) (by decide)]
  funext i
  exact congrArg₂ scaleOf (last_min m c (i 1)) (last_max m c (i 1))
theorem G9_eq (c : Dev nD) : (G9 m c : Vec Ideal S1x2048 .i32) = fun i => Ideal.fptosi 32 (zeroOf (rowLo (hidM m c) (i 1)) (rowHi (hidM m c) (i 1))) := by
  rw [G9_last, last_step, at_zeroRow_C m c ⟨31, h31⟩ _ (by decide) (by decide)]
  funext i
  exact congrArg (Ideal.fptosi 32) (congrArg₂ zeroOf (last_min m c (i 1)) (last_max m c (i 1)))
end Cert.GateUp
-- ==== Proof.RefValue.lean ====
/- What the reference computes, entry by entry. -/
module
public import proofs.«01_k».proof.Proof.Fold
public import proofs.«01_k».proof.Proof.Gen.ReferenceIdeal.Read
@[expose] public section
set_option maxRecDepth 65536
noncomputable section
namespace Cert.GateUp
open Idealize.ShloMosaic Cert.ReferenceIdeal Cert.ReferenceIdeal.Gen Cert.ReferenceIdeal.Read

/-- A code's low nibble, sign restored by subtraction. -/
theorem low_nibble : ∀ b : BitVec 8, (Scalar.select (IntOp.cmpi .sge (IntOp.andi (b.setWidth 32) 15#32) 8#32)
    (IntOp.subi (IntOp.andi (b.setWidth 32) 15#32) 16#32) (IntOp.andi (b.setWidth 32) 15#32)).toInt = nib 0 b := by
  decide +kernel
/-- A code's high nibble, sign restored by subtraction. -/
theorem high_nibble : ∀ b : BitVec 8, (Scalar.select (IntOp.cmpi .sge (IntOp.shrsi ArithUnit.host (b.setWidth 32) 4#32) 8#32)
    (IntOp.subi (IntOp.shrsi ArithUnit.host (b.setWidth 32) 4#32) 16#32) (IntOp.shrsi ArithUnit.host (b.setWidth 32) 4#32)).toInt = nib 1 b := by
  decide +kernel

section
variable (x1 : Vec Ideal S3072x8192 .i8) (x2 : Vec Ideal S96x16384 .f32)

theorem w_lo (k : Fin 3072) (p : Fin 8192) : val_main_v24 (F := Ideal) x1 x2 (ix2 k p)
    = ((nib 0 (x1 (ix2 k p)) : ℝ) : EReal) * x2 (ix2 ⟨k.val / 32, by omega⟩ ⟨8192 * (0 : Fin 2).val + p.val, by show 8192 * 0 + p.val < 16384; omega⟩) := by
  pointwise [val_main_v24, val_main_v23, val_main_v18, val_main_v17, val_main_v16, val_main_v15, val_main_v7, val_main_v4, val_main_v6, val_main_v2, val_main_v0, val_main_v1, val_main_v3, val_main_v5, val_main_c, val_main_c_0, val_main_c_1]
  rw [← low_nibble]
  congr 1

theorem w_hi (k : Fin 3072) (p : Fin 8192) : val_main_v26 (F := Ideal) x1 x2 (ix2 k p)
    = ((nib 1 (x1 (ix2 k p)) : ℝ) : EReal) * x2 (ix2 ⟨k.val / 32, by omega⟩ ⟨8192 * (1 : Fin 2).val + p.val, by show 8192 * 1 + p.val < 16384; omega⟩) := by
  pointwise [val_main_v26, val_main_v25, val_main_v22, val_main_v21, val_main_v20, val_main_v19, val_main_v14, val_main_v11, val_main_v13, val_main_v9, val_main_v0, val_main_v8, val_main_v10, val_main_v12, val_main_c_2, val_main_c_3, val_main_c_4]
  rw [← high_nibble]
  congr 1
end

variable (x0 : Vec Ideal S2048x3072 .bf16) (x1 : Vec Ideal S3072x8192 .i8) (x2 : Vec Ideal S96x16384 .f32) (x3 : Vec Ideal S2048x1 .f32)

theorem dot_lo (R : Fin 2048) (p : Fin 8192) :
    ∑ k : Fin 3072, x0 (ix2 R k) * val_main_v24 (F := Ideal) x1 x2 (ix2 k p) = nibDot x0 x1 x2 0 R p :=
  Finset.sum_congr rfl fun k _ => congrArg (x0 (ix2 R k) * ·) (w_lo x1 x2 k p)
theorem dot_hi (R : Fin 2048) (p : Fin 8192) :
    ∑ k : Fin 3072, x0 (ix2 R k) * val_main_v26 (F := Ideal) x1 x2 (ix2 k p) = nibDot x0 x1 x2 1 R p :=
  Finset.sum_congr rfl fun k _ => congrArg (x0 (ix2 R k) * ·) (w_hi x1 x2 k p)

/-- Even and odd packed columns, in the two ways of writing them. -/
theorem even_col (i : Fin 4096) : (⟨i.val * 2, by omega⟩ : Fin 8192) = ⟨2 * i.val, by omega⟩ := Fin.ext (Nat.mul_comm _ _)
theorem odd_col (i : Fin 4096) : (⟨i.val * 2 + 1, by omega⟩ : Fin 8192) = ⟨2 * i.val + 1, by omega⟩ := Fin.ext (by dsimp only; omega)

theorem h_lo (R : Fin 2048) (i : Fin 4096) : val_main_v45 (F := Ideal) x0 x1 x2 x3 (ix2 R i) = hid x0 x1 x2 x3 0 R i := by
  pointwise [val_main_v45, val_main_v44, val_main_v43, val_main_v42, val_main_v41, val_main_v40, val_main_v39, val_main_v38, val_main_v37, val_main_v36, val_main_v35, val_main_v34, val_main_v33, val_main_v29, val_main_v28, val_main_v27, val_main_cst, val_main_cst_5]
  rw [dot_lo, dot_lo, even_col, odd_col]
  rfl
theorem h_hi (R : Fin 2048) (i : Fin 4096) : val_main_v58 (F := Ideal) x0 x1 x2 x3 (ix2 R i) = hid x0 x1 x2 x3 1 R i := by
  pointwise [val_main_v58, val_main_v57, val_main_v56, val_main_v55, val_main_v54, val_main_v53, val_main_v52, val_main_v51, val_main_v50, val_main_v49, val_main_v48, val_main_v47, val_main_v46, val_main_v32, val_main_v31, val_main_v30, val_main_cst_6, val_main_cst_7]
  rw [dot_hi, dot_hi, even_col, odd_col]
  rfl

/-- The stacked gated products. -/
theorem h_stack (j : Fin 2) (R : Fin 2048) (i : Fin 4096) :
    val_main_v61 (F := Ideal) x0 x1 x2 x3 (ix3 j R i) = hid x0 x1 x2 x3 j R i := by
  have e : val_main_v61 (F := Ideal) x0 x1 x2 x3 (ix3 j R i)
      = if h : j.val < 1 then val_main_v45 (F := Ideal) x0 x1 x2 x3 (ix2 R i) else val_main_v58 (F := Ideal) x0 x1 x2 x3 (ix2 R i) := by
    pointwise [val_main_v61, val_main_v60, val_main_v59]
  rw [e, h_lo, h_hi]
  match j with
  | 0 => rfl
  | 1 => rfl

/-- The halves side by side. -/
theorem h_mid (R : Fin 2048) (p : Fin 8192) : val_main_v66 (F := Ideal) x0 x1 x2 x3 (ix2 R p)
    = hid x0 x1 x2 x3 ⟨p.val / 4096, by omega⟩ R ⟨p.val % 4096, by omega⟩ := by
  have e : val_main_v66 (F := Ideal) x0 x1 x2 x3 (ix2 R p)
      = if h : p.val < 4096 then val_main_v61 (F := Ideal) x0 x1 x2 x3 (ix3 0 R ⟨p.val, h⟩)
        else val_main_v61 (F := Ideal) x0 x1 x2 x3 (ix3 1 R ⟨p.val - 4096, by omega⟩) := by
    pointwise [val_main_v66, val_main_v63, val_main_v62, val_main_v65, val_main_v64]
  rw [e]
  by_cases h : p.val < 4096
  · rw [dif_pos h, h_stack]
    congr 1
    · exact Fin.ext (by show 0 = p.val / 4096; omega)
    · exact Fin.ext (by show p.val = p.val % 4096; omega)
  · rw [dif_neg h, h_stack]
    congr 1
    · exact Fin.ext (by show 1 = p.val / 4096; omega)
    · exact Fin.ext (by show p.val - 4096 = p.val % 4096; omega)

/-- A row's least and greatest entry, for any array. -/
theorem reduce_min (x : Vec Ideal S2048x8192 .f32) (R : Fin 2048) :
    Host.reduce (α := Ideal .f32) FloatOps.minimumf x (val_main_cst_8 (F := Ideal)) reducesTo_S2048x8192_S2048_d1 h_S_ (ix1 R)
      = Finset.fold min (Ideal.ofBits .f32 2139095040#32) (fun p : Fin 8192 => x (ix2 R p)) Finset.univ := by
  pointwise [val_main_cst_8]
theorem reduce_max (x : Vec Ideal S2048x8192 .f32) (R : Fin 2048) :
    Host.reduce (α := Ideal .f32) FloatOps.maximumf x (val_main_cst_10 (F := Ideal)) reducesTo_S2048x8192_S2048_d1 h_S_ (ix1 R)
      = Finset.fold max (Ideal.ofBits .f32 4286578688#32) (fun p : Fin 8192 => x (ix2 R p)) Finset.univ := by
  pointwise [val_main_cst_10]

theorem zero_bits : Ideal.ofBits .f32 0#32 = 0 := by
  simp [Ideal.ofBits, Ideal.ieee, -EReal.coe_mul]

theorem row_lo (R : Fin 2048) : val_main_v69 (F := Ideal) x0 x1 x2 x3 (ix1 R) = rowLo (hid x0 x1 x2 x3) R := by
  have e : val_main_v69 (F := Ideal) x0 x1 x2 x3 (ix1 R) = min (val_main_v67 (F := Ideal) x0 x1 x2 x3 (ix1 R)) (Ideal.ofBits .f32 0#32) := by
    rw [val_main_v69_apply, val_main_v68_apply]
    rfl
  rw [e, zero_bits]
  have e2 : val_main_v67 (F := Ideal) x0 x1 x2 x3 (ix1 R) = _ := reduce_min (val_main_v66 (F := Ideal) x0 x1 x2 x3) R
  rw [e2, ofBits_top]
  refine eq_of_forall_le_iff fun z => ?_
  rw [le_min_iff, Finset.le_fold_min, le_rowLo]
  constructor
  · rintro ⟨⟨-, h⟩, h0⟩
    refine ⟨h0, fun j i => ?_⟩
    have := h ⟨4096 * j.val + i.val, by omega⟩ (Finset.mem_univ _)
    rw [h_mid] at this
    convert this using 2
    · exact Fin.ext (by show j.val = (4096 * j.val + i.val) / 4096; omega)
    · exact Fin.ext (by show i.val = (4096 * j.val + i.val) % 4096; omega)
  · rintro ⟨h0, h⟩
    exact ⟨⟨le_top, fun p _ => by rw [h_mid]; exact h _ _⟩, h0⟩
theorem row_hi (R : Fin 2048) : val_main_v72 (F := Ideal) x0 x1 x2 x3 (ix1 R) = rowHi (hid x0 x1 x2 x3) R := by
  have e : val_main_v72 (F := Ideal) x0 x1 x2 x3 (ix1 R) = max (val_main_v70 (F := Ideal) x0 x1 x2 x3 (ix1 R)) (Ideal.ofBits .f32 0#32) := by
    rw [val_main_v72_apply, val_main_v71_apply]
    rfl
  rw [e, zero_bits]
  have e2 : val_main_v70 (F := Ideal) x0 x1 x2 x3 (ix1 R) = _ := reduce_max (val_main_v66 (F := Ideal) x0 x1 x2 x3) R
  rw [e2, ofBits_bot]
  refine eq_of_forall_ge_iff fun z => ?_
  rw [max_le_iff, Finset.fold_max_le, rowHi_le]
  constructor
  · rintro ⟨⟨-, h⟩, h0⟩
    refine ⟨h0, fun j i => ?_⟩
    have := h ⟨4096 * j.val + i.val, by omega⟩ (Finset.mem_univ _)
    rw [h_mid] at this
    convert this using 2
    · exact Fin.ext (by show j.val = (4096 * j.val + i.val) / 4096; omega)
    · exact Fin.ext (by show i.val = (4096 * j.val + i.val) % 4096; omega)
  · rintro ⟨h0, h⟩
    exact ⟨⟨bot_le, fun p _ => by rw [h_mid]; exact h _ _⟩, h0⟩
end Cert.GateUp
-- ==== Proof.RefParams.lean ====
/- The reference's scales and zero points, and its five results. -/
module
public import proofs.«01_k».proof.Proof.RefValue
@[expose] public section
set_option maxRecDepth 65536
noncomputable section
namespace Cert.GateUp
open Idealize.ShloMosaic Cert.ReferenceIdeal Cert.ReferenceIdeal.Gen Cert.ReferenceIdeal.Read

/-- The scale chosen for a range, as the reference writes it. -/
theorem select_scale (lo hi : EReal) :
    (Scalar.select (FloatOps.cmpf (F := Ideal) (φ := .f32) .oeq (FloatOps.subf (F := Ideal) (φ := .f32) hi lo) (FloatOps.ofBits (F := Ideal) .f32 0x00000000#32))
      (FloatOps.ofBits (F := Ideal) .f32 0x3F800000#32)
      (FloatOps.hostDivf (F := Ideal) (φ := .f32) (FloatOps.subf (F := Ideal) (φ := .f32) hi lo) (FloatOps.ofBits (F := Ideal) .f32 0x437F0000#32)) : EReal)
      = scaleOf lo hi := by
  pointwise [scaleOf]

/-- The bounds of a signed byte, from integers and from their bits. -/
theorem lo_bound : (FloatOps.sitofp (F := Ideal) .f32 4294967168#32 : EReal) = Ideal.ofBits .f32 3271557120#32 := by
  have h : (4294967168#32).toInt = -128 := by decide
  show (((4294967168#32).toInt : ℝ) : EReal) = _
  rw [h]
  simp [Ideal.ofBits, Ideal.ieee, -EReal.coe_mul]
  norm_num
theorem hi_bound : (FloatOps.sitofp (F := Ideal) .f32 127#32 : EReal) = Ideal.ofBits .f32 1123942400#32 := by
  have h : (127#32).toInt = 127 := by decide
  show (((127#32).toInt : ℝ) : EReal) = _
  rw [h]
  simp [Ideal.ofBits, Ideal.ieee, -EReal.coe_mul]
  norm_num

variable (x0 : Vec Ideal S2048x3072 .bf16) (x1 : Vec Ideal S3072x8192 .i8) (x2 : Vec Ideal S96x16384 .f32) (x3 : Vec Ideal S2048x1 .f32)

theorem ref_scale (R : Fin 2048) : val_main_v78 (F := Ideal) x0 x1 x2 x3 (ix1 R)
    = scaleOf (rowLo (hid x0 x1 x2 x3) R) (rowHi (hid x0 x1 x2 x3) R) := by
  rw [val_main_v78_apply, val_main_v75_apply, val_main_v77_apply, val_main_v73_apply, row_lo, row_hi, val_main_v74_apply, val_main_v76_apply,
    val_main_call2_v1_apply, val_main_call2_v0_apply]
  exact select_scale _ _

theorem ref_zero (R : Fin 2048) : val_main_v83 (F := Ideal) x0 x1 x2 x3 (ix1 R)
    = zeroOf (rowLo (hid x0 x1 x2 x3) R) (rowHi (hid x0 x1 x2 x3) R) := by
  rw [val_main_v83_apply, val_main_call4_v4_apply, val_main_call4_v3_apply, val_main_call4_v2_apply, val_main_call4_v1_apply, val_main_call4_v0_apply,
    val_main_v82_apply, val_main_v81_apply, val_main_v80_apply, val_main_v79_apply, row_lo, ref_scale]
  have e1 : (FloatOps.sitofp (F := Ideal) .f32 (val_main_c_17 (F := Ideal) (idx_main_call4_v4 (ix1 R))) : EReal) = _ := hi_bound
  have e0 : (FloatOps.sitofp (F := Ideal) .f32 (val_main_c_16 (F := Ideal) (idx_main_call4_v1 (ix1 R))) : EReal) = _ := lo_bound
  rw [e1, e0]
  rfl

/-- The reference's results. -/
theorem ref0 : val_main_v61 (F := Ideal) x0 x1 x2 x3 = fun i => hid x0 x1 x2 x3 (i 0) (i 1) (i 2) := by
  funext i
  rw [show i = ix3 (n0 := 2) (n1 := 2048) (n2 := 4096) (i 0) (i 1) (i 2) from by
    funext a
    match a with
    | ⟨0, _⟩ => rfl
    | ⟨1, _⟩ => rfl
    | ⟨2, _⟩ => rfl]
  exact h_stack x0 x1 x2 x3 (i 0) (i 1) (i 2)
theorem ref1 : val_main_v85 (F := Ideal) x0 x1 x2 x3
    = fun i => scaleOf (rowLo (hid x0 x1 x2 x3) (i 0)) (rowHi (hid x0 x1 x2 x3) (i 0)) := by
  funext i
  rw [val_main_v85_apply, val_main_v84_apply]
  refine Eq.trans (congrArg _ ?_) (ref_scale x0 x1 x2 x3 (i 0))
  funext a
  match a with
  | ⟨0, _⟩ => rfl
theorem ref2 : val_main_v87 (F := Ideal) x0 x1 x2 x3
    = fun i => zeroOf (rowLo (hid x0 x1 x2 x3) (i 0)) (rowHi (hid x0 x1 x2 x3) (i 0)) := by
  funext i
  rw [val_main_v87_apply, val_main_v86_apply]
  refine Eq.trans (congrArg _ ?_) (ref_zero x0 x1 x2 x3 (i 0))
  funext a
  match a with
  | ⟨0, _⟩ => rfl
theorem ref3 : val_main_v88 (F := Ideal) x0 x1 x2 x3
    = fun i => scaleOf (rowLo (hid x0 x1 x2 x3) (i 1)) (rowHi (hid x0 x1 x2 x3) (i 1)) := by
  funext i
  rw [val_main_v88_apply]
  refine Eq.trans (congrArg _ ?_) (ref_scale x0 x1 x2 x3 (i 1))
  funext a
  match a with
  | ⟨0, _⟩ => rfl
theorem ref4 : val_main_v90 (F := Ideal) x0 x1 x2 x3
    = fun i => Ideal.fptosi 32 (zeroOf (rowLo (hid x0 x1 x2 x3) (i 1)) (rowHi (hid x0 x1 x2 x3) (i 1))) := by
  funext i
  rw [val_main_v90_apply, val_main_v89_apply]
  refine congrArg (Ideal.fptosi 32) (Eq.trans (congrArg _ ?_) (ref_zero x0 x1 x2 x3 (i 1)))
  funext a
  match a with
  | ⟨0, _⟩ => rfl
end Cert.GateUp
-- ==== Proof.DownStripes.lean ====
/- The weight block of one grid step of the down projection: 384 stripes, each 32 rows of signed nibbles times their
   group's scales, the low nibbles in the left half of the columns and the high nibbles in the right half. -/
module
public import proofs.«01_k».proof.Proof.StripeValue
public import proofs.«01_k».proof.Proof.Gen.DownIdeal.Frame.Runs
public import Idealize.ShloMosaic.Lib.Pipeline.ValueKit
public import Idealize.ShloMosaic.Lib.WholeRead
@[expose] public section
set_option maxRecDepth 65536
noncomputable section
namespace Cert.DownProj
open Idealize.ShloMosaic hiding ix1 ix2 ix3
open Idealize.ShloMosaic.ValueIdx Idealize.ShloMosaic.TcCoe Idealize.ShloMosaic.Tactic Cert.DownIdeal Cert.DownIdeal.Gen Cert.GateUp

section
variable {F : FTy → Type} [FloatOps F]

theorem inbCodes (k : Fin 2) (j : Fin 12) : ∀ a, (![256 * k.val, 128 * j.val] : Fin 2 → Nat) a + S256x128.size a ≤ S512x1536.size a := by
  revert k j; decide
theorem inbScales (k : Fin 2) (j : Fin 12) : ∀ a, (![8 * k.val, 128 * j.val] : Fin 2 → Nat) a + S8x128.size a ≤ S16x1536.size a := by
  revert k j; decide

/-- The chunk of rows, the block of columns, the group and the nibble of stripe `n`, counted in the order of writing. -/
def rowsIx (n : Fin 384) : Fin 2 := ⟨n.val / 192, by omega⟩
def colsIx (n : Fin 384) : Fin 12 := ⟨n.val % 192 / 16, by omega⟩
def grpIx (n : Fin 384) : Fin 8 := ⟨n.val % 16 / 2, by omega⟩
def nibIx (n : Fin 384) : Fin 2 := ⟨n.val % 2, by omega⟩

def wOff (n : Fin 384) : Fin 2 → Nat :=
  ![256 * (rowsIx n).val + 32 * (grpIx n).val, 1536 * (nibIx n).val + 128 * (colsIx n).val]

theorem inbW (n : Fin 384) : ∀ a, wOff n a + S32x128.size a ≤ S512x3072.size a := by
  obtain ⟨n, hn⟩ := n
  intro a
  fin_cases a <;> simp [wOff, rowsIx, colsIx, grpIx, nibIx, S32x128, S512x3072] <;> omega

/-- A stripe from a chunk of packed codes and a block of scales. -/
def plainStripe (hi : Fin 2) (g : Fin 8) (x : IVec S256x128 8) (s : FVec F S8x128 .f32) : FVec F S32x128 .bf16 :=
  stripe g (byteVals (masked hi (bitcast S64x128 32 x bitcasts_S256x128_w8_S64x128_w32))) (sixteenth s)

section
variable (arg4 : Memref sig .tc .vmem S512x1536 .i8) (harg4 : arg4.IsWhole)
  (arg5 : Memref sig .tc .vmem S16x1536 .f32) (harg5 : arg5.IsWhole)
  (arg6 : Memref sig .tc .vmem S16x1536 .f32) (harg6 : arg6.IsWhole)
  (x3 : Vec F S512x1536 .i8) (x4 x5 : Vec F S16x1536 .f32)

/-- One chunk of packed codes as the step loads it. -/
def codesLoad (k : Fin 2) (j : Fin 12) : IVec S256x128 8 :=
  View.readAt (Elt F) arg4.view (Rect.unit (s := S512x1536) ![256 * k.val, 128 * j.val] S256x128.size (inbCodes k j)).toLoadRect (harg4.unread x3)

/-- One block of scales as the step loads it. -/
def scalesLoad (m : Memref sig .tc .vmem S16x1536 .f32) (h : m.IsWhole) (x : Vec F S16x1536 .f32) (k : Fin 2) (j : Fin 12) : FVec F S8x128 .f32 :=
  View.readAt (Elt F) m.view (Rect.unit (s := S16x1536) ![8 * k.val, 128 * j.val] S8x128.size (inbScales k j)).toLoadRect (h.unread x)

/-- The scales of the low nibbles or of the high nibbles. -/
def nibScales (hi : Fin 2) (k : Fin 2) (j : Fin 12) : FVec F S8x128 .f32 :=
  match hi with
  | 0 => scalesLoad arg5 harg5 x4 k j
  | 1 => scalesLoad arg6 harg6 x5 k j

/-- Stripe `n` of the weight block. -/
def wStripe (n : Fin 384) : FVec F S32x128 .bf16 :=
  plainStripe (nibIx n) (grpIx n) (codesLoad arg4 harg4 x3 (rowsIx n) (colsIx n))
    (nibScales arg5 harg5 arg6 harg6 x4 x5 (nibIx n) (rowsIx n) (colsIx n))

/-- The stripes, newest first. -/
def wStripes : List (View.Piece (Elt F) S512x3072 .bf16) :=
  List.ofFn fun n : Fin 384 => ⟨Rect.unit (s := S512x3072) (wOff n.rev) S32x128.size (inbW n.rev),
    wStripe arg4 harg4 arg5 harg5 arg6 harg6 x3 x4 x5 n.rev⟩
end
end

theorem plainStripe_at (hi : Fin 2) (g : Fin 8) (x : IVec S256x128 8) (s : FVec Ideal S8x128 .f32) (r : Fin 32) (l : Fin 128) :
    plainStripe hi g x s (ix2 r l)
      = (((nib hi (x (ix2 ⟨32 * g.val + r.val, by omega⟩ l))) : ℝ) : EReal) * s (ix2 g l) := by
  have hs : plainStripe hi g x s (ix2 r l)
      = (byteVals (F := Ideal) (masked hi (bitcast S64x128 32 x bitcasts_S256x128_w8_S64x128_w32)))
          (ix2 ⟨32 * g.val + r.val, by omega⟩ l) * sixteenth s (ix2 g l) := stripe_at _ _ _ _ _
  rw [hs]
  unfold byteVals
  rw [ValueIdx.sitofp_apply, masked_byte hi _ ⟨32 * g.val + r.val, by omega⟩ l (x (ix2 ⟨32 * g.val + r.val, by omega⟩ l))
    (fun q hq => packed_bit x ⟨32 * g.val + r.val, by omega⟩ l q hq)]
  show (((topBits hi _).toInt : ℝ) : EReal) * _ = _
  rw [topBits_toInt, sixteenth_at]
  exact sixteen_sixteenth _ _

/-- The packed column of a weight column, and the nibble it takes. -/
def pCol (c : Fin 3072) : Fin 1536 := ⟨c.val % 1536, by omega⟩
def pNib (c : Fin 3072) : Fin 2 := ⟨c.val / 1536, by omega⟩

/-- The low nibbles' or the high nibbles' scale. -/
def choose (hi : Fin 2) (lo up : EReal) : EReal := match hi with | 0 => lo | 1 => up

/-- The unpacked weight block: signed nibble times the scale of its group of 32 rows. -/
def downBlock (x3 : Vec Ideal S512x1536 .i8) (x4 x5 : Vec Ideal S16x1536 .f32) : Vec Ideal S512x3072 .bf16 := fun y =>
  let k : Fin 512 := y 0
  let c : Fin 3072 := y 1
  (((nib (pNib c) (x3 (ix2 k (pCol c)))) : ℝ) : EReal)
    * choose (pNib c) (x4 (ix2 ⟨k.val / 32, by omega⟩ (pCol c))) (x5 (ix2 ⟨k.val / 32, by omega⟩ (pCol c)))

section
variable (arg4 : Memref sig .tc .vmem S512x1536 .i8) (harg4 : arg4.IsWhole)
  (arg5 : Memref sig .tc .vmem S16x1536 .f32) (harg5 : arg5.IsWhole)
  (arg6 : Memref sig .tc .vmem S16x1536 .f32) (harg6 : arg6.IsWhole)
  (x3 : Vec Ideal S512x1536 .i8) (x4 x5 : Vec Ideal S16x1536 .f32)

theorem codesLoad_at (k : Fin 2) (j : Fin 12) (R : Fin 256) (l : Fin 128) :
    codesLoad (F := Ideal) arg4 harg4 x3 k j (ix2 R l)
      = x3 (ix2 ⟨256 * k.val + R.val, by omega⟩ ⟨128 * j.val + l.val, by omega⟩) := by
  unfold codesLoad
  rw [Memref.IsWhole.readAt_unread]
  congr 1
  funext c
  match c with
  | ⟨0, _⟩ => exact Fin.ext (by show 256 * k.val + 1 * R.val = _; simp)
  | ⟨1, _⟩ => exact Fin.ext (by show 128 * j.val + 1 * l.val = _; simp)

theorem scalesLoad_at (m : Memref sig .tc .vmem S16x1536 .f32) (h : m.IsWhole) (x : Vec Ideal S16x1536 .f32)
    (k : Fin 2) (j : Fin 12) (g : Fin 8) (l : Fin 128) :
    scalesLoad (F := Ideal) m h x k j (ix2 g l)
      = x (ix2 ⟨8 * k.val + g.val, by omega⟩ ⟨128 * j.val + l.val, by omega⟩) := by
  unfold scalesLoad
  rw [Memref.IsWhole.readAt_unread]
  congr 1
  funext c
  match c with
  | ⟨0, _⟩ => exact Fin.ext (by show 8 * k.val + 1 * g.val = _; simp)
  | ⟨1, _⟩ => exact Fin.ext (by show 128 * j.val + 1 * l.val = _; simp)

omit x3 x4 x5 in
/-- A stripe's element is the weight block's where the stripe lies. -/
theorem stripe_in_down (x3 : Vec Ideal S512x1536 .i8) (x4 x5 : Vec Ideal S16x1536 .f32)
    (k : Fin 2) (j : Fin 12) (hi : Fin 2) (g : Fin 8) (r : Fin 32) (l : Fin 128) (R : Fin 512) (c : Fin 3072)
    (h0 : R.val = 256 * k.val + 32 * g.val + r.val) (h1 : c.val = 1536 * hi.val + 128 * j.val + l.val) :
    plainStripe (F := Ideal) hi g (codesLoad arg4 harg4 x3 k j) (nibScales arg5 harg5 arg6 harg6 x4 x5 hi k j) (ix2 r l)
      = downBlock x3 x4 x5 (ix2 R c) := by
  have ec : pCol c = ⟨128 * j.val + l.val, by omega⟩ := Fin.ext (by show c.val % 1536 = _; simp; omega)
  have en : pNib c = hi := Fin.ext (by show c.val / 1536 = _; omega)
  have er : (⟨R.val / 32, by omega⟩ : Fin 16) = ⟨8 * k.val + g.val, by omega⟩ := Fin.ext (by simp; omega)
  have ek : R = ⟨256 * k.val + (32 * g.val + r.val), by omega⟩ := Fin.ext (by simp; omega)
  show _ = (((nib (pNib c) (x3 (ix2 R (pCol c)))) : ℝ) : EReal)
    * choose (pNib c) (x4 (ix2 ⟨R.val / 32, by omega⟩ (pCol c))) (x5 (ix2 ⟨R.val / 32, by omega⟩ (pCol c)))
  rw [plainStripe_at, codesLoad_at, ec, en, er, ← ek]
  match hi with
  | 0 => dsimp only [choose, nibScales]; rw [scalesLoad_at]
  | 1 => dsimp only [choose, nibScales]; rw [scalesLoad_at]

omit arg4 harg4 arg5 harg5 arg6 harg6 x3 x4 x5 in
theorem stripe_no (a b g e : Nat) (ha : a < 2) (hb : b < 12) (hg : g < 8) (he : e < 2) :
    a * 192 + b * 16 + g * 2 + e < 384 ∧ (a * 192 + b * 16 + g * 2 + e) / 192 = a
      ∧ (a * 192 + b * 16 + g * 2 + e) % 192 / 16 = b ∧ (a * 192 + b * 16 + g * 2 + e) % 16 / 2 = g
      ∧ (a * 192 + b * 16 + g * 2 + e) % 2 = e := by omega

/-- The 384 stripes together are the weight block. -/
theorem canon_wStripes :
    View.canon (wStripes (F := Ideal) arg4 harg4 arg5 harg5 arg6 harg6 x3 x4 x5) = downBlock x3 x4 x5 := by
  funext y
  have hy0 : (y 0).val < 512 := (y 0).isLt
  have hy1 : (y 1).val < 3072 := (y 1).isLt
  refine View.canon_ofFn_unit_eq_of_forall (S := S512x3072) (Val := Elt Ideal) (e := .bf16) (fun n : Fin 384 => wOff n.rev) S32x128.size (fun n => inbW n.rev)
    (fun n => wStripe arg4 harg4 arg5 harg5 arg6 harg6 x3 x4 x5 n.rev) y _ ?_ ?_
  · obtain ⟨hn, n1, n2, n3, n4⟩ := stripe_no ((y 0).val / 256) ((y 1).val % 1536 / 128) ((y 0).val % 256 / 32) ((y 1).val / 1536)
      (by omega) (by omega) (by omega) (by omega)
    refine ⟨(⟨_, hn⟩ : Fin 384).rev, ?_⟩
    rw [Fin.rev_rev]
    intro a
    match a with
    | ⟨0, _⟩ =>
      simp only [wOff, rowsIx, colsIx, grpIx, nibIx, n1, n2, n3, n4]
      show 256 * ((y 0).val / 256) + 32 * ((y 0).val % 256 / 32) ≤ (y 0).val ∧ (y 0).val < 256 * ((y 0).val / 256) + 32 * ((y 0).val % 256 / 32) + 32
      omega
    | ⟨1, _⟩ =>
      simp only [wOff, rowsIx, colsIx, grpIx, nibIx, n1, n2, n3, n4]
      show 1536 * ((y 1).val / 1536) + 128 * ((y 1).val % 1536 / 128) ≤ (y 1).val ∧ (y 1).val < 1536 * ((y 1).val / 1536) + 128 * ((y 1).val % 1536 / 128) + 128
      omega
  · intro n' x hx
    generalize hn : n'.rev = n at hx ⊢
    have h0 : (y 0).val = 256 * (rowsIx n).val + 32 * (grpIx n).val + (x 0).val := hx 0
    have h1 : (y 1).val = 1536 * (nibIx n).val + 128 * (colsIx n).val + (x 1).val := hx 1
    show wStripe arg4 harg4 arg5 harg5 arg6 harg6 x3 x4 x5 n x = _
    rw [show x = ix2 (x 0) (x 1) from ValueIdx.eq_ix2 (n0 := 32) (n1 := 128) x]
    exact stripe_in_down arg4 harg4 arg5 harg5 arg6 harg6 x3 x4 x5 (rowsIx n) (colsIx n) (nibIx n) (grpIx n) (x 0) (x 1) (y 0) (y 1) h0 h1
end
end Cert.DownProj
-- ==== Proof.DownParts.lean ====
/- The parts of one grid step of the down projection: quantised activation rows, and the accumulator blocks they and the
   weight block are added into. -/
module
public import proofs.«01_k».proof.Proof.DownStripes
public import Idealize.ShloMosaic.Lib.Pointwise
public import Idealize.ShloMosaic.Lib.Pipeline.ValueKit
public import Idealize.ShloMosaic.Lib.WholeRead
@[expose] public section
set_option maxRecDepth 65536
noncomputable section
namespace Cert.DownProj
open Idealize.ShloMosaic Idealize.ShloMosaic.TcCoe Cert.DownIdeal Cert.DownIdeal.Gen

section
variable {F : FTy → Type} [FloatOps F]

theorem inbH3 (b : Fin 8) : ∀ a, (![0, 256 * b.val, 0] : Fin 3 → Nat) a + S1x256x512.size a ≤ S1x2048x512.size a := by
  revert b; decide
theorem inbLane (b : Fin 8) : ∀ a, (![256 * b.val, 0] : Fin 2 → Nat) a + S256x128.size a ≤ S2048x128.size a := by
  revert b; decide
theorem inbCode (b : Fin 8) : ∀ a, (![256 * b.val, 0] : Fin 2 → Nat) a + S256x512.size a ≤ S2048x512.size a := by
  revert b; decide
theorem inbCols (j : Fin 3) : ∀ a, (![0, 1024 * j.val] : Fin 2 → Nat) a + S512x1024.size a ≤ S512x3072.size a := by
  revert j; decide

/-- The row block and the column block of accumulator block `n`, counted in the order of writing. -/
def accRow (n : Fin 24) : Fin 8 := ⟨n.val / 3, by omega⟩
def accCol (n : Fin 24) : Fin 3 := ⟨n.val % 3, by omega⟩

theorem inbAcc (b : Fin 8) (j : Fin 3) : ∀ a, (![256 * b.val, 1024 * j.val] : Fin 2 → Nat) a + S256x1024.size a ≤ S2048x3072.size a := by
  revert b j; decide

/-- Accumulator block `n`. -/
abbrev accRect (n : Fin 24) : Rect S2048x3072 :=
  Rect.unit (s := S2048x3072) ![256 * (accRow n).val, 1024 * (accCol n).val] S256x1024.size (inbAcc (accRow n) (accCol n))

section
variable (arg1 : Memref sig .tc .vmem S1x2048x512 .f32) (harg1 : arg1.IsWhole) (arg2 : Memref sig .tc .vmem S2048x128 .f32) (harg2 : arg2.IsWhole)
  (arg3 : Memref sig .tc .vmem S2048x128 .f32) (harg3 : arg3.IsWhole)
  (x0 : Vec F S1x2048x512 .f32) (x1 x2 : Vec F S2048x128 .f32) (W : Fin 3 → Vec F S512x1024 .bf16)

/-- A row block of the activations, or of an array of lanes, as the step loads it. -/
def hLoad (b : Fin 8) : Vec F S1x256x512 .f32 :=
  View.readAt (Elt F) arg1.view (Rect.unit (s := S1x2048x512) ![0, 256 * b.val, 0] S1x256x512.size (inbH3 b)).toLoadRect (harg1.unread x0)
def laneLoad (m : Memref sig .tc .vmem S2048x128 .f32) (h : m.IsWhole) (x : Vec F S2048x128 .f32) (b : Fin 8) : Vec F S256x128 .f32 :=
  View.readAt (Elt F) m.view (Rect.unit (s := S2048x128) ![256 * b.val, 0] S256x128.size (inbLane b)).toLoadRect (h.unread x)

/-- The quantised rows of a row block, less their zero points. -/
def aRows (b : Fin 8) : FVec F S256x512 .bf16 :=
  k0_pay960 (k0_pay957 (laneLoad arg3 harg3 x2 b))
    (k0_pay958 (hLoad arg1 harg1 x0 b) (laneLoad arg2 harg2 x1 b) (laneLoad arg3 harg3 x2 b))

/-- Accumulator block `n` after a step, from what it was. -/
def accStep (n : Fin 24) (old : Vec F S256x1024 .f32) : FVec F S256x1024 .f32 :=
  k0_pay1 (aRows arg1 harg1 arg2 harg2 arg3 harg3 x0 x1 x2 (accRow n)) old (W (accCol n))

/-- The codes one step writes, newest first. -/
def codePieces : List (View.Piece (Elt F) S2048x512 .i8) :=
  List.ofFn fun b : Fin 8 => ⟨Rect.unit (s := S2048x512) ![256 * b.rev.val, 0] S256x512.size (inbCode b.rev),
    k0_pay959 (hLoad arg1 harg1 x0 b.rev) (laneLoad arg2 harg2 x1 b.rev) (laneLoad arg3 harg3 x2 b.rev)⟩
end

/-- What the first step writes to the accumulator, after `k` blocks: zeros everywhere, then block by block the step's
    value of what was there. -/
def accFirst (m : Memref sig .tc .vmem S2048x3072 .f32) (st : Fin 24 → Vec F S256x1024 .f32 → Vec F S256x1024 .f32)
    (zero : Vec F S2048x3072 .f32) : (k : Nat) → k ≤ 24 → List (View.Piece (Elt F) S2048x3072 .f32)
  | 0, _ => [⟨Rect.unit (s := S2048x3072) ![0, 0] S2048x3072.size inb_S2048x3072_S2048x3072_0_0, zero⟩]
  | k + 1, h => ⟨accRect ⟨k, h⟩, st ⟨k, h⟩ (m.view.readCov (accFirst m st zero k (Nat.le_of_succ_le h)) (accRect ⟨k, h⟩).toLoadRect)⟩
      :: accFirst m st zero k (Nat.le_of_succ_le h)

/-- What a later step writes to an accumulator that held `xs`; newest first. -/
def accLater (m : Memref sig .tc .vmem S2048x3072 .f32) (h : m.IsWhole) (st : Fin 24 → Vec F S256x1024 .f32 → Vec F S256x1024 .f32)
    (xs : Vec F S2048x3072 .f32) : List (View.Piece (Elt F) S2048x3072 .f32) :=
  List.ofFn fun n : Fin 24 => ⟨accRect n.rev, st n.rev (View.readAt (Elt F) m.view (accRect n.rev).toLoadRect (h.unread xs))⟩
end

/-! ## Their values -/

/-- An activation's code before it is stored: scaled, rounded, moved by the zero point, clipped. -/
def quant (h s z : EReal) : EReal :=
  min ((127 : ℝ) : EReal) (max ((-128 : ℝ) : EReal) (Ideal.liftRound Ideal.roundHalfEven (h * Ideal.div 1 s) + z))

/-- The code at row `R`, column `k` of a step's block. -/
def quantAt (x0 : Vec Ideal S1x2048x512 .f32) (x1 x2 : Vec Ideal S2048x128 .f32) (R : Fin 2048) (k : Fin 512) : EReal :=
  quant (x0 (ix3 0 R k)) (x1 (ix2 R ⟨k.val % 128, by omega⟩)) (x2 (ix2 R ⟨k.val % 128, by omega⟩))

def hRows (x0 : Vec Ideal S1x2048x512 .f32) (b : Fin 8) : Vec Ideal S1x256x512 .f32 :=
  fun i => x0 (ix3 0 ⟨256 * b.val + (i 1).val, by have h : (i 1).val < 256 := (i 1).isLt; omega⟩ (i 2))
def laneRows (x : Vec Ideal S2048x128 .f32) (b : Fin 8) : Vec Ideal S256x128 .f32 :=
  fun i => x (ix2 ⟨256 * b.val + (i 0).val, by have h : (i 0).val < 256 := (i 0).isLt; omega⟩ (i 1))

theorem four_copies (x : Vec Ideal S256x128 .f32) (r : Fin 256) (k : Fin 512) :
    concatenate S256x512 1 [⟨S256x128, x⟩, ⟨S256x128, x⟩, ⟨S256x128, x⟩, ⟨S256x128, x⟩]
      concatenates_S256x128_S256x128_S256x128_S256x128_S256x512_d1 (ix2 r k) = x (ix2 r ⟨k.val % 128, by omega⟩) :=
  concatenate_replicate_apply (t := S256x512) (s₁ := S256x128) 1 4 x
    concatenates_S256x128_S256x128_S256x128_S256x128_S256x512_d1 rfl (ix2 r k) (ix2 r ⟨k.val % 128, by omega⟩) rfl
    (fun b hb => by
      match b with
      | ⟨0, _⟩ => rfl
      | ⟨1, _⟩ => exact absurd rfl hb)

theorem bits_127 : Ideal.ofBits .f32 1123942400#32 = ((127 : ℝ) : EReal) := by
  simp [Ideal.ofBits, Ideal.ieee, -EReal.coe_mul]
  norm_num
theorem bits_neg_128 : Ideal.ofBits .f32 3271557120#32 = ((-128 : ℝ) : EReal) := by
  simp [Ideal.ofBits, Ideal.ieee, -EReal.coe_mul]
  norm_num

theorem pay958_at (v : Vec Ideal S1x256x512 .f32) (s z : Vec Ideal S256x128 .f32) (r : Fin 256) (k : Fin 512) :
    k0_pay958 (F := Ideal) v s z (ix2 r k)
      = quant (v (ix3 0 r k)) (s (ix2 r ⟨k.val % 128, by omega⟩)) (z (ix2 r ⟨k.val % 128, by omega⟩)) := by
  have hk : k.val < 512 := k.isLt
  pointwise [k0_pay958, k0_pay957, quant]
  rw [bits_127, bits_neg_128]
  by_cases h0 : k.val < 128
  · have e : k.val % 128 = k.val := by omega
    simp only [e, dif_pos h0]
  · by_cases h1 : k.val - 128 < 128
    · have e : k.val % 128 = k.val - 128 := by omega
      simp only [e, dif_neg h0, dif_pos h1]
    · by_cases h2 : k.val - 128 - 128 < 128
      · have e : k.val % 128 = k.val - 128 - 128 := by omega
        simp only [e, dif_neg h0, dif_neg h1, dif_pos h2]
      · have e : k.val % 128 = k.val - 128 - 128 - 128 := by omega
        simp only [e, dif_neg h0, dif_neg h1, dif_neg h2]

theorem pay957_at (z : Vec Ideal S256x128 .f32) (r : Fin 256) (k : Fin 512) :
    k0_pay957 (F := Ideal) z (ix2 r k) = z (ix2 r ⟨k.val % 128, by omega⟩) := by
  unfold k0_pay957
  refine (four_copies _ r k).trans ?_
  pointwise

theorem pay960_at (a b : Vec Ideal S256x512 .f32) (i : S256x512.Idx) : k0_pay960 (F := Ideal) a b i = b i - a i := by
  unfold k0_pay960
  rfl

/-- A code as stored: the nearest integer toward zero, in eight bits. -/
def asInt8 (x : EReal) : BitVec 8 := (Ideal.fptosi 32 x).truncate 8

theorem pay959_at (v : Vec Ideal S1x256x512 .f32) (s z : Vec Ideal S256x128 .f32) (i : S256x512.Idx) :
    k0_pay959 (F := Ideal) v s z i = asInt8 (k0_pay958 (F := Ideal) v s z i) := by
  unfold k0_pay959
  rfl

section
variable (arg1 : Memref sig .tc .vmem S1x2048x512 .f32) (harg1 : arg1.IsWhole) (arg2 : Memref sig .tc .vmem S2048x128 .f32) (harg2 : arg2.IsWhole)
  (arg3 : Memref sig .tc .vmem S2048x128 .f32) (harg3 : arg3.IsWhole)
  (x0 : Vec Ideal S1x2048x512 .f32) (x1 x2 : Vec Ideal S2048x128 .f32) (W : Vec Ideal S512x3072 .bf16)

theorem hLoad_eq (b : Fin 8) : hLoad (F := Ideal) arg1 harg1 x0 b = hRows x0 b := by
  funext j
  unfold hLoad hRows
  rw [Memref.IsWhole.readAt_unread]
  congr 1
  funext a
  match a with
  | ⟨0, _⟩ => exact Fin.ext (by show 0 + 1 * (j 0).val = 0; have h : (j 0).val < 1 := (j 0).isLt; omega)
  | ⟨1, _⟩ => exact Fin.ext (by show 256 * b.val + 1 * (j 1).val = _; rw [Nat.one_mul]; rfl)
  | ⟨2, _⟩ => exact Fin.ext (by show 0 + 1 * (j 2).val = _; rw [Nat.one_mul, Nat.zero_add]; rfl)

theorem laneLoad_eq (m : Memref sig .tc .vmem S2048x128 .f32) (h : m.IsWhole) (x : Vec Ideal S2048x128 .f32) (b : Fin 8) :
    laneLoad (F := Ideal) m h x b = laneRows x b := by
  funext j
  unfold laneLoad laneRows
  rw [Memref.IsWhole.readAt_unread]
  congr 1
  funext a
  match a with
  | ⟨0, _⟩ => exact Fin.ext (by show 256 * b.val + 1 * (j 0).val = _; rw [Nat.one_mul]; rfl)
  | ⟨1, _⟩ => exact Fin.ext (by show 0 + 1 * (j 1).val = _; rw [Nat.one_mul, Nat.zero_add]; rfl)

theorem code_at (b : Fin 8) (r : Fin 256) (k : Fin 512) :
    k0_pay958 (F := Ideal) (hRows x0 b) (laneRows x1 b) (laneRows x2 b) (ix2 r k)
      = quantAt x0 x1 x2 ⟨256 * b.val + r.val, by omega⟩ k := by
  rw [pay958_at]
  rfl

/-- A quantised activation less its zero point. -/
def centred (R : Fin 2048) (k : Fin 512) : EReal := quantAt x0 x1 x2 R k - x2 (ix2 R ⟨k.val % 128, by omega⟩)

theorem aRows_at (b : Fin 8) (r : Fin 256) (k : Fin 512) :
    aRows (F := Ideal) arg1 harg1 arg2 harg2 arg3 harg3 x0 x1 x2 b (ix2 r k) = centred x0 x1 x2 ⟨256 * b.val + r.val, by omega⟩ k := by
  unfold aRows
  rw [hLoad_eq, laneLoad_eq, laneLoad_eq, pay960_at, code_at, pay957_at]
  rfl

/-- The accumulator after a step, from what it was. -/
def accNext (xs : Vec Ideal S2048x3072 .f32) : Vec Ideal S2048x3072 .f32 :=
  fun y => xs y + ∑ k : Fin 512, centred x0 x1 x2 (y 0) k * W (ix2 k (y 1))

/-- A block of the accumulator. -/
def accBlock (xs : Vec Ideal S2048x3072 .f32) (n : Fin 24) : Vec Ideal S256x1024 .f32 :=
  fun i => xs (ix2 ⟨256 * (accRow n).val + (i 0).val, by have h : (i 0).val < 256 := (i 0).isLt; omega⟩
    ⟨1024 * (accCol n).val + (i 1).val, by have h : (i 1).val < 1024 := (i 1).isLt; omega⟩)

/-- A third of the weight block's columns. -/
def wThird (j : Fin 3) : Vec Ideal S512x1024 .bf16 :=
  fun i => W (ix2 (i 0) ⟨1024 * j.val + (i 1).val, by have h : (i 1).val < 1024 := (i 1).isLt; omega⟩)

theorem pay1_at (a : Vec Ideal S256x512 .bf16) (old : Vec Ideal S256x1024 .f32) (w : Vec Ideal S512x1024 .bf16) (r : Fin 256) (j : Fin 1024) :
    k0_pay1 (F := Ideal) a old w (ix2 r j) = old (ix2 r j) + ∑ k : Fin 512, a (ix2 r k) * w (ix2 k j) := by
  pointwise [k0_pay1]

theorem accStep_at (n : Fin 24) (xs : Vec Ideal S2048x3072 .f32) (r : Fin 256) (j : Fin 1024) :
    accStep (F := Ideal) arg1 harg1 arg2 harg2 arg3 harg3 x0 x1 x2 (wThird W) n (accBlock xs n) (ix2 r j) = accBlock (accNext x0 x1 x2 W xs) n (ix2 r j) := by
  unfold accStep
  rw [pay1_at]
  simp only [aRows_at]
  rfl

theorem accStep_eq (n : Fin 24) (xs : Vec Ideal S2048x3072 .f32) :
    accStep (F := Ideal) arg1 harg1 arg2 harg2 arg3 harg3 x0 x1 x2 (wThird W) n (accBlock xs n) = accBlock (accNext x0 x1 x2 W xs) n := by
  funext i
  have e := accStep_at arg1 harg1 arg2 harg2 arg3 harg3 x0 x1 x2 W n xs (i 0) (i 1)
  rw [ix2_eta] at e
  exact e
end

theorem accRect_idx (n : Fin 24) (j : (accRect n).toLoadRect.shape.Idx) (x : Vec Ideal S2048x3072 .f32) :
    x ((accRect n).toLoadRect.idx j) = accBlock x n j := by
  unfold accBlock
  congr 1
  funext a
  match a with
  | ⟨0, _⟩ => exact Fin.ext (by show 256 * (accRow n).val + 1 * (j 0).val = _; rw [Nat.one_mul]; rfl)
  | ⟨1, _⟩ => exact Fin.ext (by show 1024 * (accCol n).val + 1 * (j 1).val = _; rw [Nat.one_mul]; rfl)

theorem accRect_emb (n : Fin 24) (j : S256x1024.Idx) (x : Vec Ideal S2048x3072 .f32) :
    x ((accRect n).emb j) = accBlock x n j := by
  unfold accBlock
  congr 1
  funext a
  match a with
  | ⟨0, _⟩ => exact Fin.ext (by show 256 * (accRow n).val + 1 * (j 0).val = _; rw [Nat.one_mul]; rfl)
  | ⟨1, _⟩ => exact Fin.ext (by show 1024 * (accCol n).val + 1 * (j 1).val = _; rw [Nat.one_mul]; rfl)

/-- The accumulator block an index lies in. -/
def blockOf (y : S2048x3072.Idx) : Nat := 3 * ((y 0).val / 256) + (y 1).val / 1024

theorem mem_accRect (n : Fin 24) (y : S2048x3072.Idx) : y ∈ (accRect n).set ↔ blockOf y = n.val := by
  have h0 : (y 0).val < 2048 := (y 0).isLt
  have h1 : (y 1).val < 3072 := (y 1).isLt
  have hn := n.isLt
  unfold blockOf
  constructor
  · intro h
    have e0 : 256 * (n.val / 3) ≤ (y 0).val ∧ (y 0).val < 256 * (n.val / 3) + 256 := (Rect.mem_set_unit.1 h) 0
    have e1 : 1024 * (n.val % 3) ≤ (y 1).val ∧ (y 1).val < 1024 * (n.val % 3) + 1024 := (Rect.mem_set_unit.1 h) 1
    omega
  · intro h
    refine Rect.mem_set_unit.2 fun a => ?_
    match a with
    | ⟨0, _⟩ => show 256 * (n.val / 3) ≤ (y 0).val ∧ (y 0).val < 256 * (n.val / 3) + 256; omega
    | ⟨1, _⟩ => show 1024 * (n.val % 3) ≤ (y 1).val ∧ (y 1).val < 1024 * (n.val % 3) + 1024; omega

theorem blockOf_lt (y : S2048x3072.Idx) : blockOf y < 24 := by
  have h0 : (y 0).val < 2048 := (y 0).isLt
  have h1 : (y 1).val < 3072 := (y 1).isLt
  unfold blockOf
  omega

/-- A later step's accumulator. -/
theorem canon_later (m : Memref sig .tc .vmem S2048x3072 .f32) (h : m.IsWhole)
    (st : Fin 24 → Vec Ideal S256x1024 .f32 → Vec Ideal S256x1024 .f32) (xs g : Vec Ideal S2048x3072 .f32)
    (hst : ∀ n, st n (accBlock xs n) = accBlock g n) :
    View.canon (accLater (F := Ideal) m h st xs) = g := by
  funext y
  refine View.canon_ofFn_eq_of_forall (S := S2048x3072) (Val := Elt Ideal) (e := .f32) (fun n : Fin 24 => accRect n.rev) _ y _ ?_ ?_
  · refine ⟨(⟨blockOf y, blockOf_lt y⟩ : Fin 24).rev, ?_⟩
    rw [Fin.rev_rev]
    exact (mem_accRect _ y).2 rfl
  · intro n' x hx
    generalize n'.rev = n at x hx ⊢
    have e : View.readAt (Elt Ideal) m.view (accRect n).toLoadRect (h.unread xs) = accBlock xs n := by
      funext j
      rw [Memref.IsWhole.readAt_unread]
      exact accRect_idx n j xs
    show st n (View.readAt (Elt Ideal) m.view (accRect n).toLoadRect (h.unread xs)) x = g y
    rw [e, hst, ← hx]
    exact (accRect_emb n x g).symm

theorem firstAcc_at (m : Memref sig .tc .vmem S2048x3072 .f32)
    (st : Fin 24 → Vec Ideal S256x1024 .f32 → Vec Ideal S256x1024 .f32) (z g : Vec Ideal S2048x3072 .f32)
    (hst : ∀ n, st n (accBlock z n) = accBlock g n) (k : Nat) (hk : k ≤ 24) (y : S2048x3072.Idx) :
    View.canon (accFirst (F := Ideal) m st z k hk) y = if blockOf y < k then g y else z y := by
  induction k generalizing y with
  | zero =>
    rw [accFirst]
    rw [View.canon_cons_unit_lit _ _ _ (fun a => by match a with | ⟨0, _⟩ => rfl | ⟨1, _⟩ => rfl)]
    simp
  | succ k ih =>
    have ih' := ih (Nat.le_of_succ_le hk)
    have hr : m.view.readCov (accFirst (F := Ideal) m st z k (Nat.le_of_succ_le hk)) (accRect ⟨k, hk⟩).toLoadRect
        = accBlock z ⟨k, hk⟩ := by
      rw [View.readCov_eq_canon']
      funext j
      have hj : blockOf ((accRect ⟨k, hk⟩).toLoadRect.idx j) = k := (mem_accRect ⟨k, hk⟩ _).1 ((accRect ⟨k, hk⟩).idx_mem j)
      rw [ih', if_neg (by rw [hj]; omega)]
      exact accRect_idx _ _ _
    rw [accFirst, hr, hst]
    by_cases hm : y ∈ (accRect ⟨k, hk⟩).set
    · have hb : blockOf y = k := (mem_accRect ⟨k, hk⟩ y).1 hm
      obtain ⟨x, hx⟩ := (accRect ⟨k, hk⟩).exists_idx_of_mem hm
      rw [if_pos (by omega), ← hx]
      exact (View.canon_cons_emb _ _ _ x).trans (accRect_emb _ x g).symm
    · have hb : blockOf y ≠ k := fun h => hm ((mem_accRect ⟨k, hk⟩ y).2 h)
      rw [View.canon_cons_of_not_mem (⟨accRect ⟨k, hk⟩, accBlock g ⟨k, hk⟩⟩ : View.Piece (Elt Ideal) S2048x3072 .f32) _ hm, ih']
      by_cases hlt : blockOf y < k
      · rw [if_pos hlt, if_pos (by omega)]
      · rw [if_neg hlt, if_neg (by omega)]

/-- The first step's accumulator: the step's value of zeros. -/
theorem canon_accFirst (m : Memref sig .tc .vmem S2048x3072 .f32)
    (st : Fin 24 → Vec Ideal S256x1024 .f32 → Vec Ideal S256x1024 .f32) (z g : Vec Ideal S2048x3072 .f32)
    (hst : ∀ n, st n (accBlock z n) = accBlock g n) :
    View.canon (accFirst (F := Ideal) m st z 24 (Nat.le_refl 24)) = g := by
  funext y
  rw [firstAcc_at m st z g hst, if_pos (blockOf_lt y)]

section
variable (arg1 : Memref sig .tc .vmem S1x2048x512 .f32) (harg1 : arg1.IsWhole) (arg2 : Memref sig .tc .vmem S2048x128 .f32) (harg2 : arg2.IsWhole)
  (arg3 : Memref sig .tc .vmem S2048x128 .f32) (harg3 : arg3.IsWhole)
  (x0 : Vec Ideal S1x2048x512 .f32) (x1 x2 : Vec Ideal S2048x128 .f32)

/-- The codes a step leaves. -/
def codeBlock : Vec Ideal S2048x512 .i8 := fun y => asInt8 (quantAt x0 x1 x2 (y 0) (y 1))

theorem canon_codes : View.canon (codePieces (F := Ideal) arg1 harg1 arg2 harg2 arg3 harg3 x0 x1 x2) = codeBlock x0 x1 x2 := by
  funext y
  have hy0 : (y 0).val < 2048 := (y 0).isLt
  have hy1 : (y 1).val < 512 := (y 1).isLt
  refine View.canon_ofFn_unit_eq_of_forall (S := S2048x512) (Val := Elt Ideal) (e := .i8)
    (fun b : Fin 8 => ![256 * b.rev.val, 0]) S256x512.size (fun b => inbCode b.rev) _ y _ ?_ ?_
  · refine ⟨(⟨(y 0).val / 256, by omega⟩ : Fin 8).rev, ?_⟩
    rw [Fin.rev_rev]
    intro a
    match a with
    | ⟨0, _⟩ => show 256 * ((y 0).val / 256) ≤ (y 0).val ∧ (y 0).val < 256 * ((y 0).val / 256) + 256; omega
    | ⟨1, _⟩ => show 0 ≤ (y 1).val ∧ (y 1).val < 0 + 512; omega
  · intro n' x hx
    generalize n'.rev = b at hx ⊢
    have h0 : (y 0).val = 256 * b.val + (x 0).val := hx 0
    have h1 : (y 1).val = 0 + (x 1).val := hx 1
    have x0lt : (x 0).val < 256 := (x 0).isLt
    have x1lt : (x 1).val < 512 := (x 1).isLt
    have e0 : (⟨256 * b.val + (x 0).val, by omega⟩ : Fin 2048) = y 0 := Fin.ext h0.symm
    have e1 : (⟨(x 1).val, x1lt⟩ : Fin 512) = y 1 := Fin.ext (by show (x 1).val = (y 1).val; omega)
    rw [hLoad_eq, laneLoad_eq, laneLoad_eq, pay959_at, ← ix2_eta (n0 := 256) (n1 := 512) x]
    refine (congrArg asInt8 (code_at x0 x1 x2 b (x 0) (x 1))).trans ?_
    show _ = asInt8 (quantAt x0 x1 x2 (y 0) (y 1))
    rw [← e0, ← e1]
    rfl
end

end Cert.DownProj
-- ==== Proof.DownPieces.lean ====
/- What one grid step of the down projection writes, as families: the codes of its column block, the accumulator, and at
   the last step the result, row chunk by row chunk. -/
module
public import proofs.«01_k».proof.Proof.DownParts
public import proofs.«01_k».proof.Proof.Gen.DownIdeal.Frame
@[expose] public section
set_option maxRecDepth 65536
noncomputable section
namespace Cert.DownProj
open Idealize.ShloMosaic Idealize.ShloMosaic.TcCoe Idealize.ShloMosaic.Tactic Cert.DownIdeal Cert.DownIdeal.Gen

variable {F : FTy → Type} [FloatOps F]

/-- A third of the weight block's columns, read back from the stripes. -/
def wCols (arg4 : Memref sig .tc .vmem S512x1536 .i8) (harg4 : arg4.IsWhole) (arg5 : Memref sig .tc .vmem S16x1536 .f32) (harg5 : arg5.IsWhole)
    (arg6 : Memref sig .tc .vmem S16x1536 .f32) (harg6 : arg6.IsWhole) (arg11 : Memref sig .tc .vmem S512x3072 .bf16)
    (x3 : Vec F S512x1536 .i8) (x4 x5 : Vec F S16x1536 .f32) (j : Fin 3) : Vec F S512x1024 .bf16 :=
  arg11.view.readCov (wStripes arg4 harg4 arg5 harg5 arg6 harg6 x3 x4 x5)
    (Rect.unit (s := S512x3072) ![0, 1024 * j.val] S512x1024.size (inbCols j)).toLoadRect

theorem inbTrip (i : grid0.Coords) (h2 : k0_cond2 i = 1#1) (k : Fin k0_t1_loop.trips) (n : Fin 24) :
    ∀ a, (![k0_off2 k 0, 128 * n.val] : Fin 2 → Nat) a + S128x128.size a ≤ S2048x3072.size a := by
  intro a
  have e : k0_off2 k 0 + 128 ≤ 2048 := k0_off2_inb i k h2 0
  have hn := n.isLt
  match a with
  | ⟨0, _⟩ => exact e
  | ⟨1, _⟩ => show 128 * n.val + 128 ≤ 3072; omega

theorem inbBuf (n : Fin 24) : ∀ a, (![0, 128 * n.val] : Fin 2 → Nat) a + S128x128.size a ≤ S128x3072.size a := by
  revert n; decide

/-- The pieces of one row chunk of the result, newest first: 24 column blocks. -/
def chunkPieces (i : grid0.Coords) (h2 : k0_cond2 i = 1#1) (arg2 : Memref sig .tc .vmem S2048x128 .f32) (arg7 : Memref sig .tc .hbm S2048x3072 .f32)
    (arg10 : Memref sig .tc .vmem S2048x3072 .f32) (arg12 : Memref sig .tc .vmem S128x3072 .f32)
    (X2 : BufTy.Contents (Elt F) arg2.view.ty) (X10 : BufTy.Contents (Elt F) arg10.view.ty) (X7 : BufTy.Contents (Elt F) arg7.view.ty)
    (k : Fin k0_t1_loop.trips) : List (View.Piece (Elt F) S2048x3072 .bf16) :=
  List.ofFn fun n : Fin 24 => ⟨Rect.unit (s := S2048x3072) ![k0_off2 k 0, 128 * n.rev.val] S128x128.size (inbTrip i h2 k n.rev),
    k0_pay2 (k0_pay4 (View.readAt (Elt F) arg2.view (Rect.unit (s := S2048x128) (k0_off2 k) S128x128.size (k0_off2_inb i k h2)).toLoadRect X2))
      (arg12.view.readCov [⟨Rect.whole S128x3072, trip_k0_t1.sl.dma0 i arg7 h2 X7 k⟩]
        (Rect.unit (s := S128x3072) ![0, 128 * n.rev.val] S128x128.size (inbBuf n.rev)).toLoadRect)
      (View.readAt (Elt F) arg10.view (Rect.unit (s := S2048x3072) ![k0_off2 k 0, 128 * n.rev.val] S128x128.size (inbTrip i h2 k n.rev)).toLoadRect X10)⟩

theorem chunk_eq (𝒱 : Variants) (c : Dev nD) (bd : Option 𝒱.V) (i : grid0.Coords) (arg1 : Memref sig .tc .vmem S1x2048x512 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x1536 .i8) (harg4 : arg4.IsWhole) (arg5 : Memref sig .tc .vmem S16x1536 .f32) (harg5 : arg5.IsWhole) (arg6 : Memref sig .tc .vmem S16x1536 .f32) (harg6 : arg6.IsWhole) (arg8 : Memref sig .tc .vmem S2048x3072 .bf16) (harg8 : arg8.IsWhole) (arg9 : Memref sig .tc .vmem S2048x512 .i8) (harg9 : arg9.IsWhole) (arg10 : Memref sig .tc .vmem S2048x3072 .f32) (harg10 : arg10.IsWhole) (arg11 : Memref sig .tc .vmem S512x3072 .bf16) (harg11 : arg11.IsWhole) (arg12 : Memref sig .tc .vmem S128x3072 .f32) (harg12 : arg12.IsWhole) (arg7 : Memref sig .tc .hbm S2048x3072 .f32) (harg7 : arg7.IsWhole) (arg13 : DmaSems sig S_) (h2 : k0_cond2 i = 1#1)
    (X2 : BufTy.Contents (Elt F) arg2.view.ty) (X10 : BufTy.Contents (Elt F) arg10.view.ty) (X7 : BufTy.Contents (Elt F) arg7.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 h2 X2 X10 X7 k
      = chunkPieces i h2 arg2 arg7 arg10 arg12 X2 X10 X7 k := by
  sl_kernel_rfl

section
variable (c : Dev nD) (i : grid0.Coords) (arg1 : Memref sig .tc .vmem S1x2048x512 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x1536 .i8) (harg4 : arg4.IsWhole) (arg5 : Memref sig .tc .vmem S16x1536 .f32) (harg5 : arg5.IsWhole) (arg6 : Memref sig .tc .vmem S16x1536 .f32) (harg6 : arg6.IsWhole) (arg8 : Memref sig .tc .vmem S2048x3072 .bf16) (harg8 : arg8.IsWhole) (arg9 : Memref sig .tc .vmem S2048x512 .i8) (harg9 : arg9.IsWhole) (arg10 : Memref sig .tc .vmem S2048x3072 .f32) (harg10 : arg10.IsWhole) (arg11 : Memref sig .tc .vmem S512x3072 .bf16) (harg11 : arg11.IsWhole) (arg12 : Memref sig .tc .vmem S128x3072 .f32) (harg12 : arg12.IsWhole)
  (x0 : Vec F S1x2048x512 .f32) (x1 : Vec F S2048x128 .f32) (x2 : Vec F S2048x128 .f32) (x3 : Vec F S512x1536 .i8) (x4 : Vec F S16x1536 .f32) (x5 : Vec F S16x1536 .f32) (xs0 : Vec F S2048x3072 .f32) (fh0 : HbBuf0 (F := F) c hbM0_0)

theorem codes_A (hc0 : cond0_0 i) (hc1 : ¬cond0_1 i) :
    (kernelRun0_A c i arg1 harg1 arg2 harg2 arg3 harg3 arg4 harg4 arg5 harg5 arg6 harg6 arg8 harg8 arg9 harg9 arg10 harg10 arg11 harg11 arg12 harg12 hc0 hc1 x0 x1 x2 x3 x4 x5 fh0).2.1 = codePieces arg1 harg1 arg2 harg2 arg3 harg3 x0 x1 x2 := by
  sl_kernel_rfl
theorem acc_A (hc0 : cond0_0 i) (hc1 : ¬cond0_1 i) :
    (kernelRun0_A c i arg1 harg1 arg2 harg2 arg3 harg3 arg4 harg4 arg5 harg5 arg6 harg6 arg8 harg8 arg9 harg9 arg10 harg10 arg11 harg11 arg12 harg12 hc0 hc1 x0 x1 x2 x3 x4 x5 fh0).2.2.1
      = accFirst arg10 (accStep arg1 harg1 arg2 harg2 arg3 harg3 x0 x1 x2 (wCols arg4 harg4 arg5 harg5 arg6 harg6 arg11 x3 x4 x5)) k0_pay956 24 (Nat.le_refl 24) := by
  sl_kernel_rfl
theorem codes_B (hc0 : ¬cond0_0 i) (hc1 : ¬cond0_1 i) :
    (kernelRun0_B c i arg1 harg1 arg2 harg2 arg3 harg3 arg4 harg4 arg5 harg5 arg6 harg6 arg8 harg8 arg9 harg9 arg10 harg10 arg11 harg11 arg12 harg12 hc0 hc1 x0 x1 x2 x3 x4 x5 xs0 fh0).2.1 = codePieces arg1 harg1 arg2 harg2 arg3 harg3 x0 x1 x2 := by
  sl_kernel_rfl
theorem acc_B (hc0 : ¬cond0_0 i) (hc1 : ¬cond0_1 i) :
    (kernelRun0_B c i arg1 harg1 arg2 harg2 arg3 harg3 arg4 harg4 arg5 harg5 arg6 harg6 arg8 harg8 arg9 harg9 arg10 harg10 arg11 harg11 arg12 harg12 hc0 hc1 x0 x1 x2 x3 x4 x5 xs0 fh0).2.2.1
      = accLater arg10 harg10 (accStep arg1 harg1 arg2 harg2 arg3 harg3 x0 x1 x2 (wCols arg4 harg4 arg5 harg5 arg6 harg6 arg11 x3 x4 x5)) xs0 := by
  sl_kernel_rfl
theorem codes_C (hc0 : ¬cond0_0 i) (hc1 : cond0_1 i) :
    (kernelRun0_C c i arg1 harg1 arg2 harg2 arg3 harg3 arg4 harg4 arg5 harg5 arg6 harg6 arg8 harg8 arg9 harg9 arg10 harg10 arg11 harg11 arg12 harg12 hc0 hc1 x0 x1 x2 x3 x4 x5 xs0 fh0).2.1 = codePieces arg1 harg1 arg2 harg2 arg3 harg3 x0 x1 x2 := by
  sl_kernel_rfl
theorem acc_C (hc0 : ¬cond0_0 i) (hc1 : cond0_1 i) :
    (kernelRun0_C c i arg1 harg1 arg2 harg2 arg3 harg3 arg4 harg4 arg5 harg5 arg6 harg6 arg8 harg8 arg9 harg9 arg10 harg10 arg11 harg11 arg12 harg12 hc0 hc1 x0 x1 x2 x3 x4 x5 xs0 fh0).2.2.1
      = accLater arg10 harg10 (accStep arg1 harg1 arg2 harg2 arg3 harg3 x0 x1 x2 (wCols arg4 harg4 arg5 harg5 arg6 harg6 arg11 x3 x4 x5)) xs0 := by
  sl_kernel_rfl
end
end Cert.DownProj
-- ==== Proof.DownStep.lean ====
/- What one grid step of the down projection leaves: the codes of its column block, the accumulator, and at the last step
   the result. -/
module
public import proofs.«01_k».proof.Proof.DownPieces
public import proofs.«01_k».proof.Proof.Gen.DownIdeal.Value
public import Idealize.ShloMosaic.Lib.Pipeline.ReadBack
@[expose] public section
set_option maxRecDepth 65536
noncomputable section
namespace Cert.DownProj
open Idealize.ShloMosaic Idealize.ShloMosaic.TcCoe Cert.DownIdeal Cert.DownIdeal.Gen Cert.DownIdeal.Value

theorem wCols_eq (arg4 : Memref sig .tc .vmem S512x1536 .i8) (harg4 : arg4.IsWhole) (arg5 : Memref sig .tc .vmem S16x1536 .f32) (harg5 : arg5.IsWhole)
    (arg6 : Memref sig .tc .vmem S16x1536 .f32) (harg6 : arg6.IsWhole) (arg11 : Memref sig .tc .vmem S512x3072 .bf16)
    (x3 : Vec Ideal S512x1536 .i8) (x4 x5 : Vec Ideal S16x1536 .f32) :
    wCols (F := Ideal) arg4 harg4 arg5 harg5 arg6 harg6 arg11 x3 x4 x5 = wThird (downBlock x3 x4 x5) := by
  funext j
  unfold wCols
  rw [View.readCov_eq_canon', canon_wStripes]
  funext i
  unfold wThird
  congr 1
  funext a
  match a with
  | ⟨0, _⟩ => exact Fin.ext (by show 0 + 1 * (i 0).val = _; rw [Nat.one_mul, Nat.zero_add]; rfl)
  | ⟨1, _⟩ => exact Fin.ext (by show 1024 * j.val + 1 * (i 1).val = _; rw [Nat.one_mul]; rfl)

/-- The result at an index: the residual row plus the accumulator scaled back. -/
def outAt (h acc : Vec Ideal S2048x3072 .f32) (x1 : Vec Ideal S2048x128 .f32) : Vec Ideal S2048x3072 .bf16 :=
  fun y => h y + acc y * x1 (ix2 (y 0) ⟨(y 1).val % 128, by omega⟩)

theorem pay2_at (s h a : Vec Ideal S128x128 .f32) (i : S128x128.Idx) :
    k0_pay2 (F := Ideal) (k0_pay4 s) h a i = h i + a i * s i := by
  rw [← ix2_eta (n0 := 128) (n1 := 128) i]
  pointwise [k0_pay2, k0_pay4]

/-- A chunk of rows, as an index of the whole array. -/
theorem emb_rows {N : Nat} (off : Fin 2 → Nat) (o : Nat) (h0 : off 0 = o) (h1 : off 1 = 0)
    (inb : ∀ a, off a + (⟨2, ![128, N]⟩ : Shape).size a ≤ (⟨2, ![2048, N]⟩ : Shape).size a) (x : (⟨2, ![128, N]⟩ : Shape).Idx) (hx : o + (x 0).val < 2048) :
    (Rect.unit (s := (⟨2, ![2048, N]⟩ : Shape)) off (⟨2, ![128, N]⟩ : Shape).size inb).emb x = ix2 (n0 := 2048) (n1 := N) ⟨o + (x 0).val, hx⟩ (x 1) := by
  subst h0
  funext a
  match a with
  | ⟨0, _⟩ => exact Fin.ext (by show off 0 + 1 * (x 0).val = off 0 + (x 0).val; omega)
  | ⟨1, _⟩ => exact Fin.ext (by show off 1 + 1 * (x 1).val = (x 1).val; omega)

theorem emb_tile (o p : Nat) (inb : ∀ a, (![o, p] : Fin 2 → Nat) a + S128x128.size a ≤ S2048x3072.size a) (x : S128x128.Idx)
    (h0 : o + (x 0).val < 2048) (h1 : p + (x 1).val < 3072) :
    (Rect.unit (s := S2048x3072) ![o, p] S128x128.size inb).emb x = ix2 (n0 := 2048) (n1 := 3072) ⟨o + (x 0).val, h0⟩ ⟨p + (x 1).val, h1⟩ := by
  funext a
  match a with
  | ⟨0, _⟩ => exact Fin.ext (by show o + 1 * (x 0).val = o + (x 0).val; omega)
  | ⟨1, _⟩ => exact Fin.ext (by show p + 1 * (x 1).val = p + (x 1).val; omega)

theorem off1_zero (k : Fin k0_t1_loop.trips) : k0_off1 k 0 = k0_off2 k 0 := rfl
theorem off1_one (k : Fin k0_t1_loop.trips) : k0_off1 k 1 = 0 := rfl
theorem off2_one (k : Fin k0_t1_loop.trips) : k0_off2 k 1 = 0 := rfl

/-- The rows copied in for a chunk. -/
theorem copied_at (i : grid0.Coords) (h2 : k0_cond2 i = 1#1) (arg7 : Memref sig .tc .hbm S2048x3072 .f32) (X7 : BufTy.Contents (Elt Ideal) arg7.view.ty)
    (k : Fin k0_t1_loop.trips) (y : S128x3072.Idx) (hy : k0_off2 k 0 + (y 0).val < 2048) :
    trip_k0_t1.sl.dma0 (F := Ideal) i arg7 h2 X7 k y = View.read (Elt Ideal) arg7.view X7 (ix2 (n0 := 2048) (n1 := 3072) ⟨k0_off2 k 0 + (y 0).val, hy⟩ (y 1)) := by
  rw [← emb_rows (N := 3072) (k0_off1 k) (k0_off2 k 0) (off1_zero k) (off1_one k) (k0_off1_inb i k h2) y hy]
  rfl

theorem buf_at (arg12 : Memref sig .tc .vmem S128x3072 .f32) (w : S128x3072.Idx → Elt Ideal .f32) (n : Fin 24) (x : S128x128.Idx) (h : 128 * n.val + (x 1).val < 3072) :
    arg12.view.readCov [(⟨Rect.whole S128x3072, w⟩ : View.Piece (Elt Ideal) S128x3072 .f32)]
      (Rect.unit (s := S128x3072) ![0, 128 * n.val] S128x128.size (inbBuf n)).toLoadRect x = w (ix2 (n0 := 128) (n1 := 3072) (x 0) ⟨128 * n.val + (x 1).val, h⟩) := by
  rw [View.readCov_eq_canon']
  have e : (Rect.unit (s := S128x3072) ![0, 128 * n.val] S128x128.size (inbBuf n)).toLoadRect.idx x
      = (Rect.whole S128x3072).emb (ix2 (n0 := 128) (n1 := 3072) (x 0) ⟨128 * n.val + (x 1).val, h⟩) := by
    funext a
    match a with
    | ⟨0, _⟩ => exact Fin.ext (by show 0 + 1 * (x 0).val = 0 + 1 * (x 0).val; rfl)
    | ⟨1, _⟩ => exact Fin.ext (by show 128 * n.val + 1 * (x 1).val = 0 + 1 * (128 * n.val + (x 1).val); omega)
  exact (congrArg (View.canon _) e).trans (View.canon_cons_emb (Rect.whole S128x3072) w [] _)

/-- One piece of a row chunk. -/
theorem chunk_piece (i : grid0.Coords) (h2 : k0_cond2 i = 1#1) (arg2 : Memref sig .tc .vmem S2048x128 .f32) (harg2 : arg2.IsWhole) (arg7 : Memref sig .tc .hbm S2048x3072 .f32)
    (arg10 : Memref sig .tc .vmem S2048x3072 .f32) (arg12 : Memref sig .tc .vmem S128x3072 .f32)
    (x1 : Vec Ideal S2048x128 .f32) (L : List (View.Piece (Elt Ideal) S2048x3072 .f32)) (X7 : BufTy.Contents (Elt Ideal) arg7.view.ty)
    (k : Fin k0_t1_loop.trips) (n : Fin 24) (x : S128x128.Idx) :
    k0_pay2 (F := Ideal) (k0_pay4 (View.readAt (Elt Ideal) arg2.view (Rect.unit (s := S2048x128) (k0_off2 k) S128x128.size (k0_off2_inb i k h2)).toLoadRect (harg2.unread x1)))
      (arg12.view.readCov [⟨Rect.whole S128x3072, trip_k0_t1.sl.dma0 (F := Ideal) i arg7 h2 X7 k⟩]
        (Rect.unit (s := S128x3072) ![0, 128 * n.val] S128x128.size (inbBuf n)).toLoadRect)
      (arg10.view.readCov L (Rect.unit (s := S2048x3072) ![k0_off2 k 0, 128 * n.val] S128x128.size (inbTrip i h2 k n)).toLoadRect) x
      = outAt (View.read (Elt Ideal) arg7.view X7) (View.canon L) x1
          ((Rect.unit (s := S2048x3072) ![k0_off2 k 0, 128 * n.val] S128x128.size (inbTrip i h2 k n)).emb x) := by
  have hb : k0_off2 k 0 + 128 ≤ 2048 := k0_off2_inb i k h2 0
  have x0lt : (x 0).val < 128 := (x 0).isLt
  have x1lt : (x 1).val < 128 := (x 1).isLt
  have hn := n.isLt
  have h0 : k0_off2 k 0 + (x 0).val < 2048 := by omega
  have h1 : 128 * n.val + (x 1).val < 3072 := by omega
  have es : View.readAt (Elt Ideal) arg2.view (Rect.unit (s := S2048x128) (k0_off2 k) S128x128.size (k0_off2_inb i k h2)).toLoadRect (harg2.unread x1) x
      = x1 (ix2 (n0 := 2048) (n1 := 128) ⟨k0_off2 k 0 + (x 0).val, h0⟩ (x 1)) := by
    rw [Memref.IsWhole.readAt_unread]
    exact congrArg x1 (emb_rows (N := 128) (k0_off2 k) (k0_off2 k 0) rfl (off2_one k) (k0_off2_inb i k h2) x h0)
  have ea : arg10.view.readCov L (Rect.unit (s := S2048x3072) ![k0_off2 k 0, 128 * n.val] S128x128.size (inbTrip i h2 k n)).toLoadRect x
      = View.canon L (ix2 (n0 := 2048) (n1 := 3072) ⟨k0_off2 k 0 + (x 0).val, h0⟩ ⟨128 * n.val + (x 1).val, h1⟩) := by
    rw [View.readCov_eq_canon']
    exact congrArg (View.canon L) (emb_tile (k0_off2 k 0) (128 * n.val) (inbTrip i h2 k n) x h0 h1)
  rw [pay2_at, es, ea, buf_at _ _ _ _ h1, copied_at i h2 arg7 X7 k _ h0, emb_tile (k0_off2 k 0) (128 * n.val) (inbTrip i h2 k n) x h0 h1]
  unfold outAt
  have e : (⟨(128 * n.val + (x 1).val) % 128, Nat.mod_lt _ (by decide)⟩ : Fin 128) = x 1 := Fin.ext (by show (128 * n.val + (x 1).val) % 128 = (x 1).val; omega)
  show _ = _ + _ * x1 (ix2 (n0 := 2048) (n1 := 128) ⟨k0_off2 k 0 + (x 0).val, h0⟩ (⟨(128 * n.val + (x 1).val) % 128, Nat.mod_lt _ (by decide)⟩ : Fin 128))
  rw [e]
  rfl

/-- Every piece of a row chunk holds the result's values. -/
theorem chunk_at (i : grid0.Coords) (h2 : k0_cond2 i = 1#1) (arg2 : Memref sig .tc .vmem S2048x128 .f32) (harg2 : arg2.IsWhole) (arg7 : Memref sig .tc .hbm S2048x3072 .f32)
    (arg10 : Memref sig .tc .vmem S2048x3072 .f32) (arg12 : Memref sig .tc .vmem S128x3072 .f32)
    (x1 : Vec Ideal S2048x128 .f32) (L : List (View.Piece (Elt Ideal) S2048x3072 .f32)) (X7 : BufTy.Contents (Elt Ideal) arg7.view.ty)
    (k : Fin k0_t1_loop.trips) (p : View.Piece (Elt Ideal) S2048x3072 .bf16)
    (hp : p ∈ chunkPieces (F := Ideal) i h2 arg2 arg7 arg10 arg12 (harg2.unread x1) (arg10.view.writes (Elt Ideal) arg10.view.junk L) X7 k) (x : p.1.shape.Idx) :
    p.2 x = outAt (View.read (Elt Ideal) arg7.view X7) (View.canon L) x1 (p.1.emb x) := by
  obtain ⟨n', rfl⟩ := List.mem_ofFn.mp hp
  exact chunk_piece i h2 arg2 harg2 arg7 arg10 arg12 x1 L X7 k n'.rev x

section
variable (c : Dev nD) (i : grid0.Coords) (arg1 : Memref sig .tc .vmem S1x2048x512 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x1536 .i8) (harg4 : arg4.IsWhole) (arg5 : Memref sig .tc .vmem S16x1536 .f32) (harg5 : arg5.IsWhole) (arg6 : Memref sig .tc .vmem S16x1536 .f32) (harg6 : arg6.IsWhole) (arg8 : Memref sig .tc .vmem S2048x3072 .bf16) (harg8 : arg8.IsWhole) (arg9 : Memref sig .tc .vmem S2048x512 .i8) (harg9 : arg9.IsWhole) (arg10 : Memref sig .tc .vmem S2048x3072 .f32) (harg10 : arg10.IsWhole) (arg11 : Memref sig .tc .vmem S512x3072 .bf16) (harg11 : arg11.IsWhole) (arg12 : Memref sig .tc .vmem S128x3072 .f32) (harg12 : arg12.IsWhole)
  (x0 : Vec Ideal S1x2048x512 .f32) (x1 : Vec Ideal S2048x128 .f32) (x2 : Vec Ideal S2048x128 .f32) (x3 : Vec Ideal S512x1536 .i8) (x4 : Vec Ideal S16x1536 .f32) (x5 : Vec Ideal S16x1536 .f32) (xs0 : Vec Ideal S2048x3072 .f32) (fh0 : HbBuf0 (F := Ideal) c hbM0_0)

theorem codesBlock_A (hc0 : cond0_0 i) (hc1 : ¬cond0_1 i) :
    out0_A_7 (F := Ideal) c i arg1 harg1 arg2 harg2 arg3 harg3 arg4 harg4 arg5 harg5 arg6 harg6 arg8 harg8 arg9 harg9 arg10 harg10 arg11 harg11 arg12 harg12 hc0 hc1 x0 x1 x2 x3 x4 x5 fh0 = codeBlock x0 x1 x2 := by
  unfold out0_A_7
  rw [codes_A]
  funext y
  rw [View.read_writes_junk_apply_eq_canon]
  rw [canon_codes]

theorem accBlock_A (hc0 : cond0_0 i) (hc1 : ¬cond0_1 i) :
    sout0_A_0 (F := Ideal) c i arg1 harg1 arg2 harg2 arg3 harg3 arg4 harg4 arg5 harg5 arg6 harg6 arg8 harg8 arg9 harg9 arg10 harg10 arg11 harg11 arg12 harg12 hc0 hc1 x0 x1 x2 x3 x4 x5 fh0 = accNext x0 x1 x2 (downBlock x3 x4 x5) (k0_pay956 (F := Ideal)) := by
  unfold sout0_A_0
  rw [acc_A]
  funext y
  rw [View.read_writes_junk_apply_eq_canon]
  rw [wCols_eq, canon_accFirst _ _ _ _ fun n => accStep_eq _ _ _ _ _ _ _ _ _ _ n _]

theorem codesBlock_B (hc0 : ¬cond0_0 i) (hc1 : ¬cond0_1 i) :
    out0_B_7 (F := Ideal) c i arg1 harg1 arg2 harg2 arg3 harg3 arg4 harg4 arg5 harg5 arg6 harg6 arg8 harg8 arg9 harg9 arg10 harg10 arg11 harg11 arg12 harg12 hc0 hc1 x0 x1 x2 x3 x4 x5 xs0 fh0 = codeBlock x0 x1 x2 := by
  unfold out0_B_7
  rw [codes_B]
  funext y
  rw [View.read_writes_junk_apply_eq_canon]
  rw [canon_codes]

theorem accBlock_B (hc0 : ¬cond0_0 i) (hc1 : ¬cond0_1 i) :
    sout0_B_0 (F := Ideal) c i arg1 harg1 arg2 harg2 arg3 harg3 arg4 harg4 arg5 harg5 arg6 harg6 arg8 harg8 arg9 harg9 arg10 harg10 arg11 harg11 arg12 harg12 hc0 hc1 x0 x1 x2 x3 x4 x5 xs0 fh0 = accNext x0 x1 x2 (downBlock x3 x4 x5) xs0 := by
  unfold sout0_B_0
  rw [acc_B]
  funext y
  rw [View.read_writes_junk_apply_eq_canon]
  rw [wCols_eq, canon_later _ _ _ _ _ fun n => accStep_eq _ _ _ _ _ _ _ _ _ _ n _]

theorem codesBlock_C (hc0 : ¬cond0_0 i) (hc1 : cond0_1 i) :
    out0_C_7 (F := Ideal) c i arg1 harg1 arg2 harg2 arg3 harg3 arg4 harg4 arg5 harg5 arg6 harg6 arg8 harg8 arg9 harg9 arg10 harg10 arg11 harg11 arg12 harg12 hc0 hc1 x0 x1 x2 x3 x4 x5 xs0 fh0 = codeBlock x0 x1 x2 := by
  unfold out0_C_7
  rw [codes_C]
  funext y
  rw [View.read_writes_junk_apply_eq_canon]
  rw [canon_codes]

theorem accBlock_C (hc0 : ¬cond0_0 i) (hc1 : cond0_1 i) :
    sout0_C_0 (F := Ideal) c i arg1 harg1 arg2 harg2 arg3 harg3 arg4 harg4 arg5 harg5 arg6 harg6 arg8 harg8 arg9 harg9 arg10 harg10 arg11 harg11 arg12 harg12 hc0 hc1 x0 x1 x2 x3 x4 x5 xs0 fh0 = accNext x0 x1 x2 (downBlock x3 x4 x5) xs0 := by
  unfold sout0_C_0
  rw [acc_C]
  funext y
  rw [View.read_writes_junk_apply_eq_canon]
  rw [wCols_eq, canon_later _ _ _ _ _ fun n => accStep_eq _ _ _ _ _ _ _ _ _ _ n _]

/-- Every piece the row chunks before `k` write holds the result's values. -/
theorem chunks_at (arg7 : Memref sig .tc .hbm S2048x3072 .f32) (harg7 : arg7.IsWhole) (arg13 : DmaSems sig S_) (h2 : k0_cond2 i = 1#1)
    (L : List (View.Piece (Elt Ideal) S2048x3072 .f32)) (X7 : BufTy.Contents (Elt Ideal) arg7.view.ty) (k : Nat) (hk : k ≤ k0_t1_loop.trips) :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 h2 (harg2.unread x1) (arg10.view.writes (Elt Ideal) arg10.view.junk L) X7 k,
      ∀ x : p.1.shape.Idx, p.2 x = outAt (View.read (Elt Ideal) arg7.view X7) (View.canon L) x1 (p.1.emb x) := by
  induction k with
  | zero => intro p hp; exact absurd hp List.not_mem_nil
  | succ k ih =>
    intro p hp
    rw [pb_k0_t1_succ (k := ⟨k, hk⟩)] at hp
    rcases List.mem_append.mp hp with hp | hp
    · rw [chunk_eq] at hp
      exact chunk_at i h2 arg2 harg2 arg7 arg10 arg12 x1 L X7 ⟨k, hk⟩ p hp
    · exact ih (Nat.le_of_succ_le hk) p hp

theorem resultBlock_C (hc0 : ¬cond0_0 i) (hc1 : cond0_1 i) :
    out0_C_6 (F := Ideal) c i arg1 harg1 arg2 harg2 arg3 harg3 arg4 harg4 arg5 harg5 arg6 harg6 arg8 harg8 arg9 harg9 arg10 harg10 arg11 harg11 arg12 harg12 hc0 hc1 x0 x1 x2 x3 x4 x5 xs0 fh0
      = outAt (View.read (Elt Ideal) (Memref.whole main_arg5).view fh0) (accNext x0 x1 x2 (downBlock x3 x4 x5) xs0) x1 := by
  unfold out0_C_6
  funext y
  rw [View.read_writes_junk_apply_eq_canon]
  refine (View.canon_apply_of_pieces (outAt (View.read (Elt Ideal) (Memref.whole main_arg5).view fh0)
    (View.canon (kernelRun0_C (F := Ideal) c i arg1 harg1 arg2 harg2 arg3 harg3 arg4 harg4 arg5 harg5 arg6 harg6 arg8 harg8 arg9 harg9 arg10 harg10 arg11 harg11 arg12 harg12 hc0 hc1 x0 x1 x2 x3 x4 x5 xs0 fh0).2.2.1) x1) _
    (chunks_at c i arg1 harg1 arg2 harg2 arg3 harg3 arg4 harg4 arg5 harg5 arg6 harg6 arg8 harg8 arg9 harg9 arg10 harg10 arg11 harg11 arg12 harg12 x1
      (Memref.whole main_arg5) _ cc0_scratch3 _ _ fh0 _ (Nat.le_refl _)) y
    (cover0_C_6 (F := Ideal) c i arg1 harg1 arg2 harg2 arg3 harg3 arg4 harg4 arg5 harg5 arg6 harg6 arg8 harg8 arg9 harg9 arg10 harg10 arg11 harg11 arg12 harg12 hc0 hc1 x0 x1 x2 x3 x4 x5 xs0 fh0 y)).trans ?_
  rw [acc_C, wCols_eq, canon_later _ _ _ _ _ fun n => accStep_eq _ _ _ _ _ _ _ _ _ _ n _]
end
end Cert.DownProj
-- ==== Proof.DownBlocks.lean ====
/- What each grid point of the down projection reads, and what its codes and weights are of the arrays. -/
module
public import proofs.«01_k».proof.Proof.DownStep
@[expose] public section
set_option maxRecDepth 65536
noncomputable section
namespace Cert.DownProj
open Idealize.ShloMosaic Idealize.ShloMosaic.TcCoe Cert.GateUp Cert.DownIdeal Cert.DownIdeal.Gen Cert.DownIdeal.Value

/-- The windows' block numbers at a point. -/
theorem idx : ∀ t : Fin cfg0.N, win0_0.index t = ![t.val / 8, 0, t.val % 8] ∧ win0_1.index t = ![0, 0] ∧ win0_2.index t = ![0, 0]
    ∧ win0_3.index t = ![t.val, 0] ∧ win0_4.index t = ![t.val, 0] ∧ win0_5.index t = ![t.val, 1]
    ∧ win0_6.index t = ![0, 0] ∧ win0_7.index t = ![0, t.val] :=
  (by decide +kernel : ∀ t : Fin grid0.N, _)

theorem pt_lt (t : Fin cfg0.N) : t.val < 16 := lt_of_lt_of_eq t.isLt (show cfg0.N = 16 from N_0)

variable (m : (ℓ : Loc nD τ sig) → Buf (Elt Ideal) ℓ)

/-- The six arguments: gated products, row scales, row zero points, packed codes, group scales, and what is added. -/
abbrev hM (c : Dev nD) : Vec Ideal S2x2048x4096 .f32 := m ((c : Thread nD τ).loc main_arg0)
abbrev scaleM (c : Dev nD) : Vec Ideal S2048x1 .f32 := m ((c : Thread nD τ).loc main_arg1)
abbrev zeroM (c : Dev nD) : Vec Ideal S2048x1 .i32 := m ((c : Thread nD τ).loc main_arg2)
abbrev packM (c : Dev nD) : Vec Ideal S8192x1536 .i8 := m ((c : Thread nD τ).loc main_arg3)
abbrev groupM (c : Dev nD) : Vec Ideal S256x3072 .f32 := m ((c : Thread nD τ).loc main_arg4)
abbrev addM (c : Dev nD) : Vec Ideal S2048x3072 .f32 := m ((c : Thread nD τ).loc main_arg5)

theorem h_at (c : Dev nD) (t : Fin cfg0.N) (R : Fin 2048) (k : Fin 512) :
    (iblk m c 0 t : Vec Ideal S1x2048x512 .f32) (ix3 0 R k)
      = hM m c (ix3 ⟨t.val / 8, by have := pt_lt t; omega⟩ R ⟨512 * (t.val % 8) + k.val, by omega⟩) := by
  blk_ext [iblk, V, idx t]

theorem pack_at (c : Dev nD) (t : Fin cfg0.N) (k : Fin 512) (p : Fin 1536) :
    (iblk m c 3 t : Vec Ideal S512x1536 .i8) (ix2 k p)
      = packM m c (ix2 ⟨512 * t.val + k.val, by have := pt_lt t; omega⟩ p) := by
  blk_ext [iblk, V, idx t]

theorem groupLo_at (c : Dev nD) (t : Fin cfg0.N) (g : Fin 16) (p : Fin 1536) :
    (iblk m c 4 t : Vec Ideal S16x1536 .f32) (ix2 g p)
      = groupM m c (ix2 ⟨16 * t.val + g.val, by have := pt_lt t; omega⟩ ⟨p.val, by omega⟩) := by
  blk_ext [iblk, V, idx t]

theorem groupHi_at (c : Dev nD) (t : Fin cfg0.N) (g : Fin 16) (p : Fin 1536) :
    (iblk m c 5 t : Vec Ideal S16x1536 .f32) (ix2 g p)
      = groupM m c (ix2 ⟨16 * t.val + g.val, by have := pt_lt t; omega⟩ ⟨1536 + p.val, by omega⟩) := by
  blk_ext [iblk, V, idx t]

theorem scale_at (c : Dev nD) (t : Fin cfg0.N) (R : Fin 2048) (l : Fin 128) :
    (iblk m c 1 t : Vec Ideal S2048x128 .f32) (ix2 R l) = scaleM m c (ix2 R 0) := by
  have e : (V m c main_v0 : Vec Ideal S2048x128 .f32) = broadcastInDim S2048x128 ![0, 1] bcast_S2048x1_S2048x128_0_1 (scaleM m c) := by
    show StableHlo.after hostOps0 _ _ = _
    after_results
  have e2 : (broadcastInDim S2048x128 ![0, 1] bcast_S2048x1_S2048x128_0_1 (scaleM m c) : Vec Ideal S2048x128 .f32) (ix2 R l)
      = scaleM m c (ix2 R 0) := by
    pointwise []
  have e3 : (iblk m c 1 t : Vec Ideal S2048x128 .f32) (ix2 R l) = (V m c main_v0 : Vec Ideal S2048x128 .f32) (ix2 R l) := by
    unfold iblk
    blk_ext [idx t]
  rw [e3, e, e2]

theorem zero_at (c : Dev nD) (t : Fin cfg0.N) (R : Fin 2048) (l : Fin 128) :
    (iblk m c 2 t : Vec Ideal S2048x128 .f32) (ix2 R l) = (((zeroM m c (ix2 R 0)).toInt : ℝ) : EReal) := by
  have e : (V m c main_v2 : Vec Ideal S2048x128 .f32) = broadcastInDim S2048x128 ![0, 1] bcast_S2048x1_S2048x128_0_1 (sitofp (F := Ideal) .f32 (zeroM m c)) := by
    show StableHlo.after hostOps0 _ _ = _
    after_results
  have e2 : (broadcastInDim S2048x128 ![0, 1] bcast_S2048x1_S2048x128_0_1 (sitofp (F := Ideal) .f32 (zeroM m c)) : Vec Ideal S2048x128 .f32) (ix2 R l)
      = (((zeroM m c (ix2 R 0)).toInt : ℝ) : EReal) := by
    pointwise []
    rfl
  have e3 : (iblk m c 2 t : Vec Ideal S2048x128 .f32) (ix2 R l) = (V m c main_v2 : Vec Ideal S2048x128 .f32) (ix2 R l) := by
    unfold iblk
    blk_ext [idx t]
  rw [e3, e, e2]

/-- The code at row `R`, column `j` of the halves side by side, before it is made an integer. -/
def codeOf (h : Vec Ideal S2x2048x4096 .f32) (s : Vec Ideal S2048x1 .f32) (z : Vec Ideal S2048x1 .i32) (R : Fin 2048) (j : Fin 8192) : EReal :=
  quant (h (ix3 ⟨j.val / 4096, by omega⟩ R ⟨j.val % 4096, by omega⟩)) (s (ix2 R 0)) (((z (ix2 R 0)).toInt : ℝ) : EReal)

/-- The dequantised weight at row `j`, column `c`: the low nibbles make the first half of the columns. -/
def weightOf (w : Vec Ideal S8192x1536 .i8) (g : Vec Ideal S256x3072 .f32) (j : Fin 8192) (c : Fin 3072) : EReal :=
  ((nib (pNib c) (w (ix2 j (pCol c))) : ℝ) : EReal) * g (ix2 ⟨j.val / 32, by omega⟩ c)

/-- A code with its zero point taken off, times a weight. -/
def termOf (h : Vec Ideal S2x2048x4096 .f32) (s : Vec Ideal S2048x1 .f32) (z : Vec Ideal S2048x1 .i32)
    (w : Vec Ideal S8192x1536 .i8) (g : Vec Ideal S256x3072 .f32) (R : Fin 2048) (c : Fin 3072) (j : Fin 8192) : EReal :=
  (codeOf h s z R j - (((z (ix2 R 0)).toInt : ℝ) : EReal)) * weightOf w g j c

/-- A point's codes are those of its columns. -/
theorem quant_at (c : Dev nD) (t : Fin cfg0.N) (R : Fin 2048) (k : Fin 512) :
    quantAt (iblk m c 0 t) (iblk m c 1 t) (iblk m c 2 t) R k
      = codeOf (hM m c) (scaleM m c) (zeroM m c) R ⟨512 * t.val + k.val, by have := pt_lt t; omega⟩ := by
  have ht := pt_lt t
  unfold quantAt codeOf
  rw [h_at, scale_at, zero_at]
  have e0 : (⟨t.val / 8, by omega⟩ : Fin 2) = ⟨(512 * t.val + k.val) / 4096, by omega⟩ := Fin.ext (by dsimp only; omega)
  have e1 : (⟨512 * (t.val % 8) + k.val, by omega⟩ : Fin 4096) = ⟨(512 * t.val + k.val) % 4096, by omega⟩ := Fin.ext (by dsimp only; omega)
  rw [e0, e1]

theorem downBlock_at (x3 : Vec Ideal S512x1536 .i8) (x4 x5 : Vec Ideal S16x1536 .f32) (k : Fin 512) (p : Fin 3072) :
    downBlock x3 x4 x5 (ix2 k p) = ((nib (pNib p) (x3 (ix2 k (pCol p))) : ℝ) : EReal)
      * choose (pNib p) (x4 (ix2 ⟨k.val / 32, by omega⟩ (pCol p))) (x5 (ix2 ⟨k.val / 32, by omega⟩ (pCol p))) := rfl

/-- The scales of the low nibbles are followed by those of the high nibbles. -/
theorem choose_at (g : Vec Ideal S256x3072 .f32) (r : Fin 256) (p : Fin 3072) :
    choose (pNib p) (g (ix2 r ⟨(pCol p).val, by omega⟩)) (g (ix2 r ⟨1536 + (pCol p).val, by omega⟩)) = g (ix2 r p) := by
  have hw : (pCol p).val = p.val % 1536 := rfl
  by_cases h : p.val < 1536
  · have hn : pNib p = 0 := Fin.ext (by show p.val / 1536 = 0; omega)
    rw [hn]
    exact congrArg (fun x => g (ix2 r x)) (Fin.ext (by dsimp only; omega))
  · have hn : pNib p = 1 := Fin.ext (by show p.val / 1536 = 1; omega)
    rw [hn]
    exact congrArg (fun x => g (ix2 r x)) (Fin.ext (by dsimp only; omega))

/-- A point's weight block holds the weights of its rows. -/
theorem weight_at (c : Dev nD) (t : Fin cfg0.N) (k : Fin 512) (p : Fin 3072) :
    downBlock (iblk m c 3 t) (iblk m c 4 t) (iblk m c 5 t) (ix2 k p)
      = weightOf (packM m c) (groupM m c) ⟨512 * t.val + k.val, by have := pt_lt t; omega⟩ p := by
  have ht := pt_lt t
  refine (downBlock_at (iblk m c 3 t) (iblk m c 4 t) (iblk m c 5 t) k p).trans ?_
  rw [pack_at, groupLo_at, groupHi_at, choose_at]
  unfold weightOf
  have e0 : (⟨16 * t.val + k.val / 32, by omega⟩ : Fin 256) = ⟨(512 * t.val + k.val) / 32, by omega⟩ := Fin.ext (by dsimp only; omega)
  rw [e0]

/-- What a point adds to the running products. -/
theorem accNext_at (c : Dev nD) (t : Fin cfg0.N) (xs : Vec Ideal S2048x3072 .f32) (R : Fin 2048) (p : Fin 3072) :
    accNext (iblk m c 0 t) (iblk m c 1 t) (iblk m c 2 t) (downBlock (iblk m c 3 t) (iblk m c 4 t) (iblk m c 5 t)) xs (ix2 R p)
      = xs (ix2 R p) + ∑ k : Fin 512, termOf (hM m c) (scaleM m c) (zeroM m c) (packM m c) (groupM m c) R p
          ⟨512 * t.val + k.val, by have := pt_lt t; omega⟩ := by
  refine congrArg (xs (ix2 R p) + ·) (Finset.sum_congr rfl fun k _ => ?_)
  have e : centred (iblk m c 0 t) (iblk m c 1 t) (iblk m c 2 t) R k
      = codeOf (hM m c) (scaleM m c) (zeroM m c) R ⟨512 * t.val + k.val, by have := pt_lt t; omega⟩ - (((zeroM m c (ix2 R 0)).toInt : ℝ) : EReal) := by
    unfold centred
    rw [quant_at, zero_at]
  exact congrArg₂ (· * ·) e (weight_at m c t k p)
end Cert.DownProj
-- ==== Proof.DownFold.lean ====
/- What the down projection's arrays hold after the run. -/
module
public import proofs.«01_k».proof.Proof.DownBlocks
@[expose] public section
set_option maxRecDepth 65536
noncomputable section
namespace Cert.DownProj
open Idealize.ShloMosaic Idealize.ShloMosaic.TcCoe Cert.GateUp Cert.DownIdeal Cert.DownIdeal.Gen Cert.DownIdeal.Value

/-- The result: what is added, plus the row's products times its scale. -/
def downOf (h : Vec Ideal S2x2048x4096 .f32) (s : Vec Ideal S2048x1 .f32) (z : Vec Ideal S2048x1 .i32)
    (w : Vec Ideal S8192x1536 .i8) (g : Vec Ideal S256x3072 .f32) (a : Vec Ideal S2048x3072 .f32) (R : Fin 2048) (p : Fin 3072) : EReal :=
  a (ix2 R p) + (∑ j : Fin 8192, termOf h s z w g R p j) * s (ix2 R 0)

/-- A function on the rows, by numbers. -/
def atNat (f : Fin 8192 → EReal) (n : ℕ) : EReal := if h : n < 8192 then f ⟨n, h⟩ else 0

theorem sum_atNat (f : Fin 8192 → EReal) : ∑ n ∈ Finset.range 8192, atNat f n = ∑ j : Fin 8192, f j := by
  rw [Finset.sum_range]
  exact Finset.sum_congr rfl fun j _ => dif_pos j.isLt

theorem sum_block (f : Fin 8192 → EReal) (n : ℕ) (h : n < 16) :
    ∑ i ∈ Finset.range (512 * (n + 1)), atNat f i = ∑ i ∈ Finset.range (512 * n), atNat f i + ∑ k : Fin 512, f ⟨512 * n + k.val, by omega⟩ := by
  rw [show 512 * (n + 1) = 512 * n + 512 from by omega, Finset.sum_range_add, Finset.sum_range (n := 512)]
  congr 1
  exact Finset.sum_congr rfl fun k _ => dif_pos (by omega)

theorem sum_last (f : Fin 8192 → EReal) :
    ∑ j : Fin 8192, f j = ∑ i ∈ Finset.range (512 * (14 + 1)), atNat f i + ∑ k : Fin 512, f ⟨512 * 15 + k.val, by omega⟩ :=
  (sum_atNat f).symm.trans (sum_block f 15 (by decide))

theorem acc_zero (y : S2048x3072.Idx) : k0_pay956 (F := Ideal) y = 0 := by
  rw [← ix2_eta (n0 := 2048) (n1 := 3072) y]
  pointwise [k0_pay956]

variable (m : (ℓ : Loc nD τ sig) → Buf (Elt Ideal) ℓ)

/-- The products of the arguments' rows and columns, by number. -/
abbrev termM (c : Dev nD) (R : Fin 2048) (p : Fin 3072) : Fin 8192 → EReal :=
  termOf (hM m c) (scaleM m c) (zeroM m c) (packM m c) (groupM m c) R p

/-- The running products after a point. -/
theorem acc_after (c : Dev nD) (R : Fin 2048) (p : Fin 3072) : ∀ (n : ℕ) (hn : n < cfg0.N),
    (outsAt0 m c n hn).2.2 (ix2 R p) = ∑ i ∈ Finset.range (512 * (n + 1)), atNat (termM m c R p) i
  | 0, hn => by
    have e := congrArg (fun o => o.2.2 (ix2 R p)) (outsAt0_A m c ⟨0, hn⟩ (Nat.zero_mod 16) (by show ¬ 0 % 16 = 15; decide))
    dsimp only at e
    rw [e, accBlock_A, accNext_at, acc_zero, sum_block _ 0 (by decide)]
    rfl
  | n + 1, hn => by
    have hN := pt_lt ⟨n + 1, hn⟩
    dsimp only at hN
    by_cases h : (n + 1) % 16 = 15
    · have e := congrArg (fun o => o.2.2 (ix2 R p)) (outsAt0_C m c ⟨n + 1, hn⟩ (by dsimp only; omega) h)
      dsimp only at e
      rw [e, accBlock_C, accNext_at, sum_block _ (n + 1) hN]
      exact congrArg (· + _) (acc_after c R p n _)
    · have e := congrArg (fun o => o.2.2 (ix2 R p)) (outsAt0_B m c ⟨n + 1, hn⟩ (by dsimp only; omega) h)
      dsimp only at e
      rw [e, accBlock_B, accNext_at, sum_block _ (n + 1) hN]
      exact congrArg (· + _) (acc_after c R p n _)

/-- The codes a point leaves. -/
theorem codes_after (c : Dev nD) (t : Fin cfg0.N) (R : Fin 2048) (k : Fin 512) :
    (outsAt0 m c t.val t.isLt).2.1 (ix2 R k)
      = asInt8 (codeOf (hM m c) (scaleM m c) (zeroM m c) R ⟨512 * t.val + k.val, by have := pt_lt t; omega⟩) := by
  have ht := pt_lt t
  have q : codeBlock (iblk m c 0 t) (iblk m c 1 t) (iblk m c 2 t) (ix2 R k)
      = asInt8 (codeOf (hM m c) (scaleM m c) (zeroM m c) R ⟨512 * t.val + k.val, by omega⟩) := congrArg asInt8 (quant_at m c t R k)
  by_cases h0 : t.val % 16 = 0
  · have e := congrArg (fun o => o.2.1 (ix2 R k)) (outsAt0_A m c t h0 (by omega))
    dsimp only at e
    rw [e, codesBlock_A, q]
  · by_cases h1 : t.val % 16 = 15
    · have e := congrArg (fun o => o.2.1 (ix2 R k)) (outsAt0_C m c t h0 h1)
      dsimp only at e
      rw [e, codesBlock_C, q]
    · have e := congrArg (fun o => o.2.1 (ix2 R k)) (outsAt0_B m c t h0 h1)
      dsimp only at e
      rw [e, codesBlock_B, q]

theorem h14 : 14 < cfg0.N := lt_of_lt_of_eq (by decide) N_0.symm
theorem h15 : 15 < cfg0.N := lt_of_lt_of_eq (by decide) N_0.symm

/-- The result the last point leaves. -/
theorem result_after (c : Dev nD) (R : Fin 2048) (p : Fin 3072) :
    (outsAt0 m c 15 h15).1 (ix2 R p) = downOf (hM m c) (scaleM m c) (zeroM m c) (packM m c) (groupM m c) (addM m c) R p := by
  have e := congrArg (fun o => o.1 (ix2 R p)) (outsAt0_C m c ⟨15, h15⟩ (by decide) (by decide))
  dsimp only at e
  rw [e, resultBlock_C]
  have eo : ∀ (h acc : Vec Ideal S2048x3072 .f32) (x : Vec Ideal S2048x128 .f32), outAt h acc x (ix2 R p)
      = h (ix2 R p) + acc (ix2 R p) * x (ix2 R ⟨p.val % 128, Nat.mod_lt _ (by decide)⟩) := fun _ _ _ => rfl
  rw [eo, accNext_at, scale_at]
  have eh : View.read (Elt Ideal) (Memref.whole main_arg5).view (V m c main_arg5) (ix2 R p) = addM m c (ix2 R p) := by
    rw [V_main_arg5]
    rfl
  have ea : (outsAt0 m c (15 - 1) (lt_of_lt_of_eq (by decide) N_0.symm)).2.2 (ix2 R p)
      = ∑ i ∈ Finset.range (512 * (14 + 1)), atNat (termM m c R p) i := acc_after m c R p 14 h14
  rw [eh, ea, downOf, sum_last]

/-- The array of codes after the run. -/
theorem codes_final (c : Dev nD) :
    ((dats m 0 c).arrAt 7 cfg0.N : Vec Ideal S2048x8192 .i8) = fun i => asInt8 (codeOf (hM m c) (scaleM m c) (zeroM m c) (i 0) (i 1)) := by
  funext i
  have key : ∀ (R : Fin 2048) (j : Fin 8192), ((dats m 0 c).arrAt 7 cfg0.N : Vec Ideal S2048x8192 .i8) (ix2 R j)
      = asInt8 (codeOf (hM m c) (scaleM m c) (zeroM m c) R j) := by
    intro R j
    have hd : j.val / 512 < cfg0.N := lt_of_lt_of_eq (by omega : j.val / 512 < 16) N_0.symm
    have b := blocks7 m c ⟨j.val / 512, hd⟩ (flush0_7 _)
    rw [flushed7] at b
    generalize (dats m 0 c).arrAt 7 cfg0.N = A at b ⊢
    have e := codes_after m c ⟨j.val / 512, hd⟩ R ⟨j.val % 512, by omega⟩
    generalize (outsAt0 m c (Fin.mk (j.val / 512) hd).val (Fin.mk (j.val / 512) hd).isLt).2.1 = X at b e
    have b' := congrFun b (ix2 R ⟨j.val % 512, by omega⟩)
    have e1 : View.read (Elt Ideal) ((cfg0.win 7).blk ⟨j.val / 512, hd⟩).view A (ix2 R ⟨j.val % 512, by omega⟩) = A (ix2 R j) := by
      have e2 : View.read (Elt Ideal) ((cfg0.win 7).blk ⟨j.val / 512, hd⟩).view A (ix2 R ⟨j.val % 512, by omega⟩) = A (ix2 R ⟨512 * (j.val / 512) + j.val % 512, by omega⟩) := by
        blk_ext [idx ⟨j.val / 512, hd⟩]
      exact e2.trans (congrArg (fun x => A (ix2 R x)) (Fin.ext (by dsimp only; omega)))
    rw [← e1]
    refine b'.trans (Eq.trans ?_ (e.trans (congrArg (fun x => asInt8 (codeOf (hM m c) (scaleM m c) (zeroM m c) R x)) (Fin.ext (by dsimp only; omega)))))
    rfl
  have e := key (i 0) (i 1)
  rw [ix2_eta] at e
  exact e

/-- Only the last point writes the result back. -/
theorem disjoint6 : ∀ t t' : Fin cfg0.N, (cfg0.win 6).flush t = true → (cfg0.win 6).flush t' = true → t ≠ t' →
    Disjoint ((cfg0.win 6).blk t).view.set ((cfg0.win 6).blk t').view.set := by
  intro t t' h h' hne
  have e := (flush0_6 t).1 h
  have e' := (flush0_6 t').1 h'
  have := pt_lt t
  have := pt_lt t'
  exact absurd (Fin.ext (by omega)) hne

theorem read6 (t : Fin cfg0.N) (A : Vec Ideal S2048x3072 .bf16) (R : Fin 2048) (p : Fin 3072) :
    View.read (Elt Ideal) ((cfg0.win 6).blk t).view A (ix2 R p) = A (ix2 R p) := by
  blk_ext [idx t]

/-- The result array after the run. -/
theorem result_final (c : Dev nD) :
    ((dats m 0 c).arrAt 6 cfg0.N : Vec Ideal S2048x3072 .bf16)
      = fun i => downOf (hM m c) (scaleM m c) (zeroM m c) (packM m c) (groupM m c) (addM m c) (i 0) (i 1) := by
  funext i
  have key : ∀ (R : Fin 2048) (p : Fin 3072), ((dats m 0 c).arrAt 6 cfg0.N : Vec Ideal S2048x3072 .bf16) (ix2 R p)
      = downOf (hM m c) (scaleM m c) (zeroM m c) (packM m c) (groupM m c) (addM m c) R p := by
    intro R p
    have b := (dats m 0 c).read_blk_arrAt_eq_flushed 6 disjoint6 cfg0.N ⟨15, h15⟩ h15 ((flush0_6 ⟨15, h15⟩).2 (by decide))
    rw [flushed6] at b
    generalize (dats m 0 c).arrAt 6 cfg0.N = A at b ⊢
    have e := result_after m c R p
    generalize (outsAt0 m c 15 h15).1 = X at b e
    have b' := congrFun b (ix2 R p)
    rw [← read6 ⟨15, h15⟩ A R p]
    refine b'.trans (Eq.trans ?_ e)
    rfl
  have e := key (i 0) (i 1)
  rw [ix2_eta] at e
  exact e
end Cert.DownProj
-- ==== Proof.DownInts.lean ====
/- The codes are integers, and so is a code with its zero point taken off. -/
module
public import proofs.«01_k».proof.Proof.DownParts
@[expose] public section
noncomputable section
namespace Cert.DownProj
open Idealize.ShloMosaic

/-- A code is an integer of a signed byte. -/
theorem quant_int (h s : EReal) (z : ℤ) : ∃ n : ℤ, -128 ≤ n ∧ n ≤ 127 ∧ quant h s ((z : ℝ) : EReal) = ((n : ℝ) : EReal) := by
  unfold quant
  generalize h * Ideal.div 1 s = x
  induction x with
  | bot =>
    refine ⟨-128, by decide, by decide, ?_⟩
    show min ((127 : ℝ) : EReal) (max ((-128 : ℝ) : EReal) (⊥ + ((z : ℝ) : EReal))) = _
    rw [EReal.bot_add, max_eq_left bot_le, min_eq_right (by exact_mod_cast (by norm_num : (-128 : ℝ) ≤ 127))]
    norm_num
  | top =>
    refine ⟨127, by decide, by decide, ?_⟩
    show min ((127 : ℝ) : EReal) (max ((-128 : ℝ) : EReal) (⊤ + ((z : ℝ) : EReal))) = _
    rw [EReal.top_add_coe, max_eq_right le_top, min_eq_left le_top]
    norm_num
  | coe r =>
    refine ⟨min 127 (max (-128) (Ideal.roundHalfEven r + z)), by omega, by omega, ?_⟩
    show min ((127 : ℝ) : EReal) (max ((-128 : ℝ) : EReal) (((Ideal.roundHalfEven r : ℝ) : EReal) + ((z : ℝ) : EReal))) = _
    rw [← EReal.coe_add]
    have e1 : max ((-128 : ℝ) : EReal) (((Ideal.roundHalfEven r : ℝ) + (z : ℝ) : ℝ) : EReal) = ((max (-128) ((Ideal.roundHalfEven r : ℝ) + z) : ℝ) : EReal) :=
      (EReal.coe_strictMono.monotone.map_max).symm
    rw [e1]
    have e2 : min ((127 : ℝ) : EReal) ((max (-128) ((Ideal.roundHalfEven r : ℝ) + z) : ℝ) : EReal) = ((min 127 (max (-128) ((Ideal.roundHalfEven r : ℝ) + z)) : ℝ) : EReal) :=
      (EReal.coe_strictMono.monotone.map_min).symm
    rw [e2]
    push_cast
    rfl

/-- An integer of a signed byte, made one. -/
theorem asInt8_int (n : ℤ) (h1 : -128 ≤ n) (h2 : n ≤ 127) : asInt8 ((n : ℝ) : EReal) = BitVec.ofInt 8 n := by
  have e : Ideal.fptosi 32 ((n : ℝ) : EReal) = BitVec.ofInt 32 n := by
    unfold Ideal.fptosi
    congr 1
    show max _ (min _ (if 0 ≤ (n : ℝ) then ⌊(n : ℝ)⌋ else ⌈(n : ℝ)⌉)) = n
    rw [Int.floor_intCast, Int.ceil_intCast, ite_self]
    norm_num
    omega
  unfold asInt8
  rw [e]
  apply BitVec.eq_of_toInt_eq
  rw [BitVec.truncate_eq_setWidth, BitVec.toInt_setWidth, BitVec.toInt_ofInt, BitVec.toNat_ofInt]
  simp only [Int.bmod]
  omega

/-- The byte's sign extension less the zero point, as an integer. -/
theorem centre_int (n : ℤ) (z : BitVec 32) (h1 : -128 ≤ n) (h2 : n ≤ 127) (h3 : -128 ≤ z.toInt) (h4 : z.toInt ≤ 127) :
    ((BitVec.ofInt 8 n).signExtend 32 - z).toInt = n - z.toInt := by
  rw [BitVec.toInt_sub, BitVec.toInt_signExtend_of_le (by decide), BitVec.toInt_ofInt]
  simp only [Int.bmod]
  omega

/-- A code made a byte, sign-extended and less its zero point, is the code less the zero point. -/
theorem centre_quant (h s : EReal) (z : BitVec 32) (h3 : -128 ≤ z.toInt) (h4 : z.toInt ≤ 127) :
    (((((asInt8 (quant h s ((z.toInt : ℝ) : EReal))).signExtend 32 - z).toInt : ℝ)) : EReal)
      = quant h s ((z.toInt : ℝ) : EReal) - ((z.toInt : ℝ) : EReal) := by
  obtain ⟨n, h1, h2, e⟩ := quant_int h s z.toInt
  rw [e, asInt8_int n h1 h2, centre_int n z h1 h2 h3 h4]
  push_cast
  rfl
end Cert.DownProj
-- ==== Proof.DownRef.lean ====
/- What the reference of the down projection computes, entry by entry. -/
module
public import proofs.«01_k».proof.Proof.RefParams
public import proofs.«01_k».proof.Proof.DownFold
public import proofs.«01_k».proof.Proof.DownInts
public import proofs.«01_k».proof.Proof.Gen.DownReferenceIdeal.Read
@[expose] public section
set_option maxRecDepth 65536
noncomputable section
namespace Cert.DownProj
open Idealize.ShloMosaic Cert.GateUp Cert.DownReferenceIdeal Cert.DownReferenceIdeal.Gen Cert.DownReferenceIdeal.Read

section
variable (x3 : Vec Ideal S8192x1536 .i8) (x4 : Vec Ideal S256x3072 .f32)

theorem weight_lo (j : Fin 8192) (p : Fin 1536) : val_main_v24 (F := Ideal) x3 x4 (ix2 j p)
    = weightOf x3 x4 j ⟨p.val, by omega⟩ := by
  pointwise [val_main_v24, val_main_v23, val_main_v18, val_main_v17, val_main_v16, val_main_v15, val_main_v7, val_main_v4, val_main_v6, val_main_v2, val_main_v0, val_main_v1, val_main_v3, val_main_v5, val_main_c, val_main_c_0, val_main_c_1]
  unfold weightOf
  rw [show pNib ⟨p.val, by omega⟩ = 0 from Fin.ext (by show p.val / 1536 = 0; omega), show pCol ⟨p.val, by omega⟩ = p from Fin.ext (by show p.val % 1536 = p.val; omega), ← low_nibble]
  congr 1

theorem weight_hi (j : Fin 8192) (p : Fin 1536) : val_main_v26 (F := Ideal) x3 x4 (ix2 j p)
    = weightOf x3 x4 j ⟨1536 + p.val, by omega⟩ := by
  pointwise [val_main_v26, val_main_v25, val_main_v22, val_main_v21, val_main_v20, val_main_v19, val_main_v14, val_main_v11, val_main_v13, val_main_v9, val_main_v0, val_main_v8, val_main_v10, val_main_v12, val_main_c_2, val_main_c_3, val_main_c_4]
  unfold weightOf
  rw [show pNib ⟨1536 + p.val, by omega⟩ = 1 from Fin.ext (by show (1536 + p.val) / 1536 = 1; omega), show pCol ⟨1536 + p.val, by omega⟩ = p from Fin.ext (by show (1536 + p.val) % 1536 = p.val; omega), ← high_nibble]
  congr 1
end

variable (x0 : Vec Ideal S2x2048x4096 .f32) (x1 : Vec Ideal S2048x1 .f32) (x2 : Vec Ideal S2048x1 .i32)

/-- The halves side by side. -/
theorem mid_at (R : Fin 2048) (j : Fin 8192) : val_main_v31 (F := Ideal) x0 (ix2 R j)
    = x0 (ix3 ⟨j.val / 4096, by omega⟩ R ⟨j.val % 4096, by omega⟩) := by
  have e : val_main_v31 (F := Ideal) x0 (ix2 R j)
      = if h : j.val < 4096 then x0 (ix3 0 R ⟨j.val, h⟩) else x0 (ix3 1 R ⟨j.val - 4096, by omega⟩) := by
    pointwise [val_main_v31, val_main_v28, val_main_v27, val_main_v30, val_main_v29]
  rw [e]
  by_cases h : j.val < 4096
  · rw [dif_pos h]
    congr 2
    · exact Fin.ext (by show 0 = j.val / 4096; omega)
    · exact Fin.ext (by show j.val = j.val % 4096; omega)
  · rw [dif_neg h]
    congr 2
    · exact Fin.ext (by show 1 = j.val / 4096; omega)
    · exact Fin.ext (by show j.val - 4096 = j.val % 4096; omega)

/-- Dividing by a scale that is not zero is multiplying by one over it. -/
theorem div_eq (v s : EReal) (hs : s ≠ 0) : Ideal.div v s = v * Ideal.div 1 s := by
  unfold Ideal.div
  rw [if_neg hs, if_neg hs, one_mul]

/-- The code before it is made an integer. -/
theorem code_ref (R : Fin 2048) (j : Fin 8192) (hs : x1 (ix2 R 0) ≠ 0) :
    val_main_v38 (F := Ideal) x0 x1 x2 (ix2 R j) = codeOf x0 x1 x2 R j := by
  have e : val_main_v38 (F := Ideal) x0 x1 x2 (ix2 R j)
      = min (((127#32 : BitVec 32).toInt : ℝ) : EReal) (max (((4294967168#32 : BitVec 32).toInt : ℝ) : EReal)
        (Ideal.liftRound Ideal.roundHalfEven (Ideal.div (val_main_v31 (F := Ideal) x0 (ix2 R j)) (x1 (ix2 R 0))) + (((x2 (ix2 R 0)).toInt : ℝ) : EReal))) := by
    pointwise [val_main_v38, val_main_call3_v4, val_main_call3_v3, val_main_call3_v2, val_main_call3_v1, val_main_call3_v0, val_main_v37, val_main_v36, val_main_v35, val_main_v34, val_main_v33, val_main_v32, val_main_c_5, val_main_c_6]
    rfl
  rw [e, mid_at, div_eq _ _ hs]
  unfold codeOf quant
  have e1 : (127#32 : BitVec 32).toInt = 127 := by decide
  have e2 : (4294967168#32 : BitVec 32).toInt = -128 := by decide
  rw [e1, e2]
  norm_num

/-- The array of codes. -/
theorem codes_ref (hs : ∀ R : Fin 2048, x1 (ix2 R 0) ≠ 0) :
    val_main_v40 (F := Ideal) x0 x1 x2 = fun i => asInt8 (codeOf x0 x1 x2 (i 0) (i 1)) := by
  have key : ∀ (R : Fin 2048) (j : Fin 8192), val_main_v40 (F := Ideal) x0 x1 x2 (ix2 R j) = asInt8 (codeOf x0 x1 x2 R j) := by
    intro R j
    rw [← code_ref x0 x1 x2 R j (hs R)]
    rfl
  funext i
  have e := key (i 0) (i 1)
  rw [ix2_eta] at e
  exact e

/-- The codes with their zero points taken off. -/
theorem centred_ref (hs : ∀ R : Fin 2048, x1 (ix2 R 0) ≠ 0) (hz : ∀ R : Fin 2048, -128 ≤ (x2 (ix2 R 0)).toInt ∧ (x2 (ix2 R 0)).toInt ≤ 127)
    (R : Fin 2048) (j : Fin 8192) :
    val_main_v44 (F := Ideal) x0 x1 x2 (ix2 R j) = codeOf x0 x1 x2 R j - (((x2 (ix2 R 0)).toInt : ℝ) : EReal) := by
  have e : val_main_v44 (F := Ideal) x0 x1 x2 (ix2 R j)
      = (((((val_main_v40 (F := Ideal) x0 x1 x2 (ix2 R j)).signExtend 32 - x2 (ix2 R 0)).toInt : ℝ)) : EReal) := by
    pointwise [val_main_v44, val_main_v43, val_main_v42, val_main_v41]
    rfl
  rw [e, codes_ref x0 x1 x2 hs]
  exact centre_quant _ _ _ (hz R).1 (hz R).2

variable (x3 : Vec Ideal S8192x1536 .i8) (x4 : Vec Ideal S256x3072 .f32) (x5 : Vec Ideal S2048x3072 .f32)

theorem dots_lo (hs : ∀ R : Fin 2048, x1 (ix2 R 0) ≠ 0) (hz : ∀ R : Fin 2048, -128 ≤ (x2 (ix2 R 0)).toInt ∧ (x2 (ix2 R 0)).toInt ≤ 127)
    (R : Fin 2048) (p : Fin 1536) :
    val_main_v45 (F := Ideal) x0 x1 x2 x3 x4 (ix2 R p) = ∑ j : Fin 8192, termOf x0 x1 x2 x3 x4 R ⟨p.val, by omega⟩ j := by
  have e : val_main_v45 (F := Ideal) x0 x1 x2 x3 x4 (ix2 R p)
      = ∑ j : Fin 8192, val_main_v44 (F := Ideal) x0 x1 x2 (ix2 R j) * val_main_v24 (F := Ideal) x3 x4 (ix2 j p) := by
    pointwise [val_main_v45]
  rw [e]
  exact Finset.sum_congr rfl fun j _ => congrArg₂ (· * ·) (centred_ref x0 x1 x2 hs hz R j) (weight_lo x3 x4 j p)

theorem dots_hi (hs : ∀ R : Fin 2048, x1 (ix2 R 0) ≠ 0) (hz : ∀ R : Fin 2048, -128 ≤ (x2 (ix2 R 0)).toInt ∧ (x2 (ix2 R 0)).toInt ≤ 127)
    (R : Fin 2048) (p : Fin 1536) :
    val_main_v48 (F := Ideal) x0 x1 x2 x3 x4 (ix2 R p) = ∑ j : Fin 8192, termOf x0 x1 x2 x3 x4 R ⟨1536 + p.val, by omega⟩ j := by
  have e : val_main_v48 (F := Ideal) x0 x1 x2 x3 x4 (ix2 R p)
      = ∑ j : Fin 8192, val_main_v44 (F := Ideal) x0 x1 x2 (ix2 R j) * val_main_v26 (F := Ideal) x3 x4 (ix2 j p) := by
    pointwise [val_main_v48]
  rw [e]
  exact Finset.sum_congr rfl fun j _ => congrArg₂ (· * ·) (centred_ref x0 x1 x2 hs hz R j) (weight_hi x3 x4 j p)

/-- The result. -/
theorem result_ref (hs : ∀ R : Fin 2048, x1 (ix2 R 0) ≠ 0) (hz : ∀ R : Fin 2048, -128 ≤ (x2 (ix2 R 0)).toInt ∧ (x2 (ix2 R 0)).toInt ≤ 127) :
    val_main_v53 (F := Ideal) x0 x1 x2 x3 x4 x5 = fun i => downOf x0 x1 x2 x3 x4 x5 (i 0) (i 1) := by
  have key : ∀ (R : Fin 2048) (p : Fin 3072), val_main_v53 (F := Ideal) x0 x1 x2 x3 x4 x5 (ix2 R p) = downOf x0 x1 x2 x3 x4 x5 R p := by
    intro R p
    have e : val_main_v53 (F := Ideal) x0 x1 x2 x3 x4 x5 (ix2 R p)
        = x5 (ix2 R p) + if h : p.val < 1536 then val_main_v45 (F := Ideal) x0 x1 x2 x3 x4 (ix2 R ⟨p.val, h⟩) * x1 (ix2 R 0)
          else val_main_v48 (F := Ideal) x0 x1 x2 x3 x4 (ix2 R ⟨p.val - 1536, by omega⟩) * x1 (ix2 R 0) := by
      pointwise [val_main_v53, val_main_v52, val_main_v51, val_main_v50, val_main_v49, val_main_v47, val_main_v46]
    rw [e]
    unfold downOf
    by_cases h : p.val < 1536
    · rw [dif_pos h, dots_lo x0 x1 x2 x3 x4 hs hz]
    · rw [dif_neg h, dots_hi x0 x1 x2 x3 x4 hs hz]
      have ep : (⟨1536 + (p.val - 1536), by omega⟩ : Fin 3072) = p := Fin.ext (by dsimp only; omega)
      rw [ep]
  funext i
  have e := key (i 0) (i 1)
  rw [ix2_eta] at e
  exact e
end Cert.DownProj
-- ==== Proof.DownPre.lean ====
/- What the precondition of the down projection says of the scales and the zero points. -/
module
public import proofs.«01_k».proof.Pre_quantised
public import Idealize.ShloMosaic.Lib.Pointwise
public import Idealize.ShloMosaic.Lib.ValueIdx
@[expose] public section
noncomputable section
namespace Cert.DownProj
open Idealize.ShloMosaic Cert.Pre_quantised

theorem pre_facts : Cert.Pre_quantised.Facts where
  bcast_S_S2048x1 := by decide

theorem and_one : ∀ a b : BitVec 1, a &&& b = 1#1 → a = 1#1 ∧ b = 1#1 := by decide
theorem ofBool_one : ∀ a : Bool, BitVec.ofBool a = 1#1 → a = true := by decide

theorem zero_bits : Ideal.ofBits .f32 0#32 = 0 := by
  simp [Ideal.ofBits, Ideal.ieee, -EReal.coe_mul]

/-- Under the precondition a scale is not zero and a zero point is a signed byte. -/
theorem pre_at [Cert.Pre_quantised.Facts] (x0 : FVec Ideal S2x2048x4096 .f32) (x1 : FVec Ideal S2048x1 .f32) (x2 : IVec S2048x1 32) (x3 : IVec S8192x1536 8)
    (x4 : FVec Ideal S256x3072 .f32) (x5 : FVec Ideal S2048x3072 .f32) (h : fn (F := Ideal) x0 x1 x2 x3 x4 x5 = fun _ => 1#1) (i : S2048x1.Idx) :
    x1 i ≠ 0 ∧ -128 ≤ (x2 i).toInt ∧ (x2 i).toInt ≤ 127 := by
  have e : (IntOp.andi (IntOp.andi (FloatOps.cmpf .une (x1 i) (Ideal.ofBits .f32 0x00000000#32)) (IntOp.cmpi .sge (x2 i) 4294967168#32)) (IntOp.cmpi .sle (x2 i) 127#32)) = 1#1 := congrFun h i
  obtain ⟨e1, e3⟩ := and_one _ _ e
  obtain ⟨e1, e2⟩ := and_one _ _ e1
  have d1 := of_decide_eq_true (ofBool_one _ e1)
  rw [zero_bits] at d1
  have d2 : (4294967168#32 : BitVec 32).toInt ≤ (x2 i).toInt := of_decide_eq_true (ofBool_one _ e2)
  have d3 : (x2 i).toInt ≤ (127#32 : BitVec 32).toInt := of_decide_eq_true (ofBool_one _ e3)
  exact ⟨d1, d2, d3⟩
end Cert.DownProj
-- ==== Proof.RowQuant.lean ====
/- A block of 64 rows normalised by their root mean square, and a block of 64 rows quantised row by row: the operations a
   kernel applies to a block, and their values entry by entry. -/
module
public import proofs.«01_k».proof.Proof.StepParams
public import proofs.«01_k».proof.Proof.DownInts
public import proofs.«01_k».proof.Proof.Gen.NormIdeal
@[expose] public section
set_option maxRecDepth 65536
noncomputable section
namespace Cert.RowQuant
open Idealize.ShloMosaic Cert.GateUp Cert.DownProj Cert.NormIdeal Cert.NormIdeal.Gen

section
variable {F : FTy → Type} [FloatOps F]

/-- Rows divided by their root mean square, times a weight per column. -/
def rmsRows (t : FVec F S64x3072 .f32) (g : Vec F S1x3072 .f32) : FVec F S64x3072 .f32 :=
  mulf (divf t (broadcastTo S64x3072 (sqrt (addf (divf (shapeCast S64x1 (multiReduction .add [1] S64 (mulf t t) 0x00000000#32 reduces_S64x3072_S64 (.inl rfl) rfl)
    shapeCasts_S64_S64x1) (broadcast S64x1 (Scalar.ofBits .f32 0x45400000#32))) (broadcast S64x1 (Scalar.ofBits .f32 0x3727C5AC#32)))) broadcasts_S64x1_S64x3072))
    (broadcastTo S64x3072 g broadcasts_S1x3072_S64x3072)

/-- Each row's least value, or zero if that is less. -/
def lowRows (v : FVec F S64x3072 .f32) : FVec F S64x1 .f32 :=
  minimumf (shapeCast S64x1 (multiReduction .minimumf [1] S64 v 0x7F800000#32 reduces_S64x3072_S64 (.inl rfl) rfl) shapeCasts_S64_S64x1)
    (broadcast S64x1 (Scalar.ofBits .f32 0x00000000#32))

/-- Each row's greatest value, or zero if that is greater. -/
def highRows (v : FVec F S64x3072 .f32) : FVec F S64x1 .f32 :=
  maximumf (shapeCast S64x1 (multiReduction .maximumf [1] S64 v 0xFF800000#32 reduces_S64x3072_S64 (.inl rfl) rfl) shapeCasts_S64_S64x1)
    (broadcast S64x1 (Scalar.ofBits .f32 0x00000000#32))

/-- Each row's range. -/
def rangeRows (v : FVec F S64x3072 .f32) : FVec F S64x1 .f32 := subf (highRows v) (lowRows v)

/-- Each row's scale. -/
def scaleRows (v : FVec F S64x3072 .f32) : FVec F S64x1 .f32 :=
  select (cmpf .oeq (rangeRows v) (broadcast S64x1 (Scalar.ofBits .f32 0x00000000#32))) (broadcast S64x1 (Scalar.ofBits .f32 0x3F800000#32))
    (divf (rangeRows v) (broadcast S64x1 (Scalar.ofBits .f32 0x437F0000#32)))

/-- Each row's zero point. -/
def zeroRows (v : FVec F S64x3072 .f32) : FVec F S64x1 .f32 :=
  minimumf (broadcast S64x1 (Scalar.ofBits .f32 0x42FE0000#32)) (maximumf (broadcast S64x1 (Scalar.ofBits .f32 0xC3000000#32))
    (subf (broadcast S64x1 (Scalar.ofBits .f32 0xC3000000#32)) (roundeven (divf (lowRows v) (scaleRows v)))))

/-- The codes, before they are made integers. -/
def codeRows (v : FVec F S64x3072 .f32) : FVec F S64x3072 .f32 :=
  minimumf (broadcast S64x3072 (Scalar.ofBits .f32 0x42FE0000#32)) (maximumf (broadcast S64x3072 (Scalar.ofBits .f32 0xC3000000#32))
    (addf (roundeven (mulf v (broadcastTo S64x3072 (divf (broadcast S64x1 (Scalar.ofBits .f32 0x3F800000#32)) (scaleRows v)) broadcasts_S64x1_S64x3072)))
      (broadcastTo S64x3072 (zeroRows v) broadcasts_S64x1_S64x3072)))

/-- The codes less their zero points. -/
def centredRows (v : FVec F S64x3072 .f32) : FVec F S64x3072 .bf16 :=
  truncf .bf16 (subf (codeRows v) (broadcastTo S64x3072 (zeroRows v) broadcasts_S64x1_S64x3072)) bitsLt_bf16_f32

/-- The codes as bytes. -/
def byteRows (v : FVec F S64x3072 .f32) : IVec S64x3072 8 := trunci 8 (fptosi 32 (codeRows v)) natLt_8_32

/-- A value per row, repeated over 128 lanes. -/
def lanes (x : FVec F S64x1 .f32) : FVec F S64x128 .f32 :=
  broadcastTo S64x128 (shapeCast S64x1 x shapeCasts_S64x1_S64x1) broadcasts_S64x1_S64x128

/-- The first lane of 256 rows, laid along a row. -/
def alongRow (x : Vec F S256x128 .f32) : FVec F S1x256 .f32 :=
  extractStridedSlice S1x256 ![0, 0] (transpose S128x256 [1, 0] (shapeCast S256x128 x shapeCasts_S256x128_S256x128) transposes_S256x128_p1_0_S128x256)
    slices_S128x256_o0_0_S1x256
end

/-! ## Their values -/

/-- A row's least and greatest value, zero among them. -/
def lowOf (f : Fin 3072 → EReal) : EReal := min (Finset.fold min (Ideal.ofBits .f32 2139095040#32) f Finset.univ) 0
def highOf (f : Fin 3072 → EReal) : EReal := max (Finset.fold max (Ideal.ofBits .f32 4286578688#32) f Finset.univ) 0
/-- A row's scale, zero point and codes. -/
def rowScale (f : Fin 3072 → EReal) : EReal := scaleOf (lowOf f) (highOf f)
def rowZero (f : Fin 3072 → EReal) : EReal := zeroOf (lowOf f) (highOf f)
def rowCode (f : Fin 3072 → EReal) (k : Fin 3072) : EReal := quant (f k) (rowScale f) (rowZero f)
/-- A row divided by its root mean square, times a weight per column. -/
def rmsOf (t g : Fin 3072 → EReal) (k : Fin 3072) : EReal :=
  Ideal.div (t k) (Ideal.sqrt (Ideal.div (∑ j : Fin 3072, t j * t j) (Ideal.ofBits .f32 0x45400000#32) + Ideal.ofBits .f32 0x3727C5AC#32)) * g k

theorem rmsRows_at (t : Vec Ideal S64x3072 .f32) (g : Vec Ideal S1x3072 .f32) (r : Fin 64) (k : Fin 3072) :
    rmsRows (F := Ideal) t g (ix2 r k) = rmsOf (fun j => t (ix2 r j)) (fun j => g (ix2 0 j)) k := by
  pointwise [rmsRows, rmsOf]

theorem lowRows_at (v : Vec Ideal S64x3072 .f32) (r : Fin 64) (a : Fin 1) :
    lowRows (F := Ideal) v (ix2 r a) = lowOf fun j => v (ix2 r j) := by
  pointwise [lowRows, lowOf]

theorem highRows_at (v : Vec Ideal S64x3072 .f32) (r : Fin 64) (a : Fin 1) :
    highRows (F := Ideal) v (ix2 r a) = highOf fun j => v (ix2 r j) := by
  pointwise [highRows, highOf]

theorem rangeRows_at (v : Vec Ideal S64x3072 .f32) (r : Fin 64) (a : Fin 1) :
    rangeRows (F := Ideal) v (ix2 r a) = highOf (fun j => v (ix2 r j)) - lowOf fun j => v (ix2 r j) := by
  rw [← lowRows_at v r a, ← highRows_at v r a]
  rfl

theorem scaleRows_at (v : Vec Ideal S64x3072 .f32) (r : Fin 64) (a : Fin 1) :
    scaleRows (F := Ideal) v (ix2 r a) = rowScale fun j => v (ix2 r j) := by
  have e := rangeRows_at v r a
  unfold rowScale scaleOf
  rw [← e]
  generalize hx : rangeRows (F := Ideal) v = x at e ⊢
  unfold scaleRows
  rw [hx]
  pointwise []

theorem zeroRows_at (v : Vec Ideal S64x3072 .f32) (r : Fin 64) (a : Fin 1) :
    zeroRows (F := Ideal) v (ix2 r a) = rowZero fun j => v (ix2 r j) := by
  unfold rowZero zeroOf
  have e1 := lowRows_at v r a
  have e2 := scaleRows_at v r a
  unfold rowScale at e2
  rw [← e2, ← e1]
  unfold zeroRows
  pointwise []

theorem codeRows_at (v : Vec Ideal S64x3072 .f32) (r : Fin 64) (k : Fin 3072) :
    codeRows (F := Ideal) v (ix2 r k) = rowCode (fun j => v (ix2 r j)) k := by
  unfold rowCode quant
  rw [← scaleRows_at v r 0, ← zeroRows_at v r 0]
  unfold codeRows
  generalize scaleRows (F := Ideal) v = s
  generalize zeroRows (F := Ideal) v = z
  pointwise []
  rw [bits_127, bits_neg_128]

theorem centredRows_at (v : Vec Ideal S64x3072 .f32) (r : Fin 64) (k : Fin 3072) :
    centredRows (F := Ideal) v (ix2 r k) = rowCode (fun j => v (ix2 r j)) k - rowZero fun j => v (ix2 r j) := by
  rw [← codeRows_at, ← zeroRows_at v r 0]
  unfold centredRows
  generalize codeRows (F := Ideal) v = s
  generalize zeroRows (F := Ideal) v = z
  pointwise []

theorem byteRows_at (v : Vec Ideal S64x3072 .f32) (r : Fin 64) (k : Fin 3072) :
    byteRows (F := Ideal) v (ix2 r k) = asInt8 (rowCode (fun j => v (ix2 r j)) k) := by
  rw [← codeRows_at]
  rfl

theorem lanes_at (x : Vec Ideal S64x1 .f32) (r : Fin 64) (l : Fin 128) : lanes (F := Ideal) x (ix2 r l) = x (ix2 r 0) := by
  pointwise [lanes]

theorem alongRow_at (x : Vec Ideal S256x128 .f32) (a : Fin 1) (r : Fin 256) : alongRow (F := Ideal) x (ix2 a r) = x (ix2 r 0) := by
  pointwise [alongRow]

/-- A scale is not zero. -/
theorem scaleOf_ne_zero (lo hi : EReal) : scaleOf lo hi ≠ 0 := by
  unfold scaleOf
  have e : Ideal.ofBits .f32 1132396544#32 = ((255 : ℝ) : EReal) := by
    simp [Ideal.ofBits, Ideal.ieee, -EReal.coe_mul]
    norm_num
  rw [e]
  generalize hi - lo = x
  by_cases h : x = 0
  · rw [if_pos h]
    exact one_ne_zero
  · rw [if_neg h]
    unfold Ideal.div
    rw [if_neg (by exact_mod_cast (by norm_num : (255 : ℝ) ≠ 0))]
    rw [← EReal.coe_inv]
    intro hm
    rcases mul_eq_zero.1 hm with h' | h'
    · exact h h'
    · exact absurd h' (by exact_mod_cast (by norm_num : ((255 : ℝ))⁻¹ ≠ 0))

/-- A zero point is an integer of a signed byte. -/
theorem zeroOf_int (lo hi : EReal) : ∃ n : ℤ, -128 ≤ n ∧ n ≤ 127 ∧ zeroOf lo hi = ((n : ℝ) : EReal) := by
  unfold zeroOf
  rw [bits_127, bits_neg_128]
  generalize Ideal.div lo (scaleOf lo hi) = x
  induction x with
  | bot =>
    refine ⟨127, by decide, by decide, ?_⟩
    show min ((127 : ℝ) : EReal) (max ((-128 : ℝ) : EReal) (((-128 : ℝ) : EReal) - ⊥)) = _
    rw [EReal.coe_sub_bot, max_eq_right le_top, min_eq_left le_top]
    norm_num
  | top =>
    refine ⟨-128, by decide, by decide, ?_⟩
    show min ((127 : ℝ) : EReal) (max ((-128 : ℝ) : EReal) (((-128 : ℝ) : EReal) - ⊤)) = _
    rw [EReal.sub_top, max_eq_left bot_le, min_eq_right (by exact_mod_cast (by norm_num : (-128 : ℝ) ≤ 127))]
    norm_num
  | coe r =>
    refine ⟨min 127 (max (-128) (-128 - Ideal.roundHalfEven r)), by omega, by omega, ?_⟩
    show min ((127 : ℝ) : EReal) (max ((-128 : ℝ) : EReal) (((-128 : ℝ) : EReal) - ((Ideal.roundHalfEven r : ℝ) : EReal))) = _
    rw [← EReal.coe_sub]
    have e1 : max ((-128 : ℝ) : EReal) (((-128 : ℝ) - (Ideal.roundHalfEven r : ℝ) : ℝ) : EReal) = ((max (-128) ((-128 : ℝ) - (Ideal.roundHalfEven r : ℝ)) : ℝ) : EReal) :=
      (EReal.coe_strictMono.monotone.map_max).symm
    rw [e1]
    have e2 : min ((127 : ℝ) : EReal) ((max (-128) ((-128 : ℝ) - (Ideal.roundHalfEven r : ℝ)) : ℝ) : EReal) = ((min 127 (max (-128) ((-128 : ℝ) - (Ideal.roundHalfEven r : ℝ))) : ℝ) : EReal) :=
      (EReal.coe_strictMono.monotone.map_min).symm
    rw [e2]
    push_cast
    rfl

/-- A zero point made an integer and read back is itself. -/
theorem zeroOf_fptosi (lo hi : EReal) : ((((Ideal.fptosi 32 (zeroOf lo hi)).toInt : ℤ) : ℝ) : EReal) = zeroOf lo hi
    ∧ -128 ≤ (Ideal.fptosi 32 (zeroOf lo hi)).toInt ∧ (Ideal.fptosi 32 (zeroOf lo hi)).toInt ≤ 127 := by
  obtain ⟨n, h1, h2, e⟩ := zeroOf_int lo hi
  have e' : Ideal.fptosi 32 ((n : ℝ) : EReal) = BitVec.ofInt 32 n := by
    unfold Ideal.fptosi
    congr 1
    show max _ (min _ (if 0 ≤ (n : ℝ) then ⌊(n : ℝ)⌋ else ⌈(n : ℝ)⌉)) = n
    rw [Int.floor_intCast, Int.ceil_intCast, ite_self]
    norm_num
    omega
  have e2 : (BitVec.ofInt 32 n).toInt = n := by
    rw [BitVec.toInt_ofInt]
    simp only [Int.bmod]
    omega
  rw [e, e', e2]
  exact ⟨rfl, h1, h2⟩
end Cert.RowQuant
-- ==== Proof.NormPieces.lean ====
/- What one grid step of the normalisation writes: the quantised rows in four chunks, their scales and zero points, and
   the tables of cosines and sines. -/
module
public import proofs.«01_k».proof.Proof.RowQuant
public import proofs.«01_k».proof.Proof.Gen.NormIdeal.Frame
public import Idealize.ShloMosaic.Lib.Pipeline.ReadBack
@[expose] public section
set_option maxRecDepth 65536
noncomputable section
namespace Cert.RowQuant
open Idealize.ShloMosaic Idealize.ShloMosaic.TcCoe Idealize.ShloMosaic.Tactic Cert.GateUp Cert.DownProj Cert.NormIdeal Cert.NormIdeal.Gen

theorem inbRows {N : Nat} (b : Fin 4) : ∀ a, (![64 * b.val, 0] : Fin 2 → Nat) a + (⟨2, ![64, N]⟩ : Shape).size a ≤ (⟨2, ![256, N]⟩ : Shape).size a := by
  intro a
  have := b.isLt
  match a with
  | ⟨0, _⟩ => show 64 * b.val + 64 ≤ 256; omega
  | ⟨1, _⟩ => show 0 + N ≤ N; omega

section
variable {F : FTy → Type} [FloatOps F]

/-- Four chunks of 64 rows, newest first. -/
def chunks {N : Nat} {e : EltTy} (P : Fin 4 → Vec F (⟨2, ![64, N]⟩ : Shape) e) : List (View.Piece (Elt F) (⟨2, ![256, N]⟩ : Shape) e) :=
  List.ofFn fun b : Fin 4 => ⟨Rect.unit (s := (⟨2, ![256, N]⟩ : Shape)) ![64 * b.rev.val, 0] (⟨2, ![64, N]⟩ : Shape).size (inbRows b.rev), P b.rev⟩

variable (c : Dev nD) (i : grid0.Coords) (arg1 : Memref sig .tc .vmem S256x3072 .bf16) (harg1 : arg1.IsWhole) (arg2 : Memref sig .tc .vmem S1x3072 .f32) (harg2 : arg2.IsWhole) (arg3 : Memref sig .tc .vmem S256x48 .f32) (harg3 : arg3.IsWhole) (arg4 : Memref sig .tc .vmem S256x48 .f32) (harg4 : arg4.IsWhole) (arg5 : Memref sig .tc .vmem S256x3072 .bf16) (harg5 : arg5.IsWhole) (arg6 : Memref sig .tc .vmem S256x3072 .i8) (harg6 : arg6.IsWhole) (arg7 : Memref sig .tc .vmem S1x256 .f32) (harg7 : arg7.IsWhole) (arg8 : Memref sig .tc .vmem S1x256 .i32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole)
    (x0 : Vec F S256x3072 .bf16) (x1 : Vec F S1x3072 .f32) (x2 : Vec F S256x48 .f32) (x3 : Vec F S256x48 .f32)

/-- A chunk of rows, normalised. -/
def normRows (b : Fin 4) : FVec F S64x3072 .f32 :=
  rmsRows (extf .f32 (View.readAt (Elt F) arg1.view (Rect.unit (s := S256x3072) ![64 * b.val, 0] S64x3072.size (inbRows b)).toLoadRect (harg1.unread x0) : Vec F S64x3072 .bf16) bitsLt_bf16_f32)
    (View.readAt (Elt F) arg2.view (Rect.unit (s := S1x3072) ![0, 0] S1x3072.size inb_S1x3072_S1x3072_0_0).toLoadRect (harg2.unread x1))

theorem a_pieces : (kernelRun0_A c i arg1 harg1 arg2 harg2 arg3 harg3 arg4 harg4 arg5 harg5 arg6 harg6 arg7 harg7 arg8 harg8 arg9 harg9 arg10 harg10 arg11 harg11 x0 x1 x2 x3).1 = chunks fun b => centredRows (normRows arg1 harg1 arg2 harg2 x0 x1 b) := by
  sl_kernel_rfl
theorem codes_pieces : (kernelRun0_A c i arg1 harg1 arg2 harg2 arg3 harg3 arg4 harg4 arg5 harg5 arg6 harg6 arg7 harg7 arg8 harg8 arg9 harg9 arg10 harg10 arg11 harg11 x0 x1 x2 x3).2.1 = chunks fun b => byteRows (normRows arg1 harg1 arg2 harg2 x0 x1 b) := by
  sl_kernel_rfl
theorem scale_pieces : (kernelRun0_A c i arg1 harg1 arg2 harg2 arg3 harg3 arg4 harg4 arg5 harg5 arg6 harg6 arg7 harg7 arg8 harg8 arg9 harg9 arg10 harg10 arg11 harg11 x0 x1 x2 x3).2.2.1 = [⟨Rect.unit (s := S1x256) ![0, 0] S1x256.size inb_S1x256_S1x256_0_0, alongRow (arg9.view.readCov (chunks fun b => lanes (scaleRows (normRows arg1 harg1 arg2 harg2 x0 x1 b)))
    (Rect.unit (s := S256x128) ![0, 0] S256x128.size inb_S256x128_S256x128_0_0).toLoadRect)⟩] := by
  sl_kernel_rfl
theorem zero_pieces : (kernelRun0_A c i arg1 harg1 arg2 harg2 arg3 harg3 arg4 harg4 arg5 harg5 arg6 harg6 arg7 harg7 arg8 harg8 arg9 harg9 arg10 harg10 arg11 harg11 x0 x1 x2 x3).2.2.2.1 = [⟨Rect.unit (s := S1x256) ![0, 0] S1x256.size inb_S1x256_S1x256_0_0, fptosi 32 (alongRow (arg10.view.readCov (chunks fun b => lanes (zeroRows (normRows arg1 harg1 arg2 harg2 x0 x1 b)))
    (Rect.unit (s := S256x128) ![0, 0] S256x128.size inb_S256x128_S256x128_0_0).toLoadRect))⟩] := by
  sl_kernel_rfl
theorem lane_pieces : (kernelRun0_A c i arg1 harg1 arg2 harg2 arg3 harg3 arg4 harg4 arg5 harg5 arg6 harg6 arg7 harg7 arg8 harg8 arg9 harg9 arg10 harg10 arg11 harg11 x0 x1 x2 x3).2.2.2.2.1 = chunks fun b => lanes (scaleRows (normRows arg1 harg1 arg2 harg2 x0 x1 b)) := by
  sl_kernel_rfl
theorem cos_pieces : (kernelRun0_A c i arg1 harg1 arg2 harg2 arg3 harg3 arg4 harg4 arg5 harg5 arg6 harg6 arg7 harg7 arg8 harg8 arg9 harg9 arg10 harg10 arg11 harg11 x0 x1 x2 x3).2.2.2.2.2.1 = ⟨Rect.unit (s := S256x128) ![0, 0] S256x128.size inb_S256x128_S256x128_0_0,
      k0_pay45 (View.readAt (Elt F) arg3.view (Rect.unit (s := S256x48) ![0, 0] S256x48.size inb_S256x48_S256x48_0_0).toLoadRect (harg3.unread x2))⟩
    :: chunks fun b => lanes (zeroRows (normRows arg1 harg1 arg2 harg2 x0 x1 b)) := by
  sl_kernel_rfl
theorem sin_pieces : (kernelRun0_A c i arg1 harg1 arg2 harg2 arg3 harg3 arg4 harg4 arg5 harg5 arg6 harg6 arg7 harg7 arg8 harg8 arg9 harg9 arg10 harg10 arg11 harg11 x0 x1 x2 x3).2.2.2.2.2.2.1 = [⟨Rect.unit (s := S256x128) ![0, 0] S256x128.size inb_S256x128_S256x128_0_0,
      k0_pay46 (View.readAt (Elt F) arg4.view (Rect.unit (s := S256x48) ![0, 0] S256x48.size inb_S256x48_S256x48_0_0).toLoadRect (harg4.unread x3))⟩] := by
  sl_kernel_rfl
end
end Cert.RowQuant
-- ==== Proof.NormStep.lean ====
/- What one grid step of the normalisation leaves in its output blocks, entry by entry. -/
module
public import proofs.«01_k».proof.Proof.NormPieces
public import proofs.«01_k».proof.Proof.Gen.NormIdeal.Value
@[expose] public section
set_option maxRecDepth 65536
noncomputable section
namespace Cert.RowQuant
open Idealize.ShloMosaic Idealize.ShloMosaic.TcCoe Cert.GateUp Cert.DownProj Cert.NormIdeal Cert.NormIdeal.Gen Cert.NormIdeal.Value

/-- Four chunks of rows hold the rows. -/
theorem canon_chunks {N : Nat} {e : EltTy} (P : Fin 4 → Vec Ideal (⟨2, ![64, N]⟩ : Shape) e) (g : Fin 256 → Fin N → Elt Ideal e)
    (h : ∀ (b : Fin 4) (r : Fin 64) (j : Fin N), P b (ix2 r j) = g ⟨64 * b.val + r.val, by omega⟩ j) :
    View.canon (chunks (F := Ideal) P) = fun y => g (y 0) (y 1) := by
  funext y
  have hy0 : (y 0).val < 256 := (y 0).isLt
  have hy1 : (y 1).val < N := (y 1).isLt
  refine View.canon_ofFn_unit_eq_of_forall (S := (⟨2, ![256, N]⟩ : Shape)) (Val := Elt Ideal) (e := e)
    (fun b : Fin 4 => ![64 * b.rev.val, 0]) (⟨2, ![64, N]⟩ : Shape).size (fun b => inbRows b.rev) (fun b => P b.rev) y _ ?_ ?_
  · refine ⟨(⟨(y 0).val / 64, by omega⟩ : Fin 4).rev, ?_⟩
    rw [Fin.rev_rev]
    intro a
    match a with
    | ⟨0, _⟩ => show 64 * ((y 0).val / 64) ≤ (y 0).val ∧ (y 0).val < 64 * ((y 0).val / 64) + 64; omega
    | ⟨1, _⟩ => show 0 ≤ (y 1).val ∧ (y 1).val < 0 + N; omega
  · intro n' x hx
    generalize n'.rev = b at hx ⊢
    have h0 : (y 0).val = 64 * b.val + (x 0).val := hx 0
    have h1 : (y 1).val = 0 + (x 1).val := hx 1
    have ex : x = ix2 (n0 := 64) (n1 := N) (x 0) (x 1) := (ix2_eta (n0 := 64) (n1 := N) x).symm
    show P b x = _
    rw [ex]
    refine (h b (x 0) (x 1)).trans ?_
    show g ⟨64 * b.val + (x 0).val, _⟩ (x 1) = g (y 0) (y 1)
    congr 1
    · exact Fin.ext h0.symm
    · exact Fin.ext (by omega)

/-- A whole block written once holds what was written. -/
theorem canon_whole {S : Shape} {e : EltTy} (inb : ∀ a, (0 : Nat) + S.size a ≤ S.size a) (off : Fin S.rank → Nat) (h : ∀ a, off a = 0)
    (inb' : ∀ a, off a + S.size a ≤ S.size a) (w : S.Idx → Elt Ideal e) (L : List (View.Piece (Elt Ideal) S e)) :
    View.canon (⟨Rect.unit off S.size inb', w⟩ :: L) = w := by
  funext y
  have ey : (Rect.unit off S.size inb').emb y = y := by
    funext a
    exact Fin.ext (by show off a + 1 * (y a).val = (y a).val; rw [h a]; omega)
  have := View.canon_cons_emb (Rect.unit off S.size inb') w L y
  rw [ey] at this
  exact this

section
variable (arg1 : Memref sig .tc .vmem S256x3072 .bf16) (harg1 : arg1.IsWhole) (arg2 : Memref sig .tc .vmem S1x3072 .f32) (harg2 : arg2.IsWhole)
  (x0 : Vec Ideal S256x3072 .bf16) (x1 : Vec Ideal S1x3072 .f32)

/-- Row `r` of the block, normalised. -/
def normed (r : Fin 256) (k : Fin 3072) : EReal := rmsOf (fun j => x0 (ix2 r j)) (fun j => x1 (ix2 0 j)) k

theorem normRows_at (b : Fin 4) (r : Fin 64) (k : Fin 3072) :
    normRows (F := Ideal) arg1 harg1 arg2 harg2 x0 x1 b (ix2 r k) = normed x0 x1 ⟨64 * b.val + r.val, by omega⟩ k := by
  unfold normRows normed
  rw [rmsRows_at]
  have ex : ∀ j : Fin 3072, (View.readAt (Elt Ideal) arg1.view (Rect.unit (s := S256x3072) ![64 * b.val, 0] S64x3072.size (inbRows b)).toLoadRect (harg1.unread x0) : Vec Ideal S64x3072 .bf16) (ix2 r j)
      = x0 (ix2 ⟨64 * b.val + r.val, by omega⟩ j) := by
    intro j
    rw [Memref.IsWhole.readAt_unread]
    congr 1
    funext a
    match a with
    | ⟨0, _⟩ => exact Fin.ext (by show 64 * b.val + 1 * r.val = _; rw [Nat.one_mul]; rfl)
    | ⟨1, _⟩ => exact Fin.ext (by show 0 + 1 * j.val = _; rw [Nat.one_mul, Nat.zero_add]; rfl)
  have eg : ∀ j : Fin 3072, (View.readAt (Elt Ideal) arg2.view (Rect.unit (s := S1x3072) ![0, 0] S1x3072.size inb_S1x3072_S1x3072_0_0).toLoadRect (harg2.unread x1) : Vec Ideal S1x3072 .f32) (ix2 0 j)
      = x1 (ix2 0 j) := by
    intro j
    rw [Memref.IsWhole.readAt_unread]
    congr 1
    funext a
    match a with
    | ⟨0, _⟩ => rfl
    | ⟨1, _⟩ => exact Fin.ext (by show 0 + 1 * j.val = _; rw [Nat.one_mul, Nat.zero_add]; rfl)
  exact congrArg₂ (fun t g => rmsOf t g k) (funext ex) (funext eg)

theorem normRows_row (b : Fin 4) (r : Fin 64) :
    (fun j => normRows (F := Ideal) arg1 harg1 arg2 harg2 x0 x1 b (ix2 r j)) = normed x0 x1 ⟨64 * b.val + r.val, by omega⟩ := by
  funext j
  exact normRows_at arg1 harg1 arg2 harg2 x0 x1 b r j

theorem canon_a : View.canon (chunks (F := Ideal) (N := 3072) (e := .bf16) fun b => centredRows (normRows arg1 harg1 arg2 harg2 x0 x1 b))
    = fun (y : S256x3072.Idx) => rowCode (normed x0 x1 (y 0)) (y 1) - rowZero (normed x0 x1 (y 0)) := by
  refine canon_chunks (e := .bf16) _ (fun r j => rowCode (normed x0 x1 r) j - rowZero (normed x0 x1 r)) fun b r j => ?_
  refine (centredRows_at _ r j).trans ?_
  rw [normRows_row]

theorem canon_code : View.canon (chunks (F := Ideal) (N := 3072) (e := .i8) fun b => byteRows (normRows arg1 harg1 arg2 harg2 x0 x1 b))
    = fun (y : S256x3072.Idx) => asInt8 (rowCode (normed x0 x1 (y 0)) (y 1)) := by
  refine canon_chunks (e := .i8) _ (fun r j => asInt8 (rowCode (normed x0 x1 r) j)) fun b r j => ?_
  refine (byteRows_at _ r j).trans ?_
  rw [normRows_row]

theorem canon_scale : View.canon (chunks (F := Ideal) (N := 128) (e := .f32) fun b => lanes (scaleRows (normRows arg1 harg1 arg2 harg2 x0 x1 b)))
    = fun (y : S256x128.Idx) => rowScale (normed x0 x1 (y 0)) := by
  refine canon_chunks (e := .f32) _ (fun r _ => rowScale (normed x0 x1 r)) fun b r j => ?_
  refine (lanes_at _ r j).trans ?_
  rw [scaleRows_at, normRows_row]

theorem canon_zero : View.canon (chunks (F := Ideal) (N := 128) (e := .f32) fun b => lanes (zeroRows (normRows arg1 harg1 arg2 harg2 x0 x1 b)))
    = fun (y : S256x128.Idx) => rowZero (normed x0 x1 (y 0)) := by
  refine canon_chunks (e := .f32) _ (fun r _ => rowZero (normed x0 x1 r)) fun b r j => ?_
  refine (lanes_at _ r j).trans ?_
  rw [zeroRows_at, normRows_row]

/-- What was written, read back and laid along a row. -/
theorem alongRow_read (m : Memref sig .tc .vmem S256x128 .f32) (L : List (View.Piece (Elt Ideal) S256x128 .f32)) (g : Fin 256 → EReal)
    (h : View.canon L = fun y => g (y 0)) (a : Fin 1) (r : Fin 256) :
    alongRow (F := Ideal) (m.view.readCov L (Rect.unit (s := S256x128) ![0, 0] S256x128.size inb_S256x128_S256x128_0_0).toLoadRect) (ix2 a r) = g r := by
  refine (alongRow_at _ a r).trans ?_
  rw [View.readCov_eq_canon', h]
  show g _ = g r
  congr 1
  exact Fin.ext (by show 0 + 1 * r.val = r.val; omega)
end

/-- The cosines twice over, then ones. -/
def cosOf (f : Fin 48 → EReal) (l : Fin 128) : EReal :=
  if h : l.val < 48 then f ⟨l.val, h⟩ else if h : l.val < 96 then f ⟨l.val - 48, by omega⟩ else 1
/-- The sines turned about, the sines, then zeros. -/
def sinOf (f : Fin 48 → EReal) (l : Fin 128) : EReal :=
  if h : l.val < 48 then 0 - f ⟨l.val, h⟩ else if h : l.val < 96 then f ⟨l.val - 48, by omega⟩ else 0

theorem cos_at (x : Vec Ideal S256x48 .f32) (r : Fin 256) (l : Fin 128) :
    k0_pay45 (F := Ideal) x (ix2 r l) = cosOf (fun j => x (ix2 r j)) l := by
  by_cases h1 : l.val < 48
  · pointwise [k0_pay45, cosOf]
    simp [h1]
  by_cases h2 : l.val < 96
  · have e : l.val - 48 < 48 := by omega
    pointwise [k0_pay45, cosOf]
    simp [h1, h2, e]
  have e : ¬ l.val - 48 < 48 := by omega
  pointwise [k0_pay45, cosOf]
  simp [h1, h2, e]

theorem sin_at (x : Vec Ideal S256x48 .f32) (r : Fin 256) (l : Fin 128) :
    k0_pay46 (F := Ideal) x (ix2 r l) = sinOf (fun j => x (ix2 r j)) l := by
  by_cases h1 : l.val < 48
  · pointwise [k0_pay46, sinOf]
    simp [h1]
  by_cases h2 : l.val < 96
  · have e : l.val - 48 < 48 := by omega
    pointwise [k0_pay46, sinOf]
    simp [h1, h2, e]
  have e : ¬ l.val - 48 < 48 := by omega
  pointwise [k0_pay46, sinOf]
  simp [h1, h2, e]
end Cert.RowQuant
-- ==== Proof.NormFold.lean ====
/- The arrays the normalisation ends with: entry by entry, and the blocks each grid point reads. -/
module
public import proofs.«01_k».proof.Proof.NormStep
@[expose] public section
set_option maxRecDepth 65536
noncomputable section
namespace Cert.RowQuant
open Idealize.ShloMosaic Idealize.ShloMosaic.TcCoe Cert.GateUp Cert.DownProj Cert.NormIdeal Cert.NormIdeal.Gen Cert.NormIdeal.Value

/-- The windows' block numbers at a point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, t.val]
    ∧ win0_7.index t = ![0, t.val] ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ)

/-- The four arguments: the rows, the weights, cosines and sines. -/
abbrev xM (c : Dev nD) : Vec Ideal S2048x3072 .bf16 := m ((c : Thread nD τ).loc main_arg0)
abbrev gM (c : Dev nD) : Vec Ideal S1x3072 .f32 := m ((c : Thread nD τ).loc main_arg1)
abbrev cosM (c : Dev nD) : Vec Ideal S2048x48 .f32 := m ((c : Thread nD τ).loc main_arg2)
abbrev sinM (c : Dev nD) : Vec Ideal S2048x48 .f32 := m ((c : Thread nD τ).loc main_arg3)

theorem pt_lt (t : Fin cfg0.N) : t.val < 8 := lt_of_lt_of_eq t.isLt (show cfg0.N = 8 from N_0)

theorem x_at (c : Dev nD) (t : Fin cfg0.N) (r : Fin 256) (k : Fin 3072) :
    (iblk m c 0 t : Vec Ideal S256x3072 .bf16) (ix2 r k) = xM m c (ix2 ⟨256 * t.val + r.val, by have := pt_lt t; omega⟩ k) := by
  blk_ext [iblk, V, idx t]
theorem g_at (c : Dev nD) (t : Fin cfg0.N) (k : Fin 3072) :
    (iblk m c 1 t : Vec Ideal S1x3072 .f32) (ix2 0 k) = gM m c (ix2 0 k) := by
  blk_ext [iblk, V, idx t]
theorem cosBlock_at (c : Dev nD) (t : Fin cfg0.N) (r : Fin 256) (k : Fin 48) :
    (iblk m c 2 t : Vec Ideal S256x48 .f32) (ix2 r k) = cosM m c (ix2 ⟨256 * t.val + r.val, by have := pt_lt t; omega⟩ k) := by
  blk_ext [iblk, V, idx t]
theorem sinBlock_at (c : Dev nD) (t : Fin cfg0.N) (r : Fin 256) (k : Fin 48) :
    (iblk m c 3 t : Vec Ideal S256x48 .f32) (ix2 r k) = sinM m c (ix2 ⟨256 * t.val + r.val, by have := pt_lt t; omega⟩ k) := by
  blk_ext [iblk, V, idx t]

/-- Row `R`, normalised. -/
def normOf (x : Vec Ideal S2048x3072 .bf16) (g : Vec Ideal S1x3072 .f32) (R : Fin 2048) : Fin 3072 → EReal :=
  rmsOf (fun j => x (ix2 R j)) (fun j => g (ix2 0 j))

theorem normed_at (c : Dev nD) (t : Fin cfg0.N) (r : Fin 256) :
    normed (iblk m c 0 t) (iblk m c 1 t) r = normOf (xM m c) (gM m c) ⟨256 * t.val + r.val, by have := pt_lt t; omega⟩ := by
  have ex : (fun j => (iblk m c 0 t : Vec Ideal S256x3072 .bf16) (ix2 r j)) = fun j => xM m c (ix2 ⟨256 * t.val + r.val, by have := pt_lt t; omega⟩ j) :=
    funext fun j => x_at m c t r j
  have eg : (fun j => (iblk m c 1 t : Vec Ideal S1x3072 .f32) (ix2 0 j)) = fun j => gM m c (ix2 0 j) :=
    funext fun j => g_at m c t j
  exact funext fun k => congrArg₂ (fun t g => rmsOf t g k) ex eg

/-! ## What each point leaves -/

theorem a_out (c : Dev nD) (t : Fin cfg0.N) (r : Fin 256) (l : Fin 3072) :
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) : Vec Ideal S256x3072 .bf16) (ix2 r l)
      = rowCode (normOf (xM m c) (gM m c) ⟨256 * t.val + r.val, by have := pt_lt t; omega⟩) l - rowZero (normOf (xM m c) (gM m c) ⟨256 * t.val + r.val, by have := pt_lt t; omega⟩) := by
  unfold out0_A_4
  rw [a_pieces, View.read_writes_junk_apply_eq_canon, canon_a]
  rw [← normed_at m c t r]
  rfl

theorem codes_out (c : Dev nD) (t : Fin cfg0.N) (r : Fin 256) (l : Fin 3072) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) : Vec Ideal S256x3072 .i8) (ix2 r l)
      = asInt8 (rowCode (normOf (xM m c) (gM m c) ⟨256 * t.val + r.val, by have := pt_lt t; omega⟩) l) := by
  unfold out0_A_5
  rw [codes_pieces, View.read_writes_junk_apply_eq_canon, canon_code]
  rw [← normed_at m c t r]
  rfl

theorem lanes_out (c : Dev nD) (t : Fin cfg0.N) (r : Fin 256) (l : Fin 128) :
    (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) : Vec Ideal S256x128 .f32) (ix2 r l)
      = rowScale (normOf (xM m c) (gM m c) ⟨256 * t.val + r.val, by have := pt_lt t; omega⟩) := by
  unfold out0_A_8
  rw [lane_pieces, View.read_writes_junk_apply_eq_canon, canon_scale]
  rw [← normed_at m c t r]
  rfl

theorem cos_out (c : Dev nD) (t : Fin cfg0.N) (r : Fin 256) (l : Fin 128) :
    (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) : Vec Ideal S256x128 .f32) (ix2 r l)
      = cosOf (fun j => cosM m c (ix2 ⟨256 * t.val + r.val, by have := pt_lt t; omega⟩ j)) l := by
  unfold out0_A_9
  rw [cos_pieces, View.read_writes_junk_apply_eq_canon, canon_whole (fun a => Nat.le_of_eq (Nat.zero_add _)) _ (fun a => by match a with | ⟨0, _⟩ => rfl | ⟨1, _⟩ => rfl)]
  refine (cos_at _ r l).trans ?_
  congr 1
  funext j
  rw [← cosBlock_at m c t r j, Memref.IsWhole.readAt_unread]
  congr 1
  funext a
  match a with
  | ⟨0, _⟩ => exact Fin.ext (by show 0 + 1 * r.val = r.val; omega)
  | ⟨1, _⟩ => exact Fin.ext (by show 0 + 1 * j.val = j.val; omega)

theorem sin_out (c : Dev nD) (t : Fin cfg0.N) (r : Fin 256) (l : Fin 128) :
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) : Vec Ideal S256x128 .f32) (ix2 r l)
      = sinOf (fun j => sinM m c (ix2 ⟨256 * t.val + r.val, by have := pt_lt t; omega⟩ j)) l := by
  unfold out0_A_10
  rw [sin_pieces, View.read_writes_junk_apply_eq_canon, canon_whole (fun a => Nat.le_of_eq (Nat.zero_add _)) _ (fun a => by match a with | ⟨0, _⟩ => rfl | ⟨1, _⟩ => rfl)]
  refine (sin_at _ r l).trans ?_
  congr 1
  funext j
  rw [← sinBlock_at m c t r j, Memref.IsWhole.readAt_unread]
  congr 1
  funext a
  match a with
  | ⟨0, _⟩ => exact Fin.ext (by show 0 + 1 * r.val = r.val; omega)
  | ⟨1, _⟩ => exact Fin.ext (by show 0 + 1 * j.val = j.val; omega)

theorem scale_out (c : Dev nD) (t : Fin cfg0.N) (a : Fin 1) (r : Fin 256) :
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) : Vec Ideal S1x256 .f32) (ix2 a r)
      = rowScale (normOf (xM m c) (gM m c) ⟨256 * t.val + r.val, by have := pt_lt t; omega⟩) := by
  unfold out0_A_6
  rw [scale_pieces, View.read_writes_junk_apply_eq_canon, canon_whole (fun a => Nat.le_of_eq (Nat.zero_add _)) _ (fun a => by match a with | ⟨0, _⟩ => rfl | ⟨1, _⟩ => rfl)]
  have e := alongRow_read (ms0_8 t) _ (fun r => rowScale (normed (iblk m c 0 t) (iblk m c 1 t) r)) (canon_scale (ms0_0 t) (hs0_0 t) (ms0_1 t) (hs0_1 t) (iblk m c 0 t) (iblk m c 1 t)) a r
  rw [normed_at m c t r] at e
  exact e

theorem zero_out (c : Dev nD) (t : Fin cfg0.N) (a : Fin 1) (r : Fin 256) :
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) : Vec Ideal S1x256 .i32) (ix2 a r)
      = Ideal.fptosi 32 (rowZero (normOf (xM m c) (gM m c) ⟨256 * t.val + r.val, by have := pt_lt t; omega⟩)) := by
  unfold out0_A_7
  rw [zero_pieces, View.read_writes_junk_apply_eq_canon, canon_whole (fun a => Nat.le_of_eq (Nat.zero_add _)) _ (fun a => by match a with | ⟨0, _⟩ => rfl | ⟨1, _⟩ => rfl)]
  have e := alongRow_read (ms0_9 t) _ (fun r => rowZero (normed (iblk m c 0 t) (iblk m c 1 t) r)) (canon_zero (ms0_0 t) (hs0_0 t) (ms0_1 t) (hs0_1 t) (iblk m c 0 t) (iblk m c 1 t)) a r
  rw [normed_at m c t r] at e
  exact congrArg (Ideal.fptosi 32) e

/-! ## The arrays after the run -/

theorem a_array (c : Dev nD) :
    ((dats m 0 c).arrAt 4 cfg0.N : Vec Ideal S2048x3072 .bf16) = fun i => rowCode (normOf (xM m c) (gM m c) (i 0)) (i 1) - rowZero (normOf (xM m c) (gM m c) (i 0)) := by
  funext i
  have key : ∀ (R : Fin 2048) (l : Fin 3072), ((dats m 0 c).arrAt 4 cfg0.N : Vec Ideal S2048x3072 .bf16) (ix2 R l) = rowCode (normOf (xM m c) (gM m c) R) l - rowZero (normOf (xM m c) (gM m c) R) := by
    intro R l
    have hd : R.val / 256 < cfg0.N := lt_of_lt_of_eq (by omega : R.val / 256 < 8) N_0.symm
    have b := blocks4 m c ⟨R.val / 256, hd⟩ (flush0_4 _)
    rw [flushed4_A] at b
    generalize (dats m 0 c).arrAt 4 cfg0.N = A at b ⊢
    have e := a_out m c ⟨R.val / 256, hd⟩ ⟨R.val % 256, by omega⟩ l
    have eR : (⟨256 * (R.val / 256) + R.val % 256, by omega⟩ : Fin 2048) = R := Fin.ext (by dsimp only; omega)
    rw [eR] at e
    have b' := congrFun b (ix2 ⟨R.val % 256, by omega⟩ l)
    have e1 : View.read (Elt Ideal) ((cfg0.win 4).blk ⟨R.val / 256, hd⟩).view A (ix2 ⟨R.val % 256, by omega⟩ l) = A (ix2 R l) := by
      have e2 : View.read (Elt Ideal) ((cfg0.win 4).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem codes_array (c : Dev nD) :
    ((dats m 0 c).arrAt 5 cfg0.N : Vec Ideal S2048x3072 .i8) = fun i => asInt8 (rowCode (normOf (xM m c) (gM m c) (i 0)) (i 1)) := by
  funext i
  have key : ∀ (R : Fin 2048) (l : Fin 3072), ((dats m 0 c).arrAt 5 cfg0.N : Vec Ideal S2048x3072 .i8) (ix2 R l) = asInt8 (rowCode (normOf (xM m c) (gM m c) R) l) := by
    intro R l
    have hd : R.val / 256 < cfg0.N := lt_of_lt_of_eq (by omega : R.val / 256 < 8) N_0.symm
    have b := blocks5 m c ⟨R.val / 256, hd⟩ (flush0_5 _)
    rw [flushed5_A] at b
    generalize (dats m 0 c).arrAt 5 cfg0.N = A at b ⊢
    have e := codes_out m c ⟨R.val / 256, hd⟩ ⟨R.val % 256, by omega⟩ l
    have eR : (⟨256 * (R.val / 256) + R.val % 256, by omega⟩ : Fin 2048) = R := Fin.ext (by dsimp only; omega)
    rw [eR] at e
    have b' := congrFun b (ix2 ⟨R.val % 256, by omega⟩ l)
    have e1 : View.read (Elt Ideal) ((cfg0.win 5).blk ⟨R.val / 256, hd⟩).view A (ix2 ⟨R.val % 256, by omega⟩ l) = A (ix2 R l) := by
      have e2 : View.read (Elt Ideal) ((cfg0.win 5).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem scale_array (c : Dev nD) :
    ((dats m 0 c).arrAt 6 cfg0.N : Vec Ideal S1x2048 .f32) = fun i => rowScale (normOf (xM m c) (gM m c) (i 1)) := by
  funext i
  have key : ∀ (a : Fin 1) (R : Fin 2048), ((dats m 0 c).arrAt 6 cfg0.N : Vec Ideal S1x2048 .f32) (ix2 a R) = rowScale (normOf (xM m c) (gM m c) R) := by
    intro a R
    have hd : R.val / 256 < cfg0.N := lt_of_lt_of_eq (by omega : R.val / 256 < 8) N_0.symm
    have b := blocks6 m c ⟨R.val / 256, hd⟩ (flush0_6 _)
    rw [flushed6_A] at b
    generalize (dats m 0 c).arrAt 6 cfg0.N = A at b ⊢
    have e := scale_out m c ⟨R.val / 256, hd⟩ a ⟨R.val % 256, by omega⟩
    have eR : (⟨256 * (R.val / 256) + R.val % 256, by omega⟩ : Fin 2048) = R := Fin.ext (by dsimp only; omega)
    rw [eR] at e
    have b' := congrFun b (ix2 a ⟨R.val % 256, by omega⟩)
    have e1 : View.read (Elt Ideal) ((cfg0.win 6).blk ⟨R.val / 256, hd⟩).view A (ix2 a ⟨R.val % 256, by omega⟩) = A (ix2 a R) := by
      have e2 : View.read (Elt Ideal) ((cfg0.win 6).blk ⟨R.val / 256, hd⟩).view A (ix2 a ⟨R.val % 256, by omega⟩) = A (ix2 a ⟨256 * (R.val / 256) + R.val % 256, by omega⟩) := by
        blk_ext [idx ⟨R.val / 256, hd⟩]
      rw [eR] at e2
      exact e2
    rw [← e1]
    refine b'.trans (Eq.trans ?_ e)
    rfl
  have e := key (i 0) (i 1)
  rw [ix2_eta] at e
  exact e

theorem zero_array (c : Dev nD) :
    ((dats m 0 c).arrAt 7 cfg0.N : Vec Ideal S1x2048 .i32) = fun i => Ideal.fptosi 32 (rowZero (normOf (xM m c) (gM m c) (i 1))) := by
  funext i
  have key : ∀ (a : Fin 1) (R : Fin 2048), ((dats m 0 c).arrAt 7 cfg0.N : Vec Ideal S1x2048 .i32) (ix2 a R) = Ideal.fptosi 32 (rowZero (normOf (xM m c) (gM m c) R)) := by
    intro a R
    have hd : R.val / 256 < cfg0.N := lt_of_lt_of_eq (by omega : R.val / 256 < 8) N_0.symm
    have b := blocks7 m c ⟨R.val / 256, hd⟩ (flush0_7 _)
    rw [flushed7_A] at b
    generalize (dats m 0 c).arrAt 7 cfg0.N = A at b ⊢
    have e := zero_out m c ⟨R.val / 256, hd⟩ a ⟨R.val % 256, by omega⟩
    have eR : (⟨256 * (R.val / 256) + R.val % 256, by omega⟩ : Fin 2048) = R := Fin.ext (by dsimp only; omega)
    rw [eR] at e
    have b' := congrFun b (ix2 a ⟨R.val % 256, by omega⟩)
    have e1 : View.read (Elt Ideal) ((cfg0.win 7).blk ⟨R.val / 256, hd⟩).view A (ix2 a ⟨R.val % 256, by omega⟩) = A (ix2 a R) := by
      have e2 : View.read (Elt Ideal) ((cfg0.win 7).blk ⟨R.val / 256, hd⟩).view A (ix2 a ⟨R.val % 256, by omega⟩) = A (ix2 a ⟨256 * (R.val / 256) + R.val % 256, by omega⟩) := by
        blk_ext [idx ⟨R.val / 256, hd⟩]
      rw [eR] at e2
      exact e2
    rw [← e1]
    refine b'.trans (Eq.trans ?_ e)
    rfl
  have e := key (i 0) (i 1)
  rw [ix2_eta] at e
  exact e

theorem lanes_array (c : Dev nD) :
    ((dats m 0 c).arrAt 8 cfg0.N : Vec Ideal S2048x128 .f32) = fun i => rowScale (normOf (xM m c) (gM m c) (i 0)) := by
  funext i
  have key : ∀ (R : Fin 2048) (l : Fin 128), ((dats m 0 c).arrAt 8 cfg0.N : Vec Ideal S2048x128 .f32) (ix2 R l) = rowScale (normOf (xM m c) (gM m c) R) := by
    intro R l
    have hd : R.val / 256 < cfg0.N := lt_of_lt_of_eq (by omega : R.val / 256 < 8) N_0.symm
    have b := blocks8 m c ⟨R.val / 256, hd⟩ (flush0_8 _)
    rw [flushed8_A] at b
    generalize (dats m 0 c).arrAt 8 cfg0.N = A at b ⊢
    have e := lanes_out m c ⟨R.val / 256, hd⟩ ⟨R.val % 256, by omega⟩ l
    have eR : (⟨256 * (R.val / 256) + R.val % 256, by omega⟩ : Fin 2048) = R := Fin.ext (by dsimp only; omega)
    rw [eR] at e
    have b' := congrFun b (ix2 ⟨R.val % 256, by omega⟩ l)
    have e1 : View.read (Elt Ideal) ((cfg0.win 8).blk ⟨R.val / 256, hd⟩).view A (ix2 ⟨R.val % 256, by omega⟩ l) = A (ix2 R l) := by
      have e2 : View.read (Elt Ideal) ((cfg0.win 8).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem cos_array (c : Dev nD) :
    ((dats m 0 c).arrAt 9 cfg0.N : Vec Ideal S2048x128 .f32) = fun i => cosOf (fun j => cosM m c (ix2 (i 0) j)) (i 1) := by
  funext i
  have key : ∀ (R : Fin 2048) (l : Fin 128), ((dats m 0 c).arrAt 9 cfg0.N : Vec Ideal S2048x128 .f32) (ix2 R l) = cosOf (fun j => cosM m c (ix2 R j)) l := by
    intro R l
    have hd : R.val / 256 < cfg0.N := lt_of_lt_of_eq (by omega : R.val / 256 < 8) N_0.symm
    have b := blocks9 m c ⟨R.val / 256, hd⟩ (flush0_9 _)
    rw [flushed9_A] at b
    generalize (dats m 0 c).arrAt 9 cfg0.N = A at b ⊢
    have e := cos_out m c ⟨R.val / 256, hd⟩ ⟨R.val % 256, by omega⟩ l
    have eR : (⟨256 * (R.val / 256) + R.val % 256, by omega⟩ : Fin 2048) = R := Fin.ext (by dsimp only; omega)
    rw [eR] at e
    have b' := congrFun b (ix2 ⟨R.val % 256, by omega⟩ l)
    have e1 : View.read (Elt Ideal) ((cfg0.win 9).blk ⟨R.val / 256, hd⟩).view A (ix2 ⟨R.val % 256, by omega⟩ l) = A (ix2 R l) := by
      have e2 : View.read (Elt Ideal) ((cfg0.win 9).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem sin_array (c : Dev nD) :
    ((dats m 0 c).arrAt 10 cfg0.N : Vec Ideal S2048x128 .f32) = fun i => sinOf (fun j => sinM m c (ix2 (i 0) j)) (i 1) := by
  funext i
  have key : ∀ (R : Fin 2048) (l : Fin 128), ((dats m 0 c).arrAt 10 cfg0.N : Vec Ideal S2048x128 .f32) (ix2 R l) = sinOf (fun j => sinM m c (ix2 R j)) l := by
    intro R l
    have hd : R.val / 256 < cfg0.N := lt_of_lt_of_eq (by omega : R.val / 256 < 8) N_0.symm
    have b := blocks10 m c ⟨R.val / 256, hd⟩ (flush0_10 _)
    rw [flushed10_A] at b
    generalize (dats m 0 c).arrAt 10 cfg0.N = A at b ⊢
    have e := sin_out m c ⟨R.val / 256, hd⟩ ⟨R.val % 256, by omega⟩ l
    have eR : (⟨256 * (R.val / 256) + R.val % 256, by omega⟩ : Fin 2048) = R := Fin.ext (by dsimp only; omega)
    rw [eR] at e
    have b' := congrFun b (ix2 ⟨R.val % 256, by omega⟩ l)
    have e1 : View.read (Elt Ideal) ((cfg0.win 10).blk ⟨R.val / 256, hd⟩).view A (ix2 ⟨R.val % 256, by omega⟩ l) = A (ix2 R l) := by
      have e2 : View.read (Elt Ideal) ((cfg0.win 10).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

end Cert.RowQuant
-- ==== Proof.NormRef.lean ====
/- What the reference of the normalisation computes, entry by entry. -/
module
public import proofs.«01_k».proof.Proof.RefParams
public import proofs.«01_k».proof.Proof.DownRef
public import proofs.«01_k».proof.Proof.NormFold
public import proofs.«01_k».proof.Proof.Gen.NormReferenceIdeal.Read
@[expose] public section
set_option maxRecDepth 65536
noncomputable section
namespace Cert.RowQuant
open Idealize.ShloMosaic Cert.GateUp Cert.DownProj Cert.NormReferenceIdeal Cert.NormReferenceIdeal.Gen Cert.NormReferenceIdeal.Read

/-- The code of a value as a reference writes it: divided by the scale, and with the zero point read back from an integer. -/
theorem quant_ref (v lo hi : EReal) :
    min (((127#32 : BitVec 32).toInt : ℝ) : EReal) (max (((4294967168#32 : BitVec 32).toInt : ℝ) : EReal)
        (Ideal.liftRound Ideal.roundHalfEven (Ideal.div v (scaleOf lo hi)) + (((Ideal.fptosi 32 (zeroOf lo hi)).toInt : ℝ) : EReal)))
      = quant v (scaleOf lo hi) (zeroOf lo hi) := by
  have e1 : (127#32 : BitVec 32).toInt = 127 := by decide
  have e2 : (4294967168#32 : BitVec 32).toInt = -128 := by decide
  rw [e1, e2, (zeroOf_fptosi lo hi).1, div_eq _ _ (scaleOf_ne_zero lo hi)]
  unfold quant
  norm_num

/-- A code less its zero point, by integers. -/
theorem centre_ref (v lo hi : EReal) :
    (((((asInt8 (quant v (scaleOf lo hi) (zeroOf lo hi))).signExtend 32 - Ideal.fptosi 32 (zeroOf lo hi)).toInt : ℝ)) : EReal)
      = quant v (scaleOf lo hi) (zeroOf lo hi) - zeroOf lo hi := by
  obtain ⟨h, h1, h2⟩ := zeroOf_fptosi lo hi
  have e := centre_quant v (scaleOf lo hi) (Ideal.fptosi 32 (zeroOf lo hi)) h1 h2
  rw [h] at e
  exact e

/-- A row's least and greatest entry, for any array. -/
theorem reduce_min (x : Vec Ideal S2048x3072 .f32) (R : Fin 2048) :
    Host.reduce (α := Ideal .f32) FloatOps.minimumf x (val_main_cst_2 (F := Ideal)) reducesTo_S2048x3072_S2048_d1 h_S_ (ix1 R)
      = Finset.fold min (Ideal.ofBits .f32 2139095040#32) (fun p : Fin 3072 => x (ix2 R p)) Finset.univ := by
  pointwise [val_main_cst_2]
theorem reduce_max (x : Vec Ideal S2048x3072 .f32) (R : Fin 2048) :
    Host.reduce (α := Ideal .f32) FloatOps.maximumf x (val_main_cst_4 (F := Ideal)) reducesTo_S2048x3072_S2048_d1 h_S_ (ix1 R)
      = Finset.fold max (Ideal.ofBits .f32 4286578688#32) (fun p : Fin 3072 => x (ix2 R p)) Finset.univ := by
  pointwise [val_main_cst_4]

variable (x0 : Vec Ideal S2048x3072 .bf16) (x1 : Vec Ideal S1x3072 .f32)

theorem norm_ref (R : Fin 2048) (k : Fin 3072) : val_main_v12 (F := Ideal) x0 x1 (ix2 R k) = normOf x0 x1 R k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, normOf, rmsOf]

theorem row_ref (R : Fin 2048) : (fun k : Fin 3072 => val_main_v12 (F := Ideal) x0 x1 (ix2 R k)) = normOf x0 x1 R :=
  funext fun k => norm_ref x0 x1 R k

theorem low_ref (R : Fin 2048) : val_main_v15 (F := Ideal) x0 x1 (ix1 R) = lowOf (normOf x0 x1 R) := by
  have e2 : val_main_v13 (F := Ideal) x0 x1 (ix1 R) = _ := reduce_min (val_main_v12 (F := Ideal) x0 x1) R
  rw [val_main_v15_apply, val_main_v14_apply, e2, row_ref]
  show min _ (Ideal.ofBits .f32 0#32) = _
  rw [zero_bits]
  rfl

theorem high_ref (R : Fin 2048) : val_main_v18 (F := Ideal) x0 x1 (ix1 R) = highOf (normOf x0 x1 R) := by
  have e2 : val_main_v16 (F := Ideal) x0 x1 (ix1 R) = _ := reduce_max (val_main_v12 (F := Ideal) x0 x1) R
  rw [val_main_v18_apply, val_main_v17_apply, e2, row_ref]
  show max _ (Ideal.ofBits .f32 0#32) = _
  rw [zero_bits]
  rfl

theorem scale_ref (R : Fin 2048) : val_main_v24 (F := Ideal) x0 x1 (ix1 R) = rowScale (normOf x0 x1 R) := by
  rw [val_main_v24_apply, val_main_v21_apply, val_main_v23_apply, val_main_v19_apply, low_ref, high_ref, val_main_v20_apply, val_main_v22_apply,
    val_main_call0_v1_apply, val_main_call0_v0_apply]
  exact select_scale _ _

theorem zero_ref (R : Fin 2048) : val_main_v29 (F := Ideal) x0 x1 (ix1 R) = rowZero (normOf x0 x1 R) := by
  rw [val_main_v29_apply, val_main_call2_v4_apply, val_main_call2_v3_apply, val_main_call2_v2_apply, val_main_call2_v1_apply, val_main_call2_v0_apply,
    val_main_v28_apply, val_main_v27_apply, val_main_v26_apply, val_main_v25_apply, low_ref, scale_ref]
  have e1 : (FloatOps.sitofp (F := Ideal) .f32 (val_main_c_10 (F := Ideal) (idx_main_call2_v4 (ix1 R))) : EReal) = _ := hi_bound
  have e0 : (FloatOps.sitofp (F := Ideal) .f32 (val_main_c (F := Ideal) (idx_main_call2_v1 (ix1 R))) : EReal) = _ := lo_bound
  rw [e1, e0]
  rfl

theorem code_terms (R : Fin 2048) (k : Fin 3072) : val_main_v39 (F := Ideal) x0 x1 (ix2 R k)
      = min (((127#32 : BitVec 32).toInt : ℝ) : EReal) (max (((4294967168#32 : BitVec 32).toInt : ℝ) : EReal)
        (Ideal.liftRound Ideal.roundHalfEven (Ideal.div (val_main_v12 (F := Ideal) x0 x1 (ix2 R k)) (val_main_v24 (F := Ideal) x0 x1 (ix1 R)))
          + (((Ideal.fptosi 32 (val_main_v29 (F := Ideal) x0 x1 (ix1 R))).toInt : ℝ) : EReal))) := by
  have ed : idx_main_v31 (idx_main_v32 (ix2 R k)) = ix1 R := by funext a; match a with | ⟨0, _⟩ => rfl
  have ez : idx_main_v35 (idx_main_v37 (ix2 R k)) = ix1 R := by funext a; match a with | ⟨0, _⟩ => rfl
  rw [val_main_v39_apply, val_main_call4_v4_apply, val_main_call4_v3_apply, val_main_call4_v2_apply, val_main_call4_v1_apply, val_main_call4_v0_apply,
    val_main_v38_apply, val_main_v34_apply, val_main_v33_apply, val_main_v32_apply, val_main_v31_apply, val_main_v37_apply, val_main_v36_apply,
    val_main_v35_apply, val_main_v30_apply, ed, ez]
  generalize val_main_v12 (F := Ideal) x0 x1 (ix2 R k) = a
  generalize val_main_v24 (F := Ideal) x0 x1 (ix1 R) = b
  generalize val_main_v29 (F := Ideal) x0 x1 (ix1 R) = z
  rfl

theorem code_row (R : Fin 2048) (k : Fin 3072) : val_main_v39 (F := Ideal) x0 x1 (ix2 R k) = rowCode (normOf x0 x1 R) k := by
  rw [code_terms, norm_ref, scale_ref, zero_ref]
  generalize normOf x0 x1 R = f
  unfold rowCode rowScale rowZero
  exact quant_ref (f k) (lowOf f) (highOf f)

/-- The reference's results. -/
theorem ref_codes : val_main_v41 (F := Ideal) x0 x1 = fun i => asInt8 (rowCode (normOf x0 x1 (i 0)) (i 1)) := by
  have key : ∀ (R : Fin 2048) (k : Fin 3072), val_main_v41 (F := Ideal) x0 x1 (ix2 R k) = asInt8 (rowCode (normOf x0 x1 R) k) := by
    intro R k
    rw [← code_row]
    rfl
  funext i
  have e := key (i 0) (i 1)
  rw [ix2_eta] at e
  exact e

theorem ref_a : val_main_v46 (F := Ideal) x0 x1 = fun i => rowCode (normOf x0 x1 (i 0)) (i 1) - rowZero (normOf x0 x1 (i 0)) := by
  have key : ∀ (R : Fin 2048) (k : Fin 3072), val_main_v46 (F := Ideal) x0 x1 (ix2 R k) = rowCode (normOf x0 x1 R) k - rowZero (normOf x0 x1 R) := by
    intro R k
    have e : val_main_v46 (F := Ideal) x0 x1 (ix2 R k)
        = (((((val_main_v41 (F := Ideal) x0 x1 (ix2 R k)).signExtend 32 - Ideal.fptosi 32 (val_main_v29 (F := Ideal) x0 x1 (ix1 R))).toInt : ℝ)) : EReal) := by
      pointwise [val_main_v46, val_main_v45, val_main_v44, val_main_v43, val_main_v42, val_main_v30]
      rfl
    rw [e, ref_codes, zero_ref]
    show (((((asInt8 (rowCode (normOf x0 x1 R) k)).signExtend 32 - Ideal.fptosi 32 (rowZero (normOf x0 x1 R))).toInt : ℝ)) : EReal) = _
    generalize normOf x0 x1 R = f
    unfold rowCode rowScale rowZero
    exact centre_ref (f k) (lowOf f) (highOf f)
  funext i
  have e := key (i 0) (i 1)
  rw [ix2_eta] at e
  exact e

theorem ref_scale_row : val_main_v52 (F := Ideal) x0 x1 = fun i => rowScale (normOf x0 x1 (i 1)) := by
  funext i
  rw [val_main_v52_apply]
  refine Eq.trans (congrArg _ ?_) (scale_ref x0 x1 (i 1))
  funext a
  match a with
  | ⟨0, _⟩ => rfl
theorem ref_zero_row : val_main_v53 (F := Ideal) x0 x1 = fun i => Ideal.fptosi 32 (rowZero (normOf x0 x1 (i 1))) := by
  funext i
  rw [val_main_v53_apply, val_main_v30_apply]
  refine congrArg (Ideal.fptosi 32) (Eq.trans (congrArg _ ?_) (zero_ref x0 x1 (i 1)))
  funext a
  match a with
  | ⟨0, _⟩ => rfl
theorem ref_lanes : val_main_v55 (F := Ideal) x0 x1 = fun i => rowScale (normOf x0 x1 (i 0)) := by
  funext i
  rw [val_main_v55_apply, val_main_v54_apply]
  refine Eq.trans (congrArg _ ?_) (scale_ref x0 x1 (i 0))
  funext a
  match a with
  | ⟨0, _⟩ => rfl

theorem ref_cos (x2 : Vec Ideal S2048x48 .f32) : val_main_v48 (F := Ideal) x2 = fun i => cosOf (fun j => x2 (ix2 (i 0) j)) (i 1) := by
  have key : ∀ (r : Fin 2048) (l : Fin 128), val_main_v48 (F := Ideal) x2 (ix2 r l) = cosOf (fun j => x2 (ix2 r j)) l := by
    intro r l
    by_cases h1 : l.val < 48
    · pointwise [val_main_v48, val_main_v47, val_main_cst_13, cosOf]
      simp [h1]
    by_cases h2 : l.val < 96
    · have e : l.val - 48 < 48 := by omega
      pointwise [val_main_v48, val_main_v47, val_main_cst_13, cosOf]
      simp [h1, h2, e]
    have e : ¬ l.val - 48 < 48 := by omega
    pointwise [val_main_v48, val_main_v47, val_main_cst_13, cosOf]
    simp [h1, h2, e]
  funext i
  have e := key (i 0) (i 1)
  rw [ix2_eta] at e
  exact e

theorem ref_sin (x3 : Vec Ideal S2048x48 .f32) : val_main_v51 (F := Ideal) x3 = fun i => sinOf (fun j => x3 (ix2 (i 0) j)) (i 1) := by
  have key : ∀ (r : Fin 2048) (l : Fin 128), val_main_v51 (F := Ideal) x3 (ix2 r l) = sinOf (fun j => x3 (ix2 r j)) l := by
    intro r l
    by_cases h1 : l.val < 48
    · pointwise [val_main_v51, val_main_v50, val_main_v49, val_main_cst_14, sinOf]
      simp [h1]
    by_cases h2 : l.val < 96
    · have e : l.val - 48 < 48 := by omega
      pointwise [val_main_v51, val_main_v50, val_main_v49, val_main_cst_14, sinOf]
      simp [h1, h2, e]
    have e : ¬ l.val - 48 < 48 := by omega
    pointwise [val_main_v51, val_main_v50, val_main_v49, val_main_cst_14, sinOf]
    simp [h1, h2, e]
  funext i
  have e := key (i 0) (i 1)
  rw [ix2_eta] at e
  exact e
end Cert.RowQuant
-- ==== Proof.OprojStripes.lean ====
/- The weight array of the output projection, which the first grid step unpacks: twelve chunks of 256 rows, each of 192
   stripes of 32 rows of signed nibbles times their group's scales. -/
module
public import proofs.«01_k».proof.Proof.DownStripes
public import proofs.«01_k».proof.Proof.Gen.OprojIdeal.Loops
@[expose] public section
set_option maxRecDepth 65536
noncomputable section
namespace Cert.OutProj
open Idealize.ShloMosaic hiding ix1 ix2 ix3
open Idealize.ShloMosaic.ValueIdx Idealize.ShloMosaic.TcCoe Idealize.ShloMosaic.Tactic Cert.GateUp Cert.DownProj Cert.OprojIdeal Cert.OprojIdeal.Gen

/-- The block of columns, the group and the nibble of stripe `n` of a chunk, counted in the order of writing. -/
def colsIn (n : Fin 192) : Fin 12 := ⟨n.val / 16, by omega⟩
def grpIn (n : Fin 192) : Fin 8 := ⟨n.val % 16 / 2, by omega⟩
def nibIn (n : Fin 192) : Fin 2 := ⟨n.val % 2, by omega⟩

theorem inbCodesCols (j : Fin 12) : ∀ a, (![0, 128 * j.val] : Fin 2 → Nat) a + S256x128.size a ≤ S256x1536.size a := by
  revert j; decide
theorem inbScalesCols (j : Fin 12) : ∀ a, (![0, 128 * j.val] : Fin 2 → Nat) a + S8x128.size a ≤ S8x1536.size a := by
  revert j; decide

def chunkOff (k : Fin k0_t1_loop.trips) (n : Fin 192) : Fin 2 → Nat :=
  ![k0_off3 k 0 + 32 * (grpIn n).val, 1536 * (nibIn n).val + 128 * (colsIn n).val]

theorem inbChunk (i : grid0.Coords) (h1 : k0_cond1 i = 1#1) (k : Fin k0_t1_loop.trips) (n : Fin 192) :
    ∀ a, chunkOff k n a + S32x128.size a ≤ S3072x3072.size a := by
  intro a
  have e : k0_off3 k 0 + 256 ≤ 3072 := k0_off3_inb i k h1 0
  have hn := n.isLt
  match a with
  | ⟨0, _⟩ => show k0_off3 k 0 + 32 * (n.val % 16 / 2) + 32 ≤ 3072; omega
  | ⟨1, _⟩ => show 1536 * (n.val % 2) + 128 * (n.val / 16) + 128 ≤ 3072; omega

section
variable {F : FTy → Type} [FloatOps F]

/-- The codes of a chunk's block of columns. -/
def codesIn (i : grid0.Coords) (h1 : k0_cond1 i = 1#1) (arg4 : Memref sig .tc .vmem S3072x1536 .i8) (X4 : BufTy.Contents (Elt F) arg4.view.ty)
    (k : Fin k0_t1_loop.trips) (j : Fin 12) : IVec S256x128 8 :=
  View.readAt (Elt F) arg4.view ((Rect.unit (s := S3072x1536) (k0_off1 k) S256x1536.size (k0_off1_inb i k h1)).withinL
    (Rect.unit (s := S256x1536) ![0, 128 * j.val] S256x128.size (inbCodesCols j)).toLoadRect (fun _ => rfl)) X4

/-- The scales of a chunk's block of columns. -/
def scalesIn (i : grid0.Coords) (h1 : k0_cond1 i = 1#1) (arg5 : Memref sig .tc .vmem S96x1536 .f32) (X5 : BufTy.Contents (Elt F) arg5.view.ty)
    (k : Fin k0_t1_loop.trips) (j : Fin 12) : FVec F S8x128 .f32 :=
  View.readAt (Elt F) arg5.view ((Rect.unit (s := S96x1536) (k0_off2 k) S8x1536.size (k0_off2_inb i k h1)).withinL
    (Rect.unit (s := S8x1536) ![0, 128 * j.val] S8x128.size (inbScalesCols j)).toLoadRect (fun _ => rfl)) X5

/-- The scales of the low nibbles or of the high nibbles. -/
def nibScalesIn (i : grid0.Coords) (h1 : k0_cond1 i = 1#1) (arg5 arg6 : Memref sig .tc .vmem S96x1536 .f32) (X5 : BufTy.Contents (Elt F) arg5.view.ty)
    (X6 : BufTy.Contents (Elt F) arg6.view.ty) (hi : Fin 2) (k : Fin k0_t1_loop.trips) (j : Fin 12) : FVec F S8x128 .f32 :=
  match hi with
  | 0 => scalesIn i h1 arg5 X5 k j
  | 1 => scalesIn i h1 arg6 X6 k j

/-- Stripe `n` of a chunk. -/
def stripeIn (i : grid0.Coords) (h1 : k0_cond1 i = 1#1) (arg4 : Memref sig .tc .vmem S3072x1536 .i8) (arg5 arg6 : Memref sig .tc .vmem S96x1536 .f32)
    (X4 : BufTy.Contents (Elt F) arg4.view.ty) (X5 : BufTy.Contents (Elt F) arg5.view.ty) (X6 : BufTy.Contents (Elt F) arg6.view.ty)
    (k : Fin k0_t1_loop.trips) (n : Fin 192) : FVec F S32x128 .bf16 :=
  plainStripe (nibIn n) (grpIn n) (codesIn i h1 arg4 X4 k (colsIn n)) (nibScalesIn i h1 arg5 arg6 X5 X6 (nibIn n) k (colsIn n))

/-- The stripes of a chunk, newest first. -/
def chunkStripes (i : grid0.Coords) (h1 : k0_cond1 i = 1#1) (arg4 : Memref sig .tc .vmem S3072x1536 .i8) (arg5 arg6 : Memref sig .tc .vmem S96x1536 .f32)
    (X4 : BufTy.Contents (Elt F) arg4.view.ty) (X5 : BufTy.Contents (Elt F) arg5.view.ty) (X6 : BufTy.Contents (Elt F) arg6.view.ty)
    (k : Fin k0_t1_loop.trips) : List (View.Piece (Elt F) S3072x3072 .bf16) :=
  List.ofFn fun n : Fin 192 => ⟨Rect.unit (s := S3072x3072) (chunkOff k n.rev) S32x128.size (inbChunk i h1 k n.rev),
    stripeIn i h1 arg4 arg5 arg6 X4 X5 X6 k n.rev⟩

theorem trip_eq (𝒱 : Variants) (c : Dev nD) (bd : Option 𝒱.V) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S3072x1536 .i8) (harg4 : arg4.IsWhole) (arg5 : Memref sig .tc .vmem S96x1536 .f32) (harg5 : arg5.IsWhole) (arg6 : Memref sig .tc .vmem S96x1536 .f32) (harg6 : arg6.IsWhole) (arg7 : Memref sig .tc .vmem S256x3072 .f32) (harg7 : arg7.IsWhole) (arg8 : Memref sig .tc .vmem S256x3072 .bf16) (harg8 : arg8.IsWhole) (arg9 : Memref sig .tc .vmem S256x3072 .i8) (harg9 : arg9.IsWhole) (arg10 : Memref sig .tc .vmem S256x128 .f32) (harg10 : arg10.IsWhole) (arg11 : Memref sig .tc .vmem S1x256 .f32) (harg11 : arg11.IsWhole) (arg12 : Memref sig .tc .vmem S1x256 .i32) (harg12 : arg12.IsWhole) (arg13 : Memref sig .tc .vmem S256x3072 .i8) (harg13 : arg13.IsWhole) (arg14 : Memref sig .tc .vmem S1x256 .f32) (harg14 : arg14.IsWhole) (arg15 : Memref sig .tc .vmem S1x256 .i32) (harg15 : arg15.IsWhole) (arg16 : Memref sig .tc .vmem S3072x3072 .bf16) (harg16 : arg16.IsWhole) (arg17 : Memref sig .tc .vmem S256x3072 .bf16) (harg17 : arg17.IsWhole) (arg18 : Memref sig .tc .vmem S256x128 .f32) (harg18 : arg18.IsWhole) (arg19 : Memref sig .tc .vmem S256x128 .f32) (harg19 : arg19.IsWhole) (k0_h1 : k0_cond1 i = 1#1) (X_arg4 : BufTy.Contents (Elt F) arg4.view.ty) (X_arg5 : BufTy.Contents (Elt F) arg5.view.ty) (X_arg6 : BufTy.Contents (Elt F) arg6.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 X_arg4 X_arg5 X_arg6 k
      = chunkStripes i k0_h1 arg4 arg5 arg6 X_arg4 X_arg5 X_arg6 k := by
  sl_kernel_rfl
end

theorem off1_eq : ∀ k : Fin k0_t1_loop.trips, k0_off1 k 0 = k0_off3 k 0 ∧ k0_off1 k 1 = 0 ∧ k0_off2 k 0 = k0_off3 k 0 / 32 ∧ k0_off2 k 1 = 0
    ∧ k0_off3 k 0 % 32 = 0 := by
  decide +kernel

/-- The unpacked weights: signed nibble times the scale of its group of 32 rows. -/
def outBlock (x3 : Vec Ideal S3072x1536 .i8) (x4 x5 : Vec Ideal S96x1536 .f32) : Vec Ideal S3072x3072 .bf16 := fun y =>
  let k : Fin 3072 := y 0
  let c : Fin 3072 := y 1
  (((nib (pNib c) (x3 (ix2 k (pCol c)))) : ℝ) : EReal)
    * choose (pNib c) (x4 (ix2 ⟨k.val / 32, by omega⟩ (pCol c))) (x5 (ix2 ⟨k.val / 32, by omega⟩ (pCol c)))

section
variable (i : grid0.Coords) (h1 : k0_cond1 i = 1#1) (arg4 : Memref sig .tc .vmem S3072x1536 .i8) (harg4 : arg4.IsWhole)
  (arg5 : Memref sig .tc .vmem S96x1536 .f32) (harg5 : arg5.IsWhole) (arg6 : Memref sig .tc .vmem S96x1536 .f32) (harg6 : arg6.IsWhole)
  (x3 : Vec Ideal S3072x1536 .i8) (x4 x5 : Vec Ideal S96x1536 .f32) (k : Fin k0_t1_loop.trips)

theorem codesIn_at (j : Fin 12) (R : Fin 256) (l : Fin 128) (q : Fin 3072) (p : Fin 1536) (hq : q.val = k0_off3 k 0 + R.val) (hp : p.val = 128 * j.val + l.val) :
    codesIn (F := Ideal) i h1 arg4 (harg4.unread x3) k j (ix2 R l) = x3 (ix2 q p) := by
  obtain ⟨e1, e2, -⟩ := off1_eq k
  unfold codesIn
  refine (Memref.IsWhole.readAt_unread harg4 x3 _ _).trans (congrArg x3 ?_)
  refine (Rect.idx_withinL _ _ (fun _ => rfl) _).trans ?_
  funext c
  match c with
  | ⟨0, _⟩ => exact Fin.ext (by show k0_off1 k 0 + 1 * (0 + 1 * R.val) = q.val; omega)
  | ⟨1, _⟩ => exact Fin.ext (by show k0_off1 k 1 + 1 * (128 * j.val + 1 * l.val) = p.val; omega)

theorem scalesIn_at (m : Memref sig .tc .vmem S96x1536 .f32) (h : m.IsWhole) (x : Vec Ideal S96x1536 .f32)
    (j : Fin 12) (g : Fin 8) (l : Fin 128) (q : Fin 96) (p : Fin 1536) (hq : q.val = k0_off3 k 0 / 32 + g.val) (hp : p.val = 128 * j.val + l.val) :
    scalesIn (F := Ideal) i h1 m (h.unread x) k j (ix2 g l) = x (ix2 q p) := by
  obtain ⟨-, -, e1, e2, -⟩ := off1_eq k
  unfold scalesIn
  refine (Memref.IsWhole.readAt_unread h x _ _).trans (congrArg x ?_)
  refine (Rect.idx_withinL _ _ (fun _ => rfl) _).trans ?_
  funext c
  match c with
  | ⟨0, _⟩ => exact Fin.ext (by show k0_off2 k 0 + 1 * (0 + 1 * g.val) = q.val; omega)
  | ⟨1, _⟩ => exact Fin.ext (by show k0_off2 k 1 + 1 * (128 * j.val + 1 * l.val) = p.val; omega)

/-- A stripe's element is the weight array's where the stripe lies. -/
theorem stripe_in_out (n : Fin 192) (x : S32x128.Idx) :
    stripeIn (F := Ideal) i h1 arg4 arg5 arg6 (harg4.unread x3) (harg5.unread x4) (harg6.unread x5) k n x
      = outBlock x3 x4 x5 ((Rect.unit (s := S3072x3072) (chunkOff k n) S32x128.size (inbChunk i h1 k n)).emb x) := by
  have hk : k0_off3 k 0 + 256 ≤ 3072 := k0_off3_inb i k h1 0
  have hn := n.isLt
  have x0lt : (x 0).val < 32 := (x 0).isLt
  have x1lt : (x 1).val < 128 := (x 1).isLt
  have hdiv := (off1_eq k).2.2.2.2
  have hg : (grpIn n).val = n.val % 16 / 2 := rfl
  have hh : (nibIn n).val = n.val % 2 := rfl
  have hc : (colsIn n).val = n.val / 16 := rfl
  have r0 : k0_off3 k 0 + 32 * (grpIn n).val + (x 0).val < 3072 := by omega
  have r1 : 1536 * (nibIn n).val + 128 * (colsIn n).val + (x 1).val < 3072 := by omega
  have ee : (Rect.unit (s := S3072x3072) (chunkOff k n) S32x128.size (inbChunk i h1 k n)).emb x
      = ix2 (n0 := 3072) (n1 := 3072) ⟨k0_off3 k 0 + 32 * (grpIn n).val + (x 0).val, r0⟩ ⟨1536 * (nibIn n).val + 128 * (colsIn n).val + (x 1).val, r1⟩ := by
    funext a
    match a with
    | ⟨0, _⟩ => exact Fin.ext (by show k0_off3 k 0 + 32 * (grpIn n).val + 1 * (x 0).val = _; rw [Nat.one_mul])
    | ⟨1, _⟩ => exact Fin.ext (by show 1536 * (nibIn n).val + 128 * (colsIn n).val + 1 * (x 1).val = _; rw [Nat.one_mul])
  rw [ee]
  generalize hR : (⟨k0_off3 k 0 + 32 * (grpIn n).val + (x 0).val, r0⟩ : Fin 3072) = R
  generalize hC : (⟨1536 * (nibIn n).val + 128 * (colsIn n).val + (x 1).val, r1⟩ : Fin 3072) = C
  have hRv : R.val = k0_off3 k 0 + 32 * (grpIn n).val + (x 0).val := by rw [← hR]
  have hCv : C.val = 1536 * (nibIn n).val + 128 * (colsIn n).val + (x 1).val := by rw [← hC]
  have en : pNib C = nibIn n := Fin.ext (by show C.val / 1536 = _; omega)
  have ep : (pCol C).val = 128 * (colsIn n).val + (x 1).val := by show C.val % 1536 = _; omega
  show _ = (((nib (pNib C) (x3 (ix2 R (pCol C)))) : ℝ) : EReal)
    * choose (pNib C) (x4 (ix2 ⟨R.val / 32, by omega⟩ (pCol C))) (x5 (ix2 ⟨R.val / 32, by omega⟩ (pCol C)))
  rw [en]
  unfold stripeIn
  refine (congrArg (plainStripe _ _ _ _) (ValueIdx.eq_ix2 (n0 := 32) (n1 := 128) x)).trans ?_
  refine (plainStripe_at _ _ _ _ (x 0) (x 1)).trans ?_
  rw [codesIn_at i h1 arg4 harg4 x3 k (colsIn n) ⟨32 * (grpIn n).val + (x 0).val, by omega⟩ (x 1) R (pCol C) (by simp only []; omega) ep]
  generalize nibIn n = hi
  have eq : (⟨R.val / 32, by omega⟩ : Fin 96).val = k0_off3 k 0 / 32 + (grpIn n).val := by simp only []; omega
  match hi with
  | 0 => dsimp only [choose, nibScalesIn]; rw [scalesIn_at i h1 k arg5 harg5 x4 (colsIn n) (grpIn n) (x 1) _ _ eq ep]
  | 1 => dsimp only [choose, nibScalesIn]; rw [scalesIn_at i h1 k arg6 harg6 x5 (colsIn n) (grpIn n) (x 1) _ _ eq ep]
end
end Cert.OutProj
-- ==== Proof.OprojPieces.lean ====
/- What one grid step of the output projection writes: the quantised rows, the sums, and the sums normalised and
   quantised, each in chunks. -/
module
public import proofs.«01_k».proof.Proof.NormPieces
public import proofs.«01_k».proof.Proof.OprojStripes
public import proofs.«01_k».proof.Proof.Gen.OprojIdeal.Frame
@[expose] public section
set_option maxRecDepth 65536
noncomputable section
namespace Cert.OutProj
open Idealize.ShloMosaic Idealize.ShloMosaic.TcCoe Idealize.ShloMosaic.Tactic Cert.RowQuant Cert.OprojIdeal Cert.OprojIdeal.Gen

theorem inbW6 (j : Fin 6) : ∀ a, (![0, 512 * j.val] : Fin 2 → Nat) a + S3072x512.size a ≤ S3072x3072.size a := by
  revert j; decide
theorem inbH6 (j : Fin 6) : ∀ a, (![0, 512 * j.val] : Fin 2 → Nat) a + S256x512.size a ≤ S256x3072.size a := by
  revert j; decide

section
variable {F : FTy → Type} [FloatOps F]

section
variable (arg1 : Memref sig .tc .vmem S256x3072 .f32) (harg1 : arg1.IsWhole) (arg2 : Memref sig .tc .vmem S256x3072 .bf16) (harg2 : arg2.IsWhole)
  (arg3 : Memref sig .tc .vmem S1x3072 .f32) (harg3 : arg3.IsWhole) (arg7 : Memref sig .tc .vmem S256x3072 .f32)
  (arg17 : Memref sig .tc .vmem S256x3072 .bf16) (arg18 : Memref sig .tc .vmem S256x128 .f32)
  (x0 : Vec F S256x3072 .f32) (x1 : Vec F S256x3072 .bf16) (x2 : Vec F S1x3072 .f32) (W : Fin 6 → Vec F S3072x512 .bf16)

/-- Values cast to the shape they have. -/
def castRows {f : FTy} (x : FVec F S64x3072 f) : FVec F S64x3072 f := shapeCast S64x3072 x shapeCasts_S64x3072_S64x3072
def castLanes (x : FVec F S64x128 .f32) : FVec F S64x128 .f32 := shapeCast S64x128 x shapeCasts_S64x128_S64x128

/-- A chunk of the rows that are multiplied. -/
def oRows (b : Fin 4) : FVec F S64x3072 .f32 :=
  View.readAt (Elt F) arg1.view (Rect.unit (s := S256x3072) ![64 * b.val, 0] S64x3072.size (inbRows b)).toLoadRect (harg1.unread x0)

/-- The codes less their zero points, and the scales over 128 lanes, read back. -/
def centredLoad : Vec F S256x3072 .bf16 :=
  arg17.view.readCov (chunks fun b => castRows (centredRows (oRows arg1 harg1 x0 b))) (Rect.unit (s := S256x3072) ![0, 0] S256x3072.size inb_S256x3072_S256x3072_0_0).toLoadRect
def scaleLoad : Vec F S256x128 .f32 :=
  arg18.view.readCov (chunks fun b => castLanes (lanes (scaleRows (oRows arg1 harg1 x0 b)))) (Rect.unit (s := S256x128) ![0, 0] S256x128.size inb_S256x128_S256x128_0_0).toLoadRect

/-- The sums, six blocks of columns, newest first. -/
def sumPieces : List (View.Piece (Elt F) S256x3072 .f32) :=
  List.ofFn fun j : Fin 6 => ⟨Rect.unit (s := S256x3072) ![0, 512 * j.rev.val] S256x512.size (inbH6 j.rev),
    k0_pay512 (centredLoad arg1 harg1 arg17 x0) (W j.rev) (scaleLoad arg1 harg1 arg18 x0)
      (View.readAt (Elt F) arg2.view (Rect.unit (s := S256x3072) ![0, 512 * j.rev.val] S256x512.size (inbH6 j.rev)).toLoadRect (harg2.unread x1))⟩

/-- A chunk of the sums, normalised. -/
def sumRows (b : Fin 4) : FVec F S64x3072 .f32 :=
  rmsRows (shapeCast S64x3072 (arg7.view.readCov (sumPieces arg1 harg1 arg2 harg2 arg17 arg18 x0 x1 W)
      (Rect.unit (s := S256x3072) ![64 * b.val, 0] S64x3072.size (inbRows b)).toLoadRect : Vec F S64x3072 .f32) shapeCasts_S64x3072_S64x3072)
    (View.readAt (Elt F) arg3.view (Rect.unit (s := S1x3072) ![0, 0] S1x3072.size inb_S1x3072_S1x3072_0_0).toLoadRect (harg3.unread x2))
end

variable (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S3072x1536 .i8) (harg4 : arg4.IsWhole) (arg5 : Memref sig .tc .vmem S96x1536 .f32) (harg5 : arg5.IsWhole) (arg6 : Memref sig .tc .vmem S96x1536 .f32) (harg6 : arg6.IsWhole) (arg7 : Memref sig .tc .vmem S256x3072 .f32) (harg7 : arg7.IsWhole) (arg8 : Memref sig .tc .vmem S256x3072 .bf16) (harg8 : arg8.IsWhole) (arg9 : Memref sig .tc .vmem S256x3072 .i8) (harg9 : arg9.IsWhole) (arg10 : Memref sig .tc .vmem S256x128 .f32) (harg10 : arg10.IsWhole) (arg11 : Memref sig .tc .vmem S1x256 .f32) (harg11 : arg11.IsWhole) (arg12 : Memref sig .tc .vmem S1x256 .i32) (harg12 : arg12.IsWhole) (arg13 : Memref sig .tc .vmem S256x3072 .i8) (harg13 : arg13.IsWhole) (arg14 : Memref sig .tc .vmem S1x256 .f32) (harg14 : arg14.IsWhole) (arg15 : Memref sig .tc .vmem S1x256 .i32) (harg15 : arg15.IsWhole) (arg16 : Memref sig .tc .vmem S3072x3072 .bf16) (harg16 : arg16.IsWhole) (arg17 : Memref sig .tc .vmem S256x3072 .bf16) (harg17 : arg17.IsWhole) (arg18 : Memref sig .tc .vmem S256x128 .f32) (harg18 : arg18.IsWhole) (arg19 : Memref sig .tc .vmem S256x128 .f32) (harg19 : arg19.IsWhole)
  (x0 : Vec F S256x3072 .f32) (x1 : Vec F S256x3072 .bf16) (x2 : Vec F S1x3072 .f32) (x3 : Vec F S3072x1536 .i8) (x4 : Vec F S96x1536 .f32) (x5 : Vec F S96x1536 .f32)

/-- The weights' blocks of columns, read back from the stripes the first step writes. -/
def colsFirst (h1 : k0_cond1 i = 1#1) (j : Fin 6) : Vec F S3072x512 .bf16 :=
  arg16.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 (harg4.unread x3) (harg5.unread x4) (harg6.unread x5) k0_t1_loop.trips)
    (Rect.unit (s := S3072x3072) ![0, 512 * j.val] S3072x512.size (inbW6 j)).toLoadRect

/-- The weights' blocks of columns, kept from the step before. -/
def colsLater (xs0 : Vec F S3072x3072 .bf16) (j : Fin 6) : Vec F S3072x512 .bf16 :=
  View.readAt (Elt F) arg16.view (Rect.unit (s := S3072x3072) ![0, 512 * j.val] S3072x512.size (inbW6 j)).toLoadRect (harg16.unread xs0)

theorem sum_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).1 = sumPieces arg1 harg1 arg2 harg2 arg17 arg18 x0 x1 (colsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) := by
  sl_kernel_rfl
theorem centred_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.1 = chunks fun b => centredRows (sumRows arg1 harg1 arg2 harg2 arg3 harg3 arg7 arg17 arg18 x0 x1 x2 (colsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) b) := by
  sl_kernel_rfl
theorem codes_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.2.1 = chunks fun b => byteRows (sumRows arg1 harg1 arg2 harg2 arg3 harg3 arg7 arg17 arg18 x0 x1 x2 (colsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) b) := by
  sl_kernel_rfl
theorem lanes_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.2.2.1 = chunks fun b => lanes (scaleRows (sumRows arg1 harg1 arg2 harg2 arg3 harg3 arg7 arg17 arg18 x0 x1 x2 (colsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) b)) := by
  sl_kernel_rfl
theorem scale_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.2.2.2.1 = [⟨Rect.unit (s := S1x256) ![0, 0] S1x256.size inb_S1x256_S1x256_0_0, k0_pay555 (arg10.view.readCov (chunks fun b => lanes (scaleRows (sumRows arg1 harg1 arg2 harg2 arg3 harg3 arg7 arg17 arg18 x0 x1 x2 (colsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) b)))
    (Rect.unit (s := S256x128) ![0, 0] S256x128.size inb_S256x128_S256x128_0_0).toLoadRect)⟩] := by
  sl_kernel_rfl
theorem zero_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.2.2.2.2.1 = [⟨Rect.unit (s := S1x256) ![0, 0] S1x256.size inb_S1x256_S1x256_0_0, k0_pay556 (arg19.view.readCov ((chunks fun b => castLanes (lanes (zeroRows (sumRows arg1 harg1 arg2 harg2 arg3 harg3 arg7 arg17 arg18 x0 x1 x2 (colsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) b))))
    ++ chunks fun b => castLanes (lanes (zeroRows (oRows arg1 harg1 x0 b))))
    (Rect.unit (s := S256x128) ![0, 0] S256x128.size inb_S256x128_S256x128_0_0).toLoadRect)⟩] := by
  sl_kernel_rfl
theorem oCodes_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.2.2.2.2.2.1 = chunks fun b => byteRows (oRows arg1 harg1 x0 b) := by
  sl_kernel_rfl
theorem oScale_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.2.2.2.2.2.2.1 = [⟨Rect.unit (s := S1x256) ![0, 0] S1x256.size inb_S1x256_S1x256_0_0, k0_pay505 (arg18.view.readCov (chunks fun b => castLanes (lanes (scaleRows (oRows arg1 harg1 x0 b))))
    (Rect.unit (s := S256x128) ![0, 0] S256x128.size inb_S256x128_S256x128_0_0).toLoadRect)⟩] := by
  sl_kernel_rfl
theorem oZero_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.2.2.2.2.2.2.2.1 = [⟨Rect.unit (s := S1x256) ![0, 0] S1x256.size inb_S1x256_S1x256_0_0, k0_pay506 (arg19.view.readCov (chunks fun b => castLanes (lanes (zeroRows (oRows arg1 harg1 x0 b))))
    (Rect.unit (s := S256x128) ![0, 0] S256x128.size inb_S256x128_S256x128_0_0).toLoadRect)⟩] := by
  sl_kernel_rfl
theorem weights_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5).2.2.2.2.2.2.2.2.2.1 = pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (harg4.unread x3) (harg5.unread x4) (harg6.unread x5) k0_t1_loop.trips := by
  sl_kernel_rfl
theorem sum_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).1 = sumPieces arg1 harg1 arg2 harg2 arg17 arg18 x0 x1 (colsLater arg16 harg16 xs0) := by
  sl_kernel_rfl
theorem centred_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).2.1 = chunks fun b => centredRows (sumRows arg1 harg1 arg2 harg2 arg3 harg3 arg7 arg17 arg18 x0 x1 x2 (colsLater arg16 harg16 xs0) b) := by
  sl_kernel_rfl
theorem codes_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).2.2.1 = chunks fun b => byteRows (sumRows arg1 harg1 arg2 harg2 arg3 harg3 arg7 arg17 arg18 x0 x1 x2 (colsLater arg16 harg16 xs0) b) := by
  sl_kernel_rfl
theorem lanes_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).2.2.2.1 = chunks fun b => lanes (scaleRows (sumRows arg1 harg1 arg2 harg2 arg3 harg3 arg7 arg17 arg18 x0 x1 x2 (colsLater arg16 harg16 xs0) b)) := by
  sl_kernel_rfl
theorem scale_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).2.2.2.2.1 = [⟨Rect.unit (s := S1x256) ![0, 0] S1x256.size inb_S1x256_S1x256_0_0, k0_pay555 (arg10.view.readCov (chunks fun b => lanes (scaleRows (sumRows arg1 harg1 arg2 harg2 arg3 harg3 arg7 arg17 arg18 x0 x1 x2 (colsLater arg16 harg16 xs0) b)))
    (Rect.unit (s := S256x128) ![0, 0] S256x128.size inb_S256x128_S256x128_0_0).toLoadRect)⟩] := by
  sl_kernel_rfl
theorem zero_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).2.2.2.2.2.1 = [⟨Rect.unit (s := S1x256) ![0, 0] S1x256.size inb_S1x256_S1x256_0_0, k0_pay556 (arg19.view.readCov ((chunks fun b => castLanes (lanes (zeroRows (sumRows arg1 harg1 arg2 harg2 arg3 harg3 arg7 arg17 arg18 x0 x1 x2 (colsLater arg16 harg16 xs0) b))))
    ++ chunks fun b => castLanes (lanes (zeroRows (oRows arg1 harg1 x0 b))))
    (Rect.unit (s := S256x128) ![0, 0] S256x128.size inb_S256x128_S256x128_0_0).toLoadRect)⟩] := by
  sl_kernel_rfl
theorem oCodes_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).2.2.2.2.2.2.1 = chunks fun b => byteRows (oRows arg1 harg1 x0 b) := by
  sl_kernel_rfl
theorem oScale_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).2.2.2.2.2.2.2.1 = [⟨Rect.unit (s := S1x256) ![0, 0] S1x256.size inb_S1x256_S1x256_0_0, k0_pay505 (arg18.view.readCov (chunks fun b => castLanes (lanes (scaleRows (oRows arg1 harg1 x0 b))))
    (Rect.unit (s := S256x128) ![0, 0] S256x128.size inb_S256x128_S256x128_0_0).toLoadRect)⟩] := by
  sl_kernel_rfl
theorem oZero_B (hc0 : ¬cond0_0 i) (xs0 : Vec F S3072x3072 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0).2.2.2.2.2.2.2.2.1 = [⟨Rect.unit (s := S1x256) ![0, 0] S1x256.size inb_S1x256_S1x256_0_0, k0_pay506 (arg19.view.readCov (chunks fun b => castLanes (lanes (zeroRows (oRows arg1 harg1 x0 b))))
    (Rect.unit (s := S256x128) ![0, 0] S256x128.size inb_S256x128_S256x128_0_0).toLoadRect)⟩] := by
  sl_kernel_rfl
end
end Cert.OutProj
-- ==== Proof.OprojRows.lean ====
/- The values of one grid step of the output projection, entry by entry, from the rows it multiplies, the rows it adds
   to and the weights. -/
module
public import proofs.«01_k».proof.Proof.OprojPieces
public import proofs.«01_k».proof.Proof.NormStep
@[expose] public section
set_option maxRecDepth 65536
noncomputable section
namespace Cert.OutProj
open Idealize.ShloMosaic Idealize.ShloMosaic.TcCoe Cert.GateUp Cert.DownProj Cert.RowQuant Cert.OprojIdeal Cert.OprojIdeal.Gen

theorem castRows_eq {f : FTy} (x : FVec Ideal S64x3072 f) : castRows (F := Ideal) (f := f) x = x :=
  funext fun i => congrArg x (Shape.reshapeEquiv_self shapeCasts_S64x3072_S64x3072 i)
theorem castLanes_eq (x : Vec Ideal S64x128 .f32) : castLanes (F := Ideal) x = x :=
  funext fun i => congrArg x (Shape.reshapeEquiv_self shapeCasts_S64x128_S64x128 i)

theorem chunks_castRows (P : Fin 4 → FVec Ideal S64x3072 .bf16) : chunks (F := Ideal) (N := 3072) (e := .bf16) (fun b => castRows (F := Ideal) (P b)) = chunks (F := Ideal) (N := 3072) (e := .bf16) P :=
  congrArg (chunks (F := Ideal) (N := 3072) (e := .bf16)) (funext fun b => castRows_eq (P b))
theorem chunks_castLanes (P : Fin 4 → FVec Ideal S64x128 .f32) : chunks (F := Ideal) (N := 128) (e := .f32) (fun b => castLanes (F := Ideal) (P b)) = chunks (F := Ideal) (N := 128) (e := .f32) P :=
  congrArg (chunks (F := Ideal) (N := 128) (e := .f32)) (funext fun b => castLanes_eq (P b))

/-- Row `r` of chunk `b`, and column `l` of block `j`. -/
def rowAt (b : Fin 4) (r : Fin 64) : Fin 256 := ⟨64 * b.val + r.val, by omega⟩
def colAt (j : Fin 6) (l : Fin 512) : Fin 3072 := ⟨512 * j.val + l.val, by omega⟩

/-! ## Chunks of rows, quantised -/

section
variable (rows : Fin 4 → FVec Ideal S64x3072 .f32) (T : Fin 256 → Fin 3072 → EReal)
  (h : ∀ (b : Fin 4) (r : Fin 64) (j : Fin 3072), rows b (ix2 r j) = T (rowAt b r) j)
include h

theorem row_eq (b : Fin 4) (r : Fin 64) : (fun j => rows b (ix2 r j)) = T (rowAt b r) := funext (h b r)

theorem canon_centred : View.canon (chunks (F := Ideal) (N := 3072) (e := .bf16) fun b => centredRows (F := Ideal) (rows b))
    = fun (y : S256x3072.Idx) => rowCode (T (y 0)) (y 1) - rowZero (T (y 0)) := by
  refine canon_chunks (e := .bf16) _ (fun r j => rowCode (T r) j - rowZero (T r)) fun b r j => ?_
  refine (centredRows_at _ r j).trans ?_
  rw [row_eq rows T h]
  rfl

theorem canon_bytes : View.canon (chunks (F := Ideal) (N := 3072) (e := .i8) fun b => byteRows (F := Ideal) (rows b))
    = fun (y : S256x3072.Idx) => asInt8 (rowCode (T (y 0)) (y 1)) := by
  refine canon_chunks (e := .i8) _ (fun r j => asInt8 (rowCode (T r) j)) fun b r j => ?_
  refine (byteRows_at _ r j).trans ?_
  rw [row_eq rows T h]
  rfl

theorem canon_scales : View.canon (chunks (F := Ideal) (N := 128) (e := .f32) fun b => lanes (F := Ideal) (scaleRows (rows b)))
    = fun (y : S256x128.Idx) => rowScale (T (y 0)) := by
  refine canon_chunks (e := .f32) _ (fun r _ => rowScale (T r)) fun b r j => ?_
  refine (lanes_at _ r j).trans ?_
  rw [scaleRows_at, row_eq rows T h]
  rfl

theorem canon_zeros : View.canon (chunks (F := Ideal) (N := 128) (e := .f32) fun b => lanes (F := Ideal) (zeroRows (rows b)))
    = fun (y : S256x128.Idx) => rowZero (T (y 0)) := by
  refine canon_chunks (e := .f32) _ (fun r _ => rowZero (T r)) fun b r j => ?_
  refine (lanes_at _ r j).trans ?_
  rw [zeroRows_at, row_eq rows T h]
  rfl

theorem zero_piece (b : Fin 4) (x : S64x128.Idx) : lanes (F := Ideal) (zeroRows (rows b)) x
    = rowZero (T ((Rect.unit (s := S256x128) ![64 * b.val, 0] S64x128.size (inbRows b)).emb x 0)) := by
  have ex : x = ix2 (n0 := 64) (n1 := 128) (x 0) (x 1) := (ix2_eta (n0 := 64) (n1 := 128) x).symm
  have key : ∀ (r : Fin 64) (l : Fin 128), lanes (F := Ideal) (zeroRows (rows b)) (ix2 r l) = rowZero (T (rowAt b r)) := by
    intro r l
    refine (lanes_at _ r l).trans ?_
    rw [zeroRows_at, row_eq rows T h]
  refine (congrArg _ ex).trans ((key (x 0) (x 1)).trans ?_)
  congr 2
  exact Fin.ext (by show 64 * b.val + (x 0).val = 64 * b.val + 1 * (x 0).val; omega)

/-- Written over an earlier set of chunks, the later ones are what is left. -/
theorem canon_zeros_over (L : List (View.Piece (Elt Ideal) S256x128 .f32)) :
    View.canon ((chunks (F := Ideal) (N := 128) (e := .f32) fun b => lanes (F := Ideal) (zeroRows (rows b))) ++ L)
    = fun (y : S256x128.Idx) => rowZero (T (y 0)) := by
  funext y
  have hy0 : (y 0).val < 256 := (y 0).isLt
  have hy1 : (y 1).val < 128 := (y 1).isLt
  refine View.canon_append_of_pieces (fun (y : S256x128.Idx) => rowZero (T (y 0))) L _ ?_ y ?_
  · intro p hp x
    obtain ⟨n', rfl⟩ := List.mem_ofFn.mp hp
    exact zero_piece rows T h n'.rev x
  · refine ⟨_, List.mem_ofFn.mpr ⟨(⟨(y 0).val / 64, by omega⟩ : Fin 4).rev, rfl⟩, ?_⟩
    have hr : (⟨(y 0).val / 64, by omega⟩ : Fin 4).rev.rev.val = (y 0).val / 64 := congrArg Fin.val (Fin.rev_rev _)
    generalize (⟨(y 0).val / 64, by omega⟩ : Fin 4).rev = b at hr ⊢
    show y ∈ (Rect.unit (s := S256x128) ![64 * b.rev.val, 0] S64x128.size (inbRows b.rev)).set
    refine Rect.mem_set_unit.mpr ?_
    intro a
    match a with
    | ⟨0, _⟩ => show 64 * b.rev.val ≤ (y 0).val ∧ (y 0).val < 64 * b.rev.val + 64; omega
    | ⟨1, _⟩ => show 0 ≤ (y 1).val ∧ (y 1).val < 0 + 128; omega

theorem canon_zeros_cast (L : List (View.Piece (Elt Ideal) S256x128 .f32)) :
    View.canon ((chunks (F := Ideal) (N := 128) (e := .f32) fun b => castLanes (F := Ideal) (lanes (F := Ideal) (zeroRows (rows b)))) ++ L)
    = fun (y : S256x128.Idx) => rowZero (T (y 0)) := by
  rw [chunks_castLanes fun b => lanes (F := Ideal) (zeroRows (rows b))]
  exact canon_zeros_over rows T h L
end

/-! ## Lanes laid along a row -/

theorem pay505_at (x : Vec Ideal S256x128 .f32) (a : Fin 1) (r : Fin 256) : k0_pay505 (F := Ideal) x (ix2 a r) = x (ix2 r 0) := by
  pointwise [k0_pay505]
theorem pay555_at (x : Vec Ideal S256x128 .f32) (a : Fin 1) (r : Fin 256) : k0_pay555 (F := Ideal) x (ix2 a r) = x (ix2 r 0) := by
  pointwise [k0_pay555]
theorem pay506_at (x : Vec Ideal S256x128 .f32) (a : Fin 1) (r : Fin 256) : k0_pay506 (F := Ideal) x (ix2 a r) = Ideal.fptosi 32 (x (ix2 r 0)) := by
  pointwise [k0_pay506]
  rfl
theorem pay556_at (x : Vec Ideal S256x128 .f32) (a : Fin 1) (r : Fin 256) : k0_pay556 (F := Ideal) x (ix2 a r) = Ideal.fptosi 32 (x (ix2 r 0)) := by
  pointwise [k0_pay556]
  rfl

theorem lane_read (m : Memref sig .tc .vmem S256x128 .f32) (L : List (View.Piece (Elt Ideal) S256x128 .f32)) (g : Fin 256 → EReal)
    (h : View.canon L = fun y => g (y 0)) (r : Fin 256) (l : Fin 128) :
    (m.view.readCov L (Rect.unit (s := S256x128) ![0, 0] S256x128.size inb_S256x128_S256x128_0_0).toLoadRect : Vec Ideal S256x128 .f32) (ix2 r l) = g r := by
  rw [View.readCov_eq_canon', h]
  show g _ = g r
  congr 1
  exact Fin.ext (by show 0 + 1 * r.val = r.val; omega)

theorem whole_read (m : Memref sig .tc .vmem S256x3072 .bf16) (L : List (View.Piece (Elt Ideal) S256x3072 .bf16)) (g : Fin 256 → Fin 3072 → EReal)
    (h : View.canon L = fun y => g (y 0) (y 1)) (r : Fin 256) (l : Fin 3072) :
    (m.view.readCov L (Rect.unit (s := S256x3072) ![0, 0] S256x3072.size inb_S256x3072_S256x3072_0_0).toLoadRect : Vec Ideal S256x3072 .bf16) (ix2 r l) = g r l := by
  rw [View.readCov_eq_canon', h]
  show g _ _ = g r l
  congr 1
  · exact Fin.ext (by show 0 + 1 * r.val = r.val; omega)
  · exact Fin.ext (by show 0 + 1 * l.val = l.val; omega)

/-! ## The sums -/

/-- A row times the weights, scaled back, added to another row. -/
def addRow (t x : Fin 3072 → EReal) (w : Fin 3072 → Fin 3072 → EReal) (p : Fin 3072) : EReal :=
  x p + (∑ k : Fin 3072, (rowCode t k - rowZero t) * w k p) * rowScale t

theorem scales4_at (x : Vec Ideal S256x128 .f32) (r : Fin 256) (k : Fin 512) :
    concatenate S256x512 1 [⟨S256x128, x⟩, ⟨S256x128, x⟩, ⟨S256x128, x⟩, ⟨S256x128, x⟩]
      concatenates_S256x128_S256x128_S256x128_S256x128_S256x512_d1 (ix2 r k) = x (ix2 r ⟨k.val % 128, by omega⟩) :=
  concatenate_replicate_apply (t := S256x512) (s₁ := S256x128) 1 4 x
    concatenates_S256x128_S256x128_S256x128_S256x128_S256x512_d1 rfl (ix2 r k) (ix2 r ⟨k.val % 128, by omega⟩) rfl
    (fun d hd => by match d with | ⟨0, _⟩ => rfl | ⟨1, _⟩ => exact absurd rfl hd)

theorem dot_at (a : Vec Ideal S256x3072 .bf16) (w : Vec Ideal S3072x512 .bf16) (r : Fin 256) (l : Fin 512) :
    matmul (F := Ideal) (φ₁ := .bf16) (φ₂ := .bf16) dot_S256x3072_S3072x512_S256x512_1_0_0_1_n_n none a w (constant S256x512 .f32 0x00000000#32) (ix2 r l)
      = ∑ k : Fin 3072, a (ix2 r k) * w (ix2 k l) := by
  pointwise []

theorem pay512_at (a : Vec Ideal S256x3072 .bf16) (w : Vec Ideal S3072x512 .bf16) (s : Vec Ideal S256x128 .f32) (x : Vec Ideal S256x512 .bf16)
    (r : Fin 256) (l : Fin 512) : k0_pay512 (F := Ideal) a w s x (ix2 r l)
      = x (ix2 r l) + (∑ k : Fin 3072, a (ix2 r k) * w (ix2 k l)) * s (ix2 r ⟨l.val % 128, by omega⟩) := by
  rw [← dot_at, ← scales4_at s r l]
  rfl

section
variable (arg1 : Memref sig .tc .vmem S256x3072 .f32) (harg1 : arg1.IsWhole) (arg2 : Memref sig .tc .vmem S256x3072 .bf16) (harg2 : arg2.IsWhole)
  (arg3 : Memref sig .tc .vmem S1x3072 .f32) (harg3 : arg3.IsWhole) (arg7 : Memref sig .tc .vmem S256x3072 .f32)
  (arg17 : Memref sig .tc .vmem S256x3072 .bf16) (arg18 : Memref sig .tc .vmem S256x128 .f32)
  (x0 : Vec Ideal S256x3072 .f32) (x1 : Vec Ideal S256x3072 .bf16) (x2 : Vec Ideal S1x3072 .f32) (W : Fin 6 → Vec Ideal S3072x512 .bf16)

/-- Row `r` of the block that is multiplied. -/
def rowIn (r : Fin 256) (k : Fin 3072) : EReal := x0 (ix2 r k)

theorem oRows_at (b : Fin 4) (r : Fin 64) (j : Fin 3072) :
    oRows (F := Ideal) arg1 harg1 x0 b (ix2 r j) = rowIn x0 (rowAt b r) j := by
  unfold oRows rowIn
  rw [Memref.IsWhole.readAt_unread]
  congr 1
  funext a
  match a with
  | ⟨0, _⟩ => exact Fin.ext (by show 64 * b.val + 1 * r.val = _; rw [Nat.one_mul]; rfl)
  | ⟨1, _⟩ => exact Fin.ext (by show 0 + 1 * j.val = _; rw [Nat.one_mul, Nat.zero_add]; rfl)

theorem centredLoad_at (r : Fin 256) (k : Fin 3072) :
    centredLoad (F := Ideal) arg1 harg1 arg17 x0 (ix2 r k) = rowCode (rowIn x0 r) k - rowZero (rowIn x0 r) := by
  unfold centredLoad
  exact whole_read arg17 _ (fun r k => rowCode (rowIn x0 r) k - rowZero (rowIn x0 r)) ((congrArg View.canon (chunks_castRows _)).trans (canon_centred _ (rowIn x0) (oRows_at arg1 harg1 x0))) r k

theorem scaleLoad_at (r : Fin 256) (l : Fin 128) : scaleLoad (F := Ideal) arg1 harg1 arg18 x0 (ix2 r l) = rowScale (rowIn x0 r) := by
  unfold scaleLoad
  exact lane_read arg18 _ (fun r => rowScale (rowIn x0 r)) ((congrArg View.canon (chunks_castLanes _)).trans (canon_scales _ (rowIn x0) (oRows_at arg1 harg1 x0))) r l

variable (w : Fin 3072 → Fin 3072 → EReal) (hW : ∀ (j : Fin 6) (k : Fin 3072) (l : Fin 512), W j (ix2 k l) = w k (colAt j l))

/-- Row `r` of the sums. -/
def rowSum (r : Fin 256) (p : Fin 3072) : EReal := addRow (rowIn x0 r) (fun p => x1 (ix2 r p)) w p

include hW in
theorem sum_piece (j : Fin 6) (r : Fin 256) (l : Fin 512) : k0_pay512 (F := Ideal) (centredLoad arg1 harg1 arg17 x0) (W j) (scaleLoad arg1 harg1 arg18 x0)
      (View.readAt (Elt Ideal) arg2.view (Rect.unit (s := S256x3072) ![0, 512 * j.val] S256x512.size (inbH6 j)).toLoadRect (harg2.unread x1)) (ix2 r l)
    = rowSum x0 x1 w r (colAt j l) := by
  refine (pay512_at _ _ _ _ r l).trans ?_
  rw [scaleLoad_at, Memref.IsWhole.readAt_unread]
  have e1 : (∑ k : Fin 3072, centredLoad (F := Ideal) arg1 harg1 arg17 x0 (ix2 r k) * W j (ix2 k l))
      = ∑ k : Fin 3072, (rowCode (rowIn x0 r) k - rowZero (rowIn x0 r)) * w k (colAt j l) := by
    refine Finset.sum_congr rfl fun k _ => ?_
    rw [centredLoad_at, hW]
  rw [e1]
  unfold rowSum addRow
  refine congrArg (· + _) (congrArg x1 ?_)
  funext a
  match a with
  | ⟨0, _⟩ => exact Fin.ext (by show 0 + 1 * r.val = r.val; omega)
  | ⟨1, _⟩ => exact Fin.ext (by show 512 * j.val + 1 * l.val = 512 * j.val + l.val; omega)

include hW in
theorem canon_sum : View.canon (sumPieces (F := Ideal) arg1 harg1 arg2 harg2 arg17 arg18 x0 x1 W) = fun y => rowSum x0 x1 w (y 0) (y 1) := by
  funext y
  have hy0 : (y 0).val < 256 := (y 0).isLt
  have hy1 : (y 1).val < 3072 := (y 1).isLt
  refine View.canon_ofFn_unit_eq_of_forall (S := S256x3072) (Val := Elt Ideal) (e := .f32)
    (fun j : Fin 6 => ![0, 512 * j.rev.val]) S256x512.size (fun j => inbH6 j.rev) (fun j => k0_pay512 (centredLoad arg1 harg1 arg17 x0) (W j.rev) (scaleLoad arg1 harg1 arg18 x0)
      (View.readAt (Elt Ideal) arg2.view (Rect.unit (s := S256x3072) ![0, 512 * j.rev.val] S256x512.size (inbH6 j.rev)).toLoadRect (harg2.unread x1))) y _ ?_ ?_
  · refine ⟨(⟨(y 1).val / 512, by omega⟩ : Fin 6).rev, ?_⟩
    rw [Fin.rev_rev]
    intro a
    match a with
    | ⟨0, _⟩ => show 0 ≤ (y 0).val ∧ (y 0).val < 0 + 256; omega
    | ⟨1, _⟩ => show 512 * ((y 1).val / 512) ≤ (y 1).val ∧ (y 1).val < 512 * ((y 1).val / 512) + 512; omega
  · intro n' x hx
    generalize n'.rev = j at hx ⊢
    have h0 : (y 0).val = 0 + (x 0).val := hx 0
    have h1 : (y 1).val = 512 * j.val + (x 1).val := hx 1
    have ex : x = ix2 (n0 := 256) (n1 := 512) (x 0) (x 1) := (ix2_eta (n0 := 256) (n1 := 512) x).symm
    refine (congrArg _ ex).trans ((sum_piece arg1 harg1 arg2 harg2 arg17 arg18 x0 x1 W w hW j (x 0) (x 1)).trans ?_)
    congr 1
    · exact Fin.ext (by show (x 0).val = (y 0).val; omega)
    · exact Fin.ext (by show 512 * j.val + (x 1).val = (y 1).val; omega)

/-- Row `r` of the sums, normalised. -/
def rowNorm (r : Fin 256) : Fin 3072 → EReal := rmsOf (rowSum x0 x1 w r) fun j => x2 (ix2 0 j)

include hW in
theorem sumRows_at (b : Fin 4) (r : Fin 64) (k : Fin 3072) :
    sumRows (F := Ideal) arg1 harg1 arg2 harg2 arg3 harg3 arg7 arg17 arg18 x0 x1 x2 W b (ix2 r k) = rowNorm x0 x1 x2 w (rowAt b r) k := by
  unfold sumRows rowNorm
  rw [rmsRows_at]
  have ex : ∀ j : Fin 3072, (shapeCast S64x3072 (arg7.view.readCov (sumPieces (F := Ideal) arg1 harg1 arg2 harg2 arg17 arg18 x0 x1 W)
      (Rect.unit (s := S256x3072) ![64 * b.val, 0] S64x3072.size (inbRows b)).toLoadRect : Vec Ideal S64x3072 .f32) shapeCasts_S64x3072_S64x3072 : Vec Ideal S64x3072 .f32) (ix2 r j)
      = rowSum x0 x1 w (rowAt b r) j := by
    intro j
    refine (congrFun (castRows_eq (f := .f32) _) _).trans ?_
    rw [View.readCov_eq_canon', canon_sum arg1 harg1 arg2 harg2 arg17 arg18 x0 x1 W w hW]
    show rowSum x0 x1 w _ _ = _
    congr 1
    · exact Fin.ext (by show 64 * b.val + 1 * r.val = 64 * b.val + r.val; omega)
    · exact Fin.ext (by show 0 + 1 * j.val = j.val; omega)
  have eg : ∀ j : Fin 3072, (View.readAt (Elt Ideal) arg3.view (Rect.unit (s := S1x3072) ![0, 0] S1x3072.size inb_S1x3072_S1x3072_0_0).toLoadRect (harg3.unread x2) : Vec Ideal S1x3072 .f32) (ix2 0 j)
      = x2 (ix2 0 j) := by
    intro j
    rw [Memref.IsWhole.readAt_unread]
    congr 1
    funext a
    match a with
    | ⟨0, _⟩ => rfl
    | ⟨1, _⟩ => exact Fin.ext (by show 0 + 1 * j.val = _; rw [Nat.one_mul, Nat.zero_add]; rfl)
  exact congrArg₂ (fun t g => rmsOf t g k) (funext ex) (funext eg)
end
end Cert.OutProj
-- ==== Proof.OprojStep.lean ====
/- What one grid step of the output projection leaves in its output blocks, entry by entry, for the first step and for
   the later ones. -/
module
public import proofs.«01_k».proof.Proof.OprojRows
public import proofs.«01_k».proof.Proof.Gen.OprojIdeal.Value
public import Idealize.ShloMosaic.Lib.Pipeline.ReadBack
@[expose] public section
set_option maxRecDepth 65536
noncomputable section
namespace Cert.OutProj
open Idealize.ShloMosaic Idealize.ShloMosaic.TcCoe Cert.GateUp Cert.DownProj Cert.RowQuant Cert.OprojIdeal Cert.OprojIdeal.Gen Cert.OprojIdeal.Value

/-- An array of weights by row and column. -/
def entry (X : Vec Ideal S3072x3072 .bf16) (k p : Fin 3072) : EReal := X (ix2 k p)

variable (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S3072x1536 .i8) (harg4 : arg4.IsWhole) (arg5 : Memref sig .tc .vmem S96x1536 .f32) (harg5 : arg5.IsWhole) (arg6 : Memref sig .tc .vmem S96x1536 .f32) (harg6 : arg6.IsWhole) (arg7 : Memref sig .tc .vmem S256x3072 .f32) (harg7 : arg7.IsWhole) (arg8 : Memref sig .tc .vmem S256x3072 .bf16) (harg8 : arg8.IsWhole) (arg9 : Memref sig .tc .vmem S256x3072 .i8) (harg9 : arg9.IsWhole) (arg10 : Memref sig .tc .vmem S256x128 .f32) (harg10 : arg10.IsWhole) (arg11 : Memref sig .tc .vmem S1x256 .f32) (harg11 : arg11.IsWhole) (arg12 : Memref sig .tc .vmem S1x256 .i32) (harg12 : arg12.IsWhole) (arg13 : Memref sig .tc .vmem S256x3072 .i8) (harg13 : arg13.IsWhole) (arg14 : Memref sig .tc .vmem S1x256 .f32) (harg14 : arg14.IsWhole) (arg15 : Memref sig .tc .vmem S1x256 .i32) (harg15 : arg15.IsWhole) (arg16 : Memref sig .tc .vmem S3072x3072 .bf16) (harg16 : arg16.IsWhole) (arg17 : Memref sig .tc .vmem S256x3072 .bf16) (harg17 : arg17.IsWhole) (arg18 : Memref sig .tc .vmem S256x128 .f32) (harg18 : arg18.IsWhole) (arg19 : Memref sig .tc .vmem S256x128 .f32) (harg19 : arg19.IsWhole)
  (x0 : Vec Ideal S256x3072 .f32) (x1 : Vec Ideal S256x3072 .bf16) (x2 : Vec Ideal S1x3072 .f32) (x3 : Vec Ideal S3072x1536 .i8) (x4 : Vec Ideal S96x1536 .f32) (x5 : Vec Ideal S96x1536 .f32)

/-- Every piece the chunks before `k` write holds the unpacked weights. -/
theorem stripes_at (h1 : k0_cond1 i = 1#1) (k : Nat) (hk : k ≤ k0_t1_loop.trips) :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 (harg4.unread x3) (harg5.unread x4) (harg6.unread x5) k,
      ∀ x : p.1.shape.Idx, p.2 x = outBlock x3 x4 x5 (p.1.emb x) := by
  induction k with
  | zero => intro p hp; exact absurd hp List.not_mem_nil
  | succ k ih =>
    intro p hp
    rw [pb_k0_t1_succ (k := ⟨k, hk⟩)] at hp
    rcases List.mem_append.mp hp with hp | hp
    · rw [trip_eq] at hp
      obtain ⟨n', rfl⟩ := List.mem_ofFn.mp hp
      exact stripe_in_out i h1 arg4 harg4 arg5 harg5 arg6 harg6 x3 x4 x5 ⟨k, hk⟩ n'.rev
    · exact ih (Nat.le_of_succ_le hk) p hp

include x0 x1 x2 in
theorem canon_stripes (hc0 : cond0_0 i) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (harg4.unread x3) (harg5.unread x4) (harg6.unread x5) k0_t1_loop.trips) = outBlock x3 x4 x5 := by
  funext y
  have hcov := scover0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 y
  rw [weights_A] at hcov
  exact View.canon_apply_of_pieces (outBlock x3 x4 x5) _ (stripes_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0 _ (Nat.le_refl _)) y hcov

include x0 x1 x2 in
theorem colsFirst_at (hc0 : cond0_0 i) (j : Fin 6) (k : Fin 3072) (l : Fin 512) :
    colsFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0 j (ix2 k l) = entry (outBlock x3 x4 x5) k (colAt j l) := by
  unfold colsFirst
  rw [View.readCov_eq_canon', canon_stripes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 hc0]
  refine congrArg (outBlock x3 x4 x5) ?_
  funext a
  match a with
  | ⟨0, _⟩ => exact Fin.ext (by show 0 + 1 * k.val = k.val; omega)
  | ⟨1, _⟩ => exact Fin.ext (by show 512 * j.val + 1 * l.val = 512 * j.val + l.val; omega)

theorem colsLater_at (xs0 : Vec Ideal S3072x3072 .bf16) (j : Fin 6) (k : Fin 3072) (l : Fin 512) :
    colsLater (F := Ideal) arg16 harg16 xs0 j (ix2 k l) = entry xs0 k (colAt j l) := by
  unfold colsLater
  rw [Memref.IsWhole.readAt_unread]
  refine congrArg xs0 ?_
  funext a
  match a with
  | ⟨0, _⟩ => exact Fin.ext (by show 0 + 1 * k.val = k.val; omega)
  | ⟨1, _⟩ => exact Fin.ext (by show 512 * j.val + 1 * l.val = 512 * j.val + l.val; omega)

theorem keep_A (hc0 : cond0_0 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 = outBlock x3 x4 x5 := by
  unfold sout0_A_0
  rw [weights_A]
  funext y
  rw [View.read_writes_junk_apply_eq_canon, canon_stripes c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 hc0]

theorem sumBlock_A (hc0 : cond0_0 i) : (out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S256x3072 .f32) = fun y => rowSum x0 x1 (entry (outBlock x3 x4 x5)) (y 0) (y 1) := by
  unfold out0_A_6
  rw [sum_A]
  funext y
  rw [View.read_writes_junk_apply_eq_canon]
  rw [canon_sum arg1 harg1 arg2 harg2 arg17 arg18 x0 x1 (colsFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) (entry (outBlock x3 x4 x5)) (colsFirst_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 hc0)]
theorem centredBlock_A (hc0 : cond0_0 i) : (out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S256x3072 .bf16) = fun y => rowCode (rowNorm x0 x1 x2 (entry (outBlock x3 x4 x5)) (y 0)) (y 1) - rowZero (rowNorm x0 x1 x2 (entry (outBlock x3 x4 x5)) (y 0)) := by
  unfold out0_A_7
  rw [centred_A]
  funext y
  rw [View.read_writes_junk_apply_eq_canon]
  exact congrFun (canon_centred _ (rowNorm x0 x1 x2 (entry (outBlock x3 x4 x5))) (sumRows_at arg1 harg1 arg2 harg2 arg3 harg3 arg7 arg17 arg18 x0 x1 x2 (colsFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) (entry (outBlock x3 x4 x5)) (colsFirst_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 hc0))) y
theorem codesBlock_A (hc0 : cond0_0 i) : (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S256x3072 .i8) = fun y => asInt8 (rowCode (rowNorm x0 x1 x2 (entry (outBlock x3 x4 x5)) (y 0)) (y 1)) := by
  unfold out0_A_8
  rw [codes_A]
  funext y
  rw [View.read_writes_junk_apply_eq_canon]
  exact congrFun (canon_bytes _ (rowNorm x0 x1 x2 (entry (outBlock x3 x4 x5))) (sumRows_at arg1 harg1 arg2 harg2 arg3 harg3 arg7 arg17 arg18 x0 x1 x2 (colsFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) (entry (outBlock x3 x4 x5)) (colsFirst_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 hc0))) y
theorem lanesBlock_A (hc0 : cond0_0 i) : (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S256x128 .f32) = fun y => rowScale (rowNorm x0 x1 x2 (entry (outBlock x3 x4 x5)) (y 0)) := by
  unfold out0_A_9
  rw [lanes_A]
  funext y
  rw [View.read_writes_junk_apply_eq_canon]
  exact congrFun (canon_scales _ (rowNorm x0 x1 x2 (entry (outBlock x3 x4 x5))) (sumRows_at arg1 harg1 arg2 harg2 arg3 harg3 arg7 arg17 arg18 x0 x1 x2 (colsFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) (entry (outBlock x3 x4 x5)) (colsFirst_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 hc0))) y
theorem scaleBlock_A (hc0 : cond0_0 i) : (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S1x256 .f32) = fun y => rowScale (rowNorm x0 x1 x2 (entry (outBlock x3 x4 x5)) (y 1)) := by
  unfold out0_A_10
  rw [scale_A]
  funext y
  rw [View.read_writes_junk_apply_eq_canon]
  rw [canon_whole (fun a => Nat.le_of_eq (Nat.zero_add _)) _ (fun a => by match a with | ⟨0, _⟩ => rfl | ⟨1, _⟩ => rfl)]
  refine (congrArg _ (ix2_eta (n0 := 1) (n1 := 256) y).symm).trans ((pay555_at _ (y 0) (y 1)).trans ?_)
  exact (lane_read arg10 _ (fun r => rowScale ((rowNorm x0 x1 x2 (entry (outBlock x3 x4 x5))) r)) (canon_scales _ (rowNorm x0 x1 x2 (entry (outBlock x3 x4 x5))) (sumRows_at arg1 harg1 arg2 harg2 arg3 harg3 arg7 arg17 arg18 x0 x1 x2 (colsFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) (entry (outBlock x3 x4 x5)) (colsFirst_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 hc0))) (y 1) 0)
theorem zeroBlock_A (hc0 : cond0_0 i) : (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S1x256 .i32) = fun y => Ideal.fptosi 32 (rowZero (rowNorm x0 x1 x2 (entry (outBlock x3 x4 x5)) (y 1))) := by
  unfold out0_A_11
  rw [zero_A]
  funext y
  rw [View.read_writes_junk_apply_eq_canon]
  rw [canon_whole (fun a => Nat.le_of_eq (Nat.zero_add _)) _ (fun a => by match a with | ⟨0, _⟩ => rfl | ⟨1, _⟩ => rfl)]
  refine (congrArg _ (ix2_eta (n0 := 1) (n1 := 256) y).symm).trans ((pay556_at _ (y 0) (y 1)).trans ?_)
  exact congrArg (Ideal.fptosi 32) (lane_read arg19 _ (fun r => rowZero ((rowNorm x0 x1 x2 (entry (outBlock x3 x4 x5))) r)) ((canon_zeros_cast _ (rowNorm x0 x1 x2 (entry (outBlock x3 x4 x5))) (sumRows_at arg1 harg1 arg2 harg2 arg3 harg3 arg7 arg17 arg18 x0 x1 x2 (colsFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x3 x4 x5 hc0) (entry (outBlock x3 x4 x5)) (colsFirst_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 hc0)) _)) (y 1) 0)
theorem oCodesBlock_A (hc0 : cond0_0 i) : (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S256x3072 .i8) = fun y => asInt8 (rowCode (rowIn x0 (y 0)) (y 1)) := by
  unfold out0_A_12
  rw [oCodes_A]
  funext y
  rw [View.read_writes_junk_apply_eq_canon]
  exact congrFun (canon_bytes _ (rowIn x0) (oRows_at arg1 harg1 x0)) y
theorem oScaleBlock_A (hc0 : cond0_0 i) : (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S1x256 .f32) = fun y => rowScale (rowIn x0 (y 1)) := by
  unfold out0_A_13
  rw [oScale_A]
  funext y
  rw [View.read_writes_junk_apply_eq_canon]
  rw [canon_whole (fun a => Nat.le_of_eq (Nat.zero_add _)) _ (fun a => by match a with | ⟨0, _⟩ => rfl | ⟨1, _⟩ => rfl)]
  refine (congrArg _ (ix2_eta (n0 := 1) (n1 := 256) y).symm).trans ((pay505_at _ (y 0) (y 1)).trans ?_)
  exact (lane_read arg18 _ (fun r => rowScale (rowIn x0 r)) ((congrArg View.canon (chunks_castLanes _)).trans (canon_scales _ (rowIn x0) (oRows_at arg1 harg1 x0))) (y 1) 0)
theorem oZeroBlock_A (hc0 : cond0_0 i) : (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 : Vec Ideal S1x256 .i32) = fun y => Ideal.fptosi 32 (rowZero (rowIn x0 (y 1))) := by
  unfold out0_A_14
  rw [oZero_A]
  funext y
  rw [View.read_writes_junk_apply_eq_canon]
  rw [canon_whole (fun a => Nat.le_of_eq (Nat.zero_add _)) _ (fun a => by match a with | ⟨0, _⟩ => rfl | ⟨1, _⟩ => rfl)]
  refine (congrArg _ (ix2_eta (n0 := 1) (n1 := 256) y).symm).trans ((pay506_at _ (y 0) (y 1)).trans ?_)
  exact congrArg (Ideal.fptosi 32) (lane_read arg19 _ (fun r => rowZero (rowIn x0 r)) ((congrArg View.canon (chunks_castLanes _)).trans (canon_zeros _ (rowIn x0) (oRows_at arg1 harg1 x0))) (y 1) 0)
theorem sumBlock_B (hc0 : ¬cond0_0 i) (xs0 : Vec Ideal S3072x3072 .bf16) : (out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S256x3072 .f32) = fun y => rowSum x0 x1 (entry xs0) (y 0) (y 1) := by
  unfold out0_B_6
  rw [sum_B]
  funext y
  rw [View.read_writes_junk_apply_eq_canon]
  rw [canon_sum arg1 harg1 arg2 harg2 arg17 arg18 x0 x1 (colsLater (F := Ideal) arg16 harg16 xs0) (entry xs0) (colsLater_at arg16 harg16 xs0)]
theorem centredBlock_B (hc0 : ¬cond0_0 i) (xs0 : Vec Ideal S3072x3072 .bf16) : (out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S256x3072 .bf16) = fun y => rowCode (rowNorm x0 x1 x2 (entry xs0) (y 0)) (y 1) - rowZero (rowNorm x0 x1 x2 (entry xs0) (y 0)) := by
  unfold out0_B_7
  rw [centred_B]
  funext y
  rw [View.read_writes_junk_apply_eq_canon]
  exact congrFun (canon_centred _ (rowNorm x0 x1 x2 (entry xs0)) (sumRows_at arg1 harg1 arg2 harg2 arg3 harg3 arg7 arg17 arg18 x0 x1 x2 (colsLater (F := Ideal) arg16 harg16 xs0) (entry xs0) (colsLater_at arg16 harg16 xs0))) y
theorem codesBlock_B (hc0 : ¬cond0_0 i) (xs0 : Vec Ideal S3072x3072 .bf16) : (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S256x3072 .i8) = fun y => asInt8 (rowCode (rowNorm x0 x1 x2 (entry xs0) (y 0)) (y 1)) := by
  unfold out0_B_8
  rw [codes_B]
  funext y
  rw [View.read_writes_junk_apply_eq_canon]
  exact congrFun (canon_bytes _ (rowNorm x0 x1 x2 (entry xs0)) (sumRows_at arg1 harg1 arg2 harg2 arg3 harg3 arg7 arg17 arg18 x0 x1 x2 (colsLater (F := Ideal) arg16 harg16 xs0) (entry xs0) (colsLater_at arg16 harg16 xs0))) y
theorem lanesBlock_B (hc0 : ¬cond0_0 i) (xs0 : Vec Ideal S3072x3072 .bf16) : (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S256x128 .f32) = fun y => rowScale (rowNorm x0 x1 x2 (entry xs0) (y 0)) := by
  unfold out0_B_9
  rw [lanes_B]
  funext y
  rw [View.read_writes_junk_apply_eq_canon]
  exact congrFun (canon_scales _ (rowNorm x0 x1 x2 (entry xs0)) (sumRows_at arg1 harg1 arg2 harg2 arg3 harg3 arg7 arg17 arg18 x0 x1 x2 (colsLater (F := Ideal) arg16 harg16 xs0) (entry xs0) (colsLater_at arg16 harg16 xs0))) y
theorem scaleBlock_B (hc0 : ¬cond0_0 i) (xs0 : Vec Ideal S3072x3072 .bf16) : (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S1x256 .f32) = fun y => rowScale (rowNorm x0 x1 x2 (entry xs0) (y 1)) := by
  unfold out0_B_10
  rw [scale_B]
  funext y
  rw [View.read_writes_junk_apply_eq_canon]
  rw [canon_whole (fun a => Nat.le_of_eq (Nat.zero_add _)) _ (fun a => by match a with | ⟨0, _⟩ => rfl | ⟨1, _⟩ => rfl)]
  refine (congrArg _ (ix2_eta (n0 := 1) (n1 := 256) y).symm).trans ((pay555_at _ (y 0) (y 1)).trans ?_)
  exact (lane_read arg10 _ (fun r => rowScale ((rowNorm x0 x1 x2 (entry xs0)) r)) (canon_scales _ (rowNorm x0 x1 x2 (entry xs0)) (sumRows_at arg1 harg1 arg2 harg2 arg3 harg3 arg7 arg17 arg18 x0 x1 x2 (colsLater (F := Ideal) arg16 harg16 xs0) (entry xs0) (colsLater_at arg16 harg16 xs0))) (y 1) 0)
theorem zeroBlock_B (hc0 : ¬cond0_0 i) (xs0 : Vec Ideal S3072x3072 .bf16) : (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S1x256 .i32) = fun y => Ideal.fptosi 32 (rowZero (rowNorm x0 x1 x2 (entry xs0) (y 1))) := by
  unfold out0_B_11
  rw [zero_B]
  funext y
  rw [View.read_writes_junk_apply_eq_canon]
  rw [canon_whole (fun a => Nat.le_of_eq (Nat.zero_add _)) _ (fun a => by match a with | ⟨0, _⟩ => rfl | ⟨1, _⟩ => rfl)]
  refine (congrArg _ (ix2_eta (n0 := 1) (n1 := 256) y).symm).trans ((pay556_at _ (y 0) (y 1)).trans ?_)
  exact congrArg (Ideal.fptosi 32) (lane_read arg19 _ (fun r => rowZero ((rowNorm x0 x1 x2 (entry xs0)) r)) ((canon_zeros_cast _ (rowNorm x0 x1 x2 (entry xs0)) (sumRows_at arg1 harg1 arg2 harg2 arg3 harg3 arg7 arg17 arg18 x0 x1 x2 (colsLater (F := Ideal) arg16 harg16 xs0) (entry xs0) (colsLater_at arg16 harg16 xs0)) _)) (y 1) 0)
theorem oCodesBlock_B (hc0 : ¬cond0_0 i) (xs0 : Vec Ideal S3072x3072 .bf16) : (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S256x3072 .i8) = fun y => asInt8 (rowCode (rowIn x0 (y 0)) (y 1)) := by
  unfold out0_B_12
  rw [oCodes_B]
  funext y
  rw [View.read_writes_junk_apply_eq_canon]
  exact congrFun (canon_bytes _ (rowIn x0) (oRows_at arg1 harg1 x0)) y
theorem oScaleBlock_B (hc0 : ¬cond0_0 i) (xs0 : Vec Ideal S3072x3072 .bf16) : (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S1x256 .f32) = fun y => rowScale (rowIn x0 (y 1)) := by
  unfold out0_B_13
  rw [oScale_B]
  funext y
  rw [View.read_writes_junk_apply_eq_canon]
  rw [canon_whole (fun a => Nat.le_of_eq (Nat.zero_add _)) _ (fun a => by match a with | ⟨0, _⟩ => rfl | ⟨1, _⟩ => rfl)]
  refine (congrArg _ (ix2_eta (n0 := 1) (n1 := 256) y).symm).trans ((pay505_at _ (y 0) (y 1)).trans ?_)
  exact (lane_read arg18 _ (fun r => rowScale (rowIn x0 r)) ((congrArg View.canon (chunks_castLanes _)).trans (canon_scales _ (rowIn x0) (oRows_at arg1 harg1 x0))) (y 1) 0)
theorem oZeroBlock_B (hc0 : ¬cond0_0 i) (xs0 : Vec Ideal S3072x3072 .bf16) : (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs0 : Vec Ideal S1x256 .i32) = fun y => Ideal.fptosi 32 (rowZero (rowIn x0 (y 1))) := by
  unfold out0_B_14
  rw [oZero_B]
  funext y
  rw [View.read_writes_junk_apply_eq_canon]
  rw [canon_whole (fun a => Nat.le_of_eq (Nat.zero_add _)) _ (fun a => by match a with | ⟨0, _⟩ => rfl | ⟨1, _⟩ => rfl)]
  refine (congrArg _ (ix2_eta (n0 := 1) (n1 := 256) y).symm).trans ((pay506_at _ (y 0) (y 1)).trans ?_)
  exact congrArg (Ideal.fptosi 32) (lane_read arg19 _ (fun r => rowZero (rowIn x0 r)) ((congrArg View.canon (chunks_castLanes _)).trans (canon_zeros _ (rowIn x0) (oRows_at arg1 harg1 x0))) (y 1) 0)
end Cert.OutProj
-- ==== Proof.OprojFold.lean ====
/- What the output projection's arrays hold after the run. -/
module
public import proofs.«01_k».proof.Proof.OprojStep
@[expose] public section
set_option maxRecDepth 65536
noncomputable section
namespace Cert.OutProj
open Idealize.ShloMosaic Idealize.ShloMosaic.TcCoe Cert.GateUp Cert.DownProj Cert.RowQuant Cert.OprojIdeal Cert.OprojIdeal.Gen Cert.OprojIdeal.Value

/-- The windows' block numbers at a point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 1]
    ∧ win0_6.index t = ![t.val, 0] ∧ win0_7.index t = ![t.val, 0] ∧ win0_8.index t = ![t.val, 0] ∧ win0_9.index t = ![t.val, 0]
    ∧ win0_10.index t = ![0, t.val] ∧ win0_11.index t = ![0, t.val] ∧ win0_12.index t = ![t.val, 0]
    ∧ win0_13.index t = ![0, t.val] ∧ win0_14.index t = ![0, t.val] :=
  (by decide +kernel : ∀ t : Fin grid0.N, _)

theorem pt_lt (t : Fin cfg0.N) : t.val < 8 := lt_of_lt_of_eq t.isLt (show cfg0.N = 8 from N_0)

/-- Row `r` of the block at point `t`. -/
def rowOf (t : Fin cfg0.N) (r : Fin 256) : Fin 2048 := ⟨256 * t.val + r.val, by have := pt_lt t; omega⟩

/-- The scale group of a weight row. -/
def grp (k : Fin 3072) : Fin 96 := ⟨k.val / 32, by omega⟩

/-- The dequantised weight at row `k`, column `p`: the low nibbles make the first half of the columns. -/
def weightOut (w : Vec Ideal S3072x1536 .i8) (s : Vec Ideal S96x3072 .f32) (k p : Fin 3072) : EReal :=
  ((nib (pNib p) (w (ix2 k (pCol p))) : ℝ) : EReal) * s (ix2 (grp k) p)

/-- Row `R` of the projection's sum: what is added, plus the row's products times its scale. -/
def sumOf (o : Vec Ideal S2048x3072 .f32) (x : Vec Ideal S2048x3072 .bf16) (w : Vec Ideal S3072x1536 .i8) (s : Vec Ideal S96x3072 .f32)
    (R : Fin 2048) : Fin 3072 → EReal :=
  addRow (fun k => o (ix2 R k)) (fun p => x (ix2 R p)) (weightOut w s)

/-- That row, normalised. -/
def normSum (o : Vec Ideal S2048x3072 .f32) (x : Vec Ideal S2048x3072 .bf16) (g : Vec Ideal S1x3072 .f32) (w : Vec Ideal S3072x1536 .i8)
    (s : Vec Ideal S96x3072 .f32) (R : Fin 2048) : Fin 3072 → EReal :=
  rmsOf (sumOf o x w s R) fun j => g (ix2 0 j)

variable (m : (ℓ : Loc nD τ sig) → Buf (Elt Ideal) ℓ)

/-- The five arguments: the rows to project, what is added, the norm's weights, packed codes and group scales. -/
abbrev oM (c : Dev nD) : Vec Ideal S2048x3072 .f32 := m ((c : Thread nD τ).loc main_arg0)
abbrev xM (c : Dev nD) : Vec Ideal S2048x3072 .bf16 := m ((c : Thread nD τ).loc main_arg1)
abbrev gM (c : Dev nD) : Vec Ideal S1x3072 .f32 := m ((c : Thread nD τ).loc main_arg2)
abbrev packM (c : Dev nD) : Vec Ideal S3072x1536 .i8 := m ((c : Thread nD τ).loc main_arg3)
abbrev groupM (c : Dev nD) : Vec Ideal S96x3072 .f32 := m ((c : Thread nD τ).loc main_arg4)

theorem o_at (c : Dev nD) (t : Fin cfg0.N) (r : Fin 256) (k : Fin 3072) :
    (iblk m c 0 t : Vec Ideal S256x3072 .f32) (ix2 r k) = oM m c (ix2 (rowOf t r) k) := by
  unfold rowOf
  blk_ext [iblk, V, idx t]
theorem x_at (c : Dev nD) (t : Fin cfg0.N) (r : Fin 256) (k : Fin 3072) :
    (iblk m c 1 t : Vec Ideal S256x3072 .bf16) (ix2 r k) = xM m c (ix2 (rowOf t r) k) := by
  unfold rowOf
  blk_ext [iblk, V, idx t]
theorem g_at (c : Dev nD) (t : Fin cfg0.N) (k : Fin 3072) :
    (iblk m c 2 t : Vec Ideal S1x3072 .f32) (ix2 0 k) = gM m c (ix2 0 k) := by
  blk_ext [iblk, V, idx t]
theorem pack_at (c : Dev nD) (t : Fin cfg0.N) (k : Fin 3072) (p : Fin 1536) :
    (iblk m c 3 t : Vec Ideal S3072x1536 .i8) (ix2 k p) = packM m c (ix2 k p) := by
  blk_ext [iblk, V, idx t]
theorem groupLo_at (c : Dev nD) (t : Fin cfg0.N) (g : Fin 96) (p : Fin 1536) :
    (iblk m c 4 t : Vec Ideal S96x1536 .f32) (ix2 g p) = groupM m c (ix2 g ⟨p.val, by omega⟩) := by
  blk_ext [iblk, V, idx t]
theorem groupHi_at (c : Dev nD) (t : Fin cfg0.N) (g : Fin 96) (p : Fin 1536) :
    (iblk m c 5 t : Vec Ideal S96x1536 .f32) (ix2 g p) = groupM m c (ix2 g ⟨1536 + p.val, by omega⟩) := by
  blk_ext [iblk, V, idx t]

/-- The scales of the low nibbles are followed by those of the high nibbles. -/
theorem choose_at (g : Vec Ideal S96x3072 .f32) (r : Fin 96) (p : Fin 3072) :
    choose (pNib p) (g (ix2 r ⟨(pCol p).val, by omega⟩)) (g (ix2 r ⟨1536 + (pCol p).val, by omega⟩)) = g (ix2 r p) := by
  have hw : (pCol p).val = p.val % 1536 := rfl
  by_cases h : p.val < 1536
  · have hn : pNib p = 0 := Fin.ext (by show p.val / 1536 = 0; omega)
    rw [hn]
    exact congrArg (fun x => g (ix2 r x)) (Fin.ext (by dsimp only; omega))
  · have hn : pNib p = 1 := Fin.ext (by show p.val / 1536 = 1; omega)
    rw [hn]
    exact congrArg (fun x => g (ix2 r x)) (Fin.ext (by dsimp only; omega))

theorem outBlock_at (x3 : Vec Ideal S3072x1536 .i8) (x4 x5 : Vec Ideal S96x1536 .f32) (k p : Fin 3072) :
    outBlock x3 x4 x5 (ix2 k p) = ((nib (pNib p) (x3 (ix2 k (pCol p))) : ℝ) : EReal)
      * choose (pNib p) (x4 (ix2 (grp k) (pCol p))) (x5 (ix2 (grp k) (pCol p))) := rfl

/-- Every point's packed codes and scales unpack to the same weights. -/
theorem weight_at (c : Dev nD) (t : Fin cfg0.N) :
    entry (outBlock (iblk m c 3 t) (iblk m c 4 t) (iblk m c 5 t)) = weightOut (packM m c) (groupM m c) := by
  funext k p
  refine (outBlock_at (iblk m c 3 t) (iblk m c 4 t) (iblk m c 5 t) k p).trans ?_
  rw [pack_at, groupLo_at, groupHi_at, choose_at]
  rfl

/-- A point's rows. -/
theorem rowIn_at (c : Dev nD) (t : Fin cfg0.N) (r : Fin 256) :
    rowIn (iblk m c 0 t) r = fun k => oM m c (ix2 (rowOf t r) k) := funext fun k => o_at m c t r k

theorem rowSum_at (c : Dev nD) (t : Fin cfg0.N) (r : Fin 256) :
    rowSum (iblk m c 0 t) (iblk m c 1 t) (weightOut (packM m c) (groupM m c)) r
      = sumOf (oM m c) (xM m c) (packM m c) (groupM m c) (rowOf t r) := by
  have ex : (fun p => (iblk m c 1 t : Vec Ideal S256x3072 .bf16) (ix2 r p)) = fun p => xM m c (ix2 (rowOf t r) p) :=
    funext fun p => x_at m c t r p
  funext p
  exact congrArg₂ (fun t x => addRow t x (weightOut (packM m c) (groupM m c)) p) (rowIn_at m c t r) ex

theorem rowNorm_at (c : Dev nD) (t : Fin cfg0.N) (r : Fin 256) :
    rowNorm (iblk m c 0 t) (iblk m c 1 t) (iblk m c 2 t) (weightOut (packM m c) (groupM m c)) r
      = normSum (oM m c) (xM m c) (gM m c) (packM m c) (groupM m c) (rowOf t r) := by
  have eg : (fun j => (iblk m c 2 t : Vec Ideal S1x3072 .f32) (ix2 0 j)) = fun j => gM m c (ix2 0 j) :=
    funext fun j => g_at m c t j
  exact congrArg₂ (fun s g => rmsOf s g) (rowSum_at m c t r) eg

/-- The weights kept after a point are the arguments'. -/
theorem keep_after (c : Dev nD) : ∀ (n : ℕ) (hn : n < cfg0.N),
    entry (outsAt0 m c n hn).2.2.2.2.2.2.2.2.2 = weightOut (packM m c) (groupM m c)
  | 0, hn => by
    have e := congrArg (fun o => entry o.2.2.2.2.2.2.2.2.2) (outsAt0_A m c ⟨0, hn⟩ (Nat.zero_mod 8))
    dsimp only at e
    rw [e, keep_A, weight_at]
  | n + 1, hn => by
    have hN := pt_lt ⟨n + 1, hn⟩
    dsimp only at hN
    have e := congrArg (fun o => entry o.2.2.2.2.2.2.2.2.2) (outsAt0_B m c ⟨n + 1, hn⟩ (by dsimp only; omega))
    dsimp only at e
    exact e.trans (keep_after c n _)

/-! ## What each point leaves -/

theorem sum_out (c : Dev nD) (t : Fin cfg0.N) (r : Fin 256) (l : Fin 3072) :
    (outsAt0 m c t.val t.isLt).1 (ix2 r l)
      = sumOf (oM m c) (xM m c) (packM m c) (groupM m c) (rowOf t r) l := by
  by_cases h0 : t.val % 8 = 0
  · have e := congrArg (fun o => o.1 (ix2 r l)) (outsAt0_A m c t h0)
    dsimp only at e
    rw [e, sumBlock_A, weight_at, ← rowSum_at]
    rfl
  · have e := congrArg (fun o => o.1 (ix2 r l)) (outsAt0_B m c t h0)
    dsimp only at e
    rw [e, sumBlock_B, keep_after, ← rowSum_at]
    rfl

theorem centred_out (c : Dev nD) (t : Fin cfg0.N) (r : Fin 256) (l : Fin 3072) :
    (outsAt0 m c t.val t.isLt).2.1 (ix2 r l)
      = rowCode (normSum (oM m c) (xM m c) (gM m c) (packM m c) (groupM m c) (rowOf t r)) l - rowZero (normSum (oM m c) (xM m c) (gM m c) (packM m c) (groupM m c) (rowOf t r)) := by
  by_cases h0 : t.val % 8 = 0
  · have e := congrArg (fun o => o.2.1 (ix2 r l)) (outsAt0_A m c t h0)
    dsimp only at e
    rw [e, centredBlock_A, weight_at, ← rowNorm_at]
    rfl
  · have e := congrArg (fun o => o.2.1 (ix2 r l)) (outsAt0_B m c t h0)
    dsimp only at e
    rw [e, centredBlock_B, keep_after, ← rowNorm_at]
    rfl

theorem codes_out (c : Dev nD) (t : Fin cfg0.N) (r : Fin 256) (l : Fin 3072) :
    (outsAt0 m c t.val t.isLt).2.2.1 (ix2 r l)
      = asInt8 (rowCode (normSum (oM m c) (xM m c) (gM m c) (packM m c) (groupM m c) (rowOf t r)) l) := by
  by_cases h0 : t.val % 8 = 0
  · have e := congrArg (fun o => o.2.2.1 (ix2 r l)) (outsAt0_A m c t h0)
    dsimp only at e
    rw [e, codesBlock_A, weight_at, ← rowNorm_at]
    rfl
  · have e := congrArg (fun o => o.2.2.1 (ix2 r l)) (outsAt0_B m c t h0)
    dsimp only at e
    rw [e, codesBlock_B, keep_after, ← rowNorm_at]
    rfl

theorem lanes_out (c : Dev nD) (t : Fin cfg0.N) (r : Fin 256) (l : Fin 128) :
    (outsAt0 m c t.val t.isLt).2.2.2.1 (ix2 r l)
      = rowScale (normSum (oM m c) (xM m c) (gM m c) (packM m c) (groupM m c) (rowOf t r)) := by
  by_cases h0 : t.val % 8 = 0
  · have e := congrArg (fun o => o.2.2.2.1 (ix2 r l)) (outsAt0_A m c t h0)
    dsimp only at e
    rw [e, lanesBlock_A, weight_at, ← rowNorm_at]
    rfl
  · have e := congrArg (fun o => o.2.2.2.1 (ix2 r l)) (outsAt0_B m c t h0)
    dsimp only at e
    rw [e, lanesBlock_B, keep_after, ← rowNorm_at]
    rfl

theorem scale_out (c : Dev nD) (t : Fin cfg0.N) (a : Fin 1) (r : Fin 256) :
    (outsAt0 m c t.val t.isLt).2.2.2.2.1 (ix2 a r)
      = rowScale (normSum (oM m c) (xM m c) (gM m c) (packM m c) (groupM m c) (rowOf t r)) := by
  by_cases h0 : t.val % 8 = 0
  · have e := congrArg (fun o => o.2.2.2.2.1 (ix2 a r)) (outsAt0_A m c t h0)
    dsimp only at e
    rw [e, scaleBlock_A, weight_at, ← rowNorm_at]
    rfl
  · have e := congrArg (fun o => o.2.2.2.2.1 (ix2 a r)) (outsAt0_B m c t h0)
    dsimp only at e
    rw [e, scaleBlock_B, keep_after, ← rowNorm_at]
    rfl

theorem zero_out (c : Dev nD) (t : Fin cfg0.N) (a : Fin 1) (r : Fin 256) :
    (outsAt0 m c t.val t.isLt).2.2.2.2.2.1 (ix2 a r)
      = Ideal.fptosi 32 (rowZero (normSum (oM m c) (xM m c) (gM m c) (packM m c) (groupM m c) (rowOf t r))) := by
  by_cases h0 : t.val % 8 = 0
  · have e := congrArg (fun o => o.2.2.2.2.2.1 (ix2 a r)) (outsAt0_A m c t h0)
    dsimp only at e
    rw [e, zeroBlock_A, weight_at, ← rowNorm_at]
    rfl
  · have e := congrArg (fun o => o.2.2.2.2.2.1 (ix2 a r)) (outsAt0_B m c t h0)
    dsimp only at e
    rw [e, zeroBlock_B, keep_after, ← rowNorm_at]
    rfl

theorem oCodes_out (c : Dev nD) (t : Fin cfg0.N) (r : Fin 256) (l : Fin 3072) :
    (outsAt0 m c t.val t.isLt).2.2.2.2.2.2.1 (ix2 r l)
      = asInt8 (rowCode (fun k => oM m c (ix2 (rowOf t r) k)) l) := by
  by_cases h0 : t.val % 8 = 0
  · have e := congrArg (fun o => o.2.2.2.2.2.2.1 (ix2 r l)) (outsAt0_A m c t h0)
    dsimp only at e
    rw [e, oCodesBlock_A, ← rowIn_at]
    rfl
  · have e := congrArg (fun o => o.2.2.2.2.2.2.1 (ix2 r l)) (outsAt0_B m c t h0)
    dsimp only at e
    rw [e, oCodesBlock_B, ← rowIn_at]
    rfl

theorem oScale_out (c : Dev nD) (t : Fin cfg0.N) (a : Fin 1) (r : Fin 256) :
    (outsAt0 m c t.val t.isLt).2.2.2.2.2.2.2.1 (ix2 a r)
      = rowScale (fun k => oM m c (ix2 (rowOf t r) k)) := by
  by_cases h0 : t.val % 8 = 0
  · have e := congrArg (fun o => o.2.2.2.2.2.2.2.1 (ix2 a r)) (outsAt0_A m c t h0)
    dsimp only at e
    rw [e, oScaleBlock_A, ← rowIn_at]
    rfl
  · have e := congrArg (fun o => o.2.2.2.2.2.2.2.1 (ix2 a r)) (outsAt0_B m c t h0)
    dsimp only at e
    rw [e, oScaleBlock_B, ← rowIn_at]
    rfl

theorem oZero_out (c : Dev nD) (t : Fin cfg0.N) (a : Fin 1) (r : Fin 256) :
    (outsAt0 m c t.val t.isLt).2.2.2.2.2.2.2.2.1 (ix2 a r)
      = Ideal.fptosi 32 (rowZero (fun k => oM m c (ix2 (rowOf t r) k))) := by
  by_cases h0 : t.val % 8 = 0
  · have e := congrArg (fun o => o.2.2.2.2.2.2.2.2.1 (ix2 a r)) (outsAt0_A m c t h0)
    dsimp only at e
    rw [e, oZeroBlock_A, ← rowIn_at]
    rfl
  · have e := congrArg (fun o => o.2.2.2.2.2.2.2.2.1 (ix2 a r)) (outsAt0_B m c t h0)
    dsimp only at e
    rw [e, oZeroBlock_B, ← rowIn_at]
    rfl

/-! ## The arrays after the run -/

theorem sum_array (c : Dev nD) :
    ((dats m 0 c).arrAt 6 cfg0.N : Vec Ideal S2048x3072 .f32) = fun i => sumOf (oM m c) (xM m c) (packM m c) (groupM m c) (i 0) (i 1) := by
  funext i
  have key : ∀ (R : Fin 2048) (l : Fin 3072), ((dats m 0 c).arrAt 6 cfg0.N : Vec Ideal S2048x3072 .f32) (ix2 R l) = sumOf (oM m c) (xM m c) (packM m c) (groupM m c) R l := by
    intro R l
    have hd : R.val / 256 < cfg0.N := lt_of_lt_of_eq (by omega : R.val / 256 < 8) N_0.symm
    have b := blocks6 m c ⟨R.val / 256, hd⟩ (flush0_6 _)
    rw [flushed6] at b
    generalize (dats m 0 c).arrAt 6 cfg0.N = A at b ⊢
    have e := sum_out m c ⟨R.val / 256, hd⟩ ⟨R.val % 256, by omega⟩ l
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).1 = X at b e
    have b' := congrFun b (ix2 ⟨R.val % 256, by omega⟩ l)
    have e1 : View.read (Elt Ideal) ((cfg0.win 6).blk ⟨R.val / 256, hd⟩).view A (ix2 ⟨R.val % 256, by omega⟩ l) = A (ix2 R l) := by
      have e2 : View.read (Elt Ideal) ((cfg0.win 6).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem centred_array (c : Dev nD) :
    ((dats m 0 c).arrAt 7 cfg0.N : Vec Ideal S2048x3072 .bf16) = fun i => rowCode (normSum (oM m c) (xM m c) (gM m c) (packM m c) (groupM m c) (i 0)) (i 1) - rowZero (normSum (oM m c) (xM m c) (gM m c) (packM m c) (groupM m c) (i 0)) := by
  funext i
  have key : ∀ (R : Fin 2048) (l : Fin 3072), ((dats m 0 c).arrAt 7 cfg0.N : Vec Ideal S2048x3072 .bf16) (ix2 R l) = rowCode (normSum (oM m c) (xM m c) (gM m c) (packM m c) (groupM m c) R) l - rowZero (normSum (oM m c) (xM m c) (gM m c) (packM m c) (groupM m c) R) := by
    intro R l
    have hd : R.val / 256 < cfg0.N := lt_of_lt_of_eq (by omega : R.val / 256 < 8) N_0.symm
    have b := blocks7 m c ⟨R.val / 256, hd⟩ (flush0_7 _)
    rw [flushed7] at b
    generalize (dats m 0 c).arrAt 7 cfg0.N = A at b ⊢
    have e := centred_out m c ⟨R.val / 256, hd⟩ ⟨R.val % 256, by omega⟩ l
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).2.1 = X at b e
    have b' := congrFun b (ix2 ⟨R.val % 256, by omega⟩ l)
    have e1 : View.read (Elt Ideal) ((cfg0.win 7).blk ⟨R.val / 256, hd⟩).view A (ix2 ⟨R.val % 256, by omega⟩ l) = A (ix2 R l) := by
      have e2 : View.read (Elt Ideal) ((cfg0.win 7).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem codes_array (c : Dev nD) :
    ((dats m 0 c).arrAt 8 cfg0.N : Vec Ideal S2048x3072 .i8) = fun i => asInt8 (rowCode (normSum (oM m c) (xM m c) (gM m c) (packM m c) (groupM m c) (i 0)) (i 1)) := by
  funext i
  have key : ∀ (R : Fin 2048) (l : Fin 3072), ((dats m 0 c).arrAt 8 cfg0.N : Vec Ideal S2048x3072 .i8) (ix2 R l) = asInt8 (rowCode (normSum (oM m c) (xM m c) (gM m c) (packM m c) (groupM m c) R) l) := by
    intro R l
    have hd : R.val / 256 < cfg0.N := lt_of_lt_of_eq (by omega : R.val / 256 < 8) N_0.symm
    have b := blocks8 m c ⟨R.val / 256, hd⟩ (flush0_8 _)
    rw [flushed8] at b
    generalize (dats m 0 c).arrAt 8 cfg0.N = A at b ⊢
    have e := codes_out m c ⟨R.val / 256, hd⟩ ⟨R.val % 256, by omega⟩ l
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).2.2.1 = X at b e
    have b' := congrFun b (ix2 ⟨R.val % 256, by omega⟩ l)
    have e1 : View.read (Elt Ideal) ((cfg0.win 8).blk ⟨R.val / 256, hd⟩).view A (ix2 ⟨R.val % 256, by omega⟩ l) = A (ix2 R l) := by
      have e2 : View.read (Elt Ideal) ((cfg0.win 8).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem lanes_array (c : Dev nD) :
    ((dats m 0 c).arrAt 9 cfg0.N : Vec Ideal S2048x128 .f32) = fun i => rowScale (normSum (oM m c) (xM m c) (gM m c) (packM m c) (groupM m c) (i 0)) := by
  funext i
  have key : ∀ (R : Fin 2048) (l : Fin 128), ((dats m 0 c).arrAt 9 cfg0.N : Vec Ideal S2048x128 .f32) (ix2 R l) = rowScale (normSum (oM m c) (xM m c) (gM m c) (packM m c) (groupM m c) R) := by
    intro R l
    have hd : R.val / 256 < cfg0.N := lt_of_lt_of_eq (by omega : R.val / 256 < 8) N_0.symm
    have b := blocks9 m c ⟨R.val / 256, hd⟩ (flush0_9 _)
    rw [flushed9] at b
    generalize (dats m 0 c).arrAt 9 cfg0.N = A at b ⊢
    have e := lanes_out m c ⟨R.val / 256, hd⟩ ⟨R.val % 256, by omega⟩ l
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).2.2.2.1 = X at b e
    have b' := congrFun b (ix2 ⟨R.val % 256, by omega⟩ l)
    have e1 : View.read (Elt Ideal) ((cfg0.win 9).blk ⟨R.val / 256, hd⟩).view A (ix2 ⟨R.val % 256, by omega⟩ l) = A (ix2 R l) := by
      have e2 : View.read (Elt Ideal) ((cfg0.win 9).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem scale_array (c : Dev nD) :
    ((dats m 0 c).arrAt 10 cfg0.N : Vec Ideal S1x2048 .f32) = fun i => rowScale (normSum (oM m c) (xM m c) (gM m c) (packM m c) (groupM m c) (i 1)) := by
  funext i
  have key : ∀ (a : Fin 1) (R : Fin 2048), ((dats m 0 c).arrAt 10 cfg0.N : Vec Ideal S1x2048 .f32) (ix2 a R) = rowScale (normSum (oM m c) (xM m c) (gM m c) (packM m c) (groupM m c) R) := by
    intro a R
    have hd : R.val / 256 < cfg0.N := lt_of_lt_of_eq (by omega : R.val / 256 < 8) N_0.symm
    have b := blocks10 m c ⟨R.val / 256, hd⟩ (flush0_10 _)
    rw [flushed10] at b
    generalize (dats m 0 c).arrAt 10 cfg0.N = A at b ⊢
    have e := scale_out m c ⟨R.val / 256, hd⟩ a ⟨R.val % 256, by omega⟩
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).2.2.2.2.1 = X at b e
    have b' := congrFun b (ix2 a ⟨R.val % 256, by omega⟩)
    have e1 : View.read (Elt Ideal) ((cfg0.win 10).blk ⟨R.val / 256, hd⟩).view A (ix2 a ⟨R.val % 256, by omega⟩) = A (ix2 a R) := by
      have e2 : View.read (Elt Ideal) ((cfg0.win 10).blk ⟨R.val / 256, hd⟩).view A (ix2 a ⟨R.val % 256, by omega⟩) = A (ix2 a ⟨256 * (R.val / 256) + R.val % 256, by omega⟩) := by
        blk_ext [idx ⟨R.val / 256, hd⟩]
      rw [eR] at e2
      exact e2
    rw [← e1]
    refine b'.trans (Eq.trans ?_ e)
    rfl
  have e := key (i 0) (i 1)
  rw [ix2_eta] at e
  exact e

theorem zero_array (c : Dev nD) :
    ((dats m 0 c).arrAt 11 cfg0.N : Vec Ideal S1x2048 .i32) = fun i => Ideal.fptosi 32 (rowZero (normSum (oM m c) (xM m c) (gM m c) (packM m c) (groupM m c) (i 1))) := by
  funext i
  have key : ∀ (a : Fin 1) (R : Fin 2048), ((dats m 0 c).arrAt 11 cfg0.N : Vec Ideal S1x2048 .i32) (ix2 a R) = Ideal.fptosi 32 (rowZero (normSum (oM m c) (xM m c) (gM m c) (packM m c) (groupM m c) R)) := by
    intro a R
    have hd : R.val / 256 < cfg0.N := lt_of_lt_of_eq (by omega : R.val / 256 < 8) N_0.symm
    have b := blocks11 m c ⟨R.val / 256, hd⟩ (flush0_11 _)
    rw [flushed11] at b
    generalize (dats m 0 c).arrAt 11 cfg0.N = A at b ⊢
    have e := zero_out m c ⟨R.val / 256, hd⟩ a ⟨R.val % 256, by omega⟩
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).2.2.2.2.2.1 = X at b e
    have b' := congrFun b (ix2 a ⟨R.val % 256, by omega⟩)
    have e1 : View.read (Elt Ideal) ((cfg0.win 11).blk ⟨R.val / 256, hd⟩).view A (ix2 a ⟨R.val % 256, by omega⟩) = A (ix2 a R) := by
      have e2 : View.read (Elt Ideal) ((cfg0.win 11).blk ⟨R.val / 256, hd⟩).view A (ix2 a ⟨R.val % 256, by omega⟩) = A (ix2 a ⟨256 * (R.val / 256) + R.val % 256, by omega⟩) := by
        blk_ext [idx ⟨R.val / 256, hd⟩]
      rw [eR] at e2
      exact e2
    rw [← e1]
    refine b'.trans (Eq.trans ?_ e)
    rfl
  have e := key (i 0) (i 1)
  rw [ix2_eta] at e
  exact e

theorem oCodes_array (c : Dev nD) :
    ((dats m 0 c).arrAt 12 cfg0.N : Vec Ideal S2048x3072 .i8) = fun i => asInt8 (rowCode (fun k => oM m c (ix2 (i 0) k)) (i 1)) := by
  funext i
  have key : ∀ (R : Fin 2048) (l : Fin 3072), ((dats m 0 c).arrAt 12 cfg0.N : Vec Ideal S2048x3072 .i8) (ix2 R l) = asInt8 (rowCode (fun k => oM m c (ix2 R k)) l) := by
    intro R l
    have hd : R.val / 256 < cfg0.N := lt_of_lt_of_eq (by omega : R.val / 256 < 8) N_0.symm
    have b := blocks12 m c ⟨R.val / 256, hd⟩ (flush0_12 _)
    rw [flushed12] at b
    generalize (dats m 0 c).arrAt 12 cfg0.N = A at b ⊢
    have e := oCodes_out m c ⟨R.val / 256, hd⟩ ⟨R.val % 256, by omega⟩ l
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).2.2.2.2.2.2.1 = X at b e
    have b' := congrFun b (ix2 ⟨R.val % 256, by omega⟩ l)
    have e1 : View.read (Elt Ideal) ((cfg0.win 12).blk ⟨R.val / 256, hd⟩).view A (ix2 ⟨R.val % 256, by omega⟩ l) = A (ix2 R l) := by
      have e2 : View.read (Elt Ideal) ((cfg0.win 12).blk ⟨R.val / 256, hd⟩).view A (ix2 ⟨R.val % 256, by omega⟩ l) = A (ix2 ⟨256 * (R.val / 256) + R.val % 256, by omega⟩ l) := by
        blk_ext [idx ⟨R.val / 256, hd⟩]
      rw [eR] at e2
      exact e2
    rw [← e1]
    refine b'.trans (Eq.trans ?_ e)
    rfl
  have e := key (i 0) (i 1)
  rw [ix2_eta] at e
  exact e

theorem oScale_array (c : Dev nD) :
    ((dats m 0 c).arrAt 13 cfg0.N : Vec Ideal S1x2048 .f32) = fun i => rowScale (fun k => oM m c (ix2 (i 1) k)) := by
  funext i
  have key : ∀ (a : Fin 1) (R : Fin 2048), ((dats m 0 c).arrAt 13 cfg0.N : Vec Ideal S1x2048 .f32) (ix2 a R) = rowScale (fun k => oM m c (ix2 R k)) := by
    intro a R
    have hd : R.val / 256 < cfg0.N := lt_of_lt_of_eq (by omega : R.val / 256 < 8) N_0.symm
    have b := blocks13 m c ⟨R.val / 256, hd⟩ (flush0_13 _)
    rw [flushed13] at b
    generalize (dats m 0 c).arrAt 13 cfg0.N = A at b ⊢
    have e := oScale_out m c ⟨R.val / 256, hd⟩ a ⟨R.val % 256, by omega⟩
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).2.2.2.2.2.2.2.1 = X at b e
    have b' := congrFun b (ix2 a ⟨R.val % 256, by omega⟩)
    have e1 : View.read (Elt Ideal) ((cfg0.win 13).blk ⟨R.val / 256, hd⟩).view A (ix2 a ⟨R.val % 256, by omega⟩) = A (ix2 a R) := by
      have e2 : View.read (Elt Ideal) ((cfg0.win 13).blk ⟨R.val / 256, hd⟩).view A (ix2 a ⟨R.val % 256, by omega⟩) = A (ix2 a ⟨256 * (R.val / 256) + R.val % 256, by omega⟩) := by
        blk_ext [idx ⟨R.val / 256, hd⟩]
      rw [eR] at e2
      exact e2
    rw [← e1]
    refine b'.trans (Eq.trans ?_ e)
    rfl
  have e := key (i 0) (i 1)
  rw [ix2_eta] at e
  exact e

theorem oZero_array (c : Dev nD) :
    ((dats m 0 c).arrAt 14 cfg0.N : Vec Ideal S1x2048 .i32) = fun i => Ideal.fptosi 32 (rowZero (fun k => oM m c (ix2 (i 1) k))) := by
  funext i
  have key : ∀ (a : Fin 1) (R : Fin 2048), ((dats m 0 c).arrAt 14 cfg0.N : Vec Ideal S1x2048 .i32) (ix2 a R) = Ideal.fptosi 32 (rowZero (fun k => oM m c (ix2 R k))) := by
    intro a R
    have hd : R.val / 256 < cfg0.N := lt_of_lt_of_eq (by omega : R.val / 256 < 8) N_0.symm
    have b := blocks14 m c ⟨R.val / 256, hd⟩ (flush0_14 _)
    rw [flushed14] at b
    generalize (dats m 0 c).arrAt 14 cfg0.N = A at b ⊢
    have e := oZero_out m c ⟨R.val / 256, hd⟩ a ⟨R.val % 256, by omega⟩
    have eR : (⟨256 * (R.val / 256) + R.val % 256, by omega⟩ : Fin 2048) = R := Fin.ext (by dsimp only; omega)
    have eR' : rowOf ⟨R.val / 256, hd⟩ ⟨R.val % 256, by omega⟩ = R := eR
    rw [eR'] at e
    generalize (outsAt0 m c (Fin.mk (R.val / 256) hd).val (Fin.mk (R.val / 256) hd).isLt).2.2.2.2.2.2.2.2.1 = X at b e
    have b' := congrFun b (ix2 a ⟨R.val % 256, by omega⟩)
    have e1 : View.read (Elt Ideal) ((cfg0.win 14).blk ⟨R.val / 256, hd⟩).view A (ix2 a ⟨R.val % 256, by omega⟩) = A (ix2 a R) := by
      have e2 : View.read (Elt Ideal) ((cfg0.win 14).blk ⟨R.val / 256, hd⟩).view A (ix2 a ⟨R.val % 256, by omega⟩) = A (ix2 a ⟨256 * (R.val / 256) + R.val % 256, by omega⟩) := by
        blk_ext [idx ⟨R.val / 256, hd⟩]
      rw [eR] at e2
      exact e2
    rw [← e1]
    refine b'.trans (Eq.trans ?_ e)
    rfl
  have e := key (i 0) (i 1)
  rw [ix2_eta] at e
  exact e

end Cert.OutProj
-- ==== Proof.OprojRef.lean ====
/- What the reference of the output projection computes, entry by entry. -/
module
public import proofs.«01_k».proof.Proof.NormRef
public import proofs.«01_k».proof.Proof.OprojFold
public import proofs.«01_k».proof.Proof.Gen.OprojReferenceIdeal.Read
@[expose] public section
set_option maxRecDepth 65536
noncomputable section
namespace Cert.OutProj
open Idealize.ShloMosaic Cert.GateUp Cert.DownProj Cert.RowQuant Cert.OprojReferenceIdeal Cert.OprojReferenceIdeal.Gen Cert.OprojReferenceIdeal.Read

/-! ## The weights -/

section
variable (x3 : Vec Ideal S3072x1536 .i8) (x4 : Vec Ideal S96x3072 .f32)

theorem weight_lo (k : Fin 3072) (p : Fin 1536) : val_main_v58 (F := Ideal) x3 x4 (ix2 k p)
    = weightOut x3 x4 k ⟨p.val, by omega⟩ := by
  pointwise [val_main_v58, val_main_v57, val_main_v52, val_main_v51, val_main_v50, val_main_v49, val_main_v7, val_main_v4, val_main_v6, val_main_v2, val_main_v0, val_main_v1, val_main_v3, val_main_v5, val_main_c, val_main_c_0, val_main_c_1]
  unfold weightOut grp
  rw [show pNib ⟨p.val, by omega⟩ = 0 from Fin.ext (by show p.val / 1536 = 0; omega), show pCol ⟨p.val, by omega⟩ = p from Fin.ext (by show p.val % 1536 = p.val; omega), ← low_nibble]
  congr 1

theorem weight_hi (k : Fin 3072) (p : Fin 1536) : val_main_v60 (F := Ideal) x3 x4 (ix2 k p)
    = weightOut x3 x4 k ⟨1536 + p.val, by omega⟩ := by
  pointwise [val_main_v60, val_main_v59, val_main_v56, val_main_v55, val_main_v54, val_main_v53, val_main_v14, val_main_v11, val_main_v13, val_main_v9, val_main_v0, val_main_v8, val_main_v10, val_main_v12, val_main_c_2, val_main_c_3, val_main_c_4]
  unfold weightOut grp
  rw [show pNib ⟨1536 + p.val, by omega⟩ = 1 from Fin.ext (by show (1536 + p.val) / 1536 = 1; omega), show pCol ⟨1536 + p.val, by omega⟩ = p from Fin.ext (by show (1536 + p.val) % 1536 = p.val; omega), ← high_nibble]
  congr 1
end

/-! ## Least and greatest entries -/

theorem reduceMin_at (z : Vec Ideal S_ .f32) (hz : z = constant (F := Ideal) S_ .f32 0x7F800000#32) (x : Vec Ideal S2048x3072 .f32) (R : Fin 2048) :
    Host.reduce (α := Ideal .f32) FloatOps.minimumf x z reducesTo_S2048x3072_S2048_d1 h_S_ (ix1 R)
      = Finset.fold min (Ideal.ofBits .f32 2139095040#32) (fun p : Fin 3072 => x (ix2 R p)) Finset.univ := by
  subst hz
  pointwise []
theorem reduceMax_at (z : Vec Ideal S_ .f32) (hz : z = constant (F := Ideal) S_ .f32 0xFF800000#32) (x : Vec Ideal S2048x3072 .f32) (R : Fin 2048) :
    Host.reduce (α := Ideal .f32) FloatOps.maximumf x z reducesTo_S2048x3072_S2048_d1 h_S_ (ix1 R)
      = Finset.fold max (Ideal.ofBits .f32 4286578688#32) (fun p : Fin 3072 => x (ix2 R p)) Finset.univ := by
  subst hz
  pointwise []

variable (x0 : Vec Ideal S2048x3072 .f32) (x1 : Vec Ideal S2048x3072 .bf16) (x2 : Vec Ideal S1x3072 .f32) (x3 : Vec Ideal S3072x1536 .i8) (x4 : Vec Ideal S96x3072 .f32)

/-! ## The quantiser of the rows to project -/

theorem o_low (R : Fin 2048) : val_main_v17 (F := Ideal) x0 (ix1 R) = lowOf (fun k => x0 (ix2 R k)) := by
  have e2 : val_main_v15 (F := Ideal) x0 (ix1 R) = _ := reduceMin_at (val_main_cst (F := Ideal)) rfl x0 R
  rw [val_main_v17_apply, val_main_v16_apply, e2]
  show min _ (Ideal.ofBits .f32 0#32) = _
  rw [zero_bits]
  rfl

theorem o_high (R : Fin 2048) : val_main_v20 (F := Ideal) x0 (ix1 R) = highOf (fun k => x0 (ix2 R k)) := by
  have e2 : val_main_v18 (F := Ideal) x0 (ix1 R) = _ := reduceMax_at (val_main_cst_6 (F := Ideal)) rfl x0 R
  rw [val_main_v20_apply, val_main_v19_apply, e2]
  show max _ (Ideal.ofBits .f32 0#32) = _
  rw [zero_bits]
  rfl

theorem o_scale (R : Fin 2048) : val_main_v26 (F := Ideal) x0 (ix1 R) = rowScale (fun k => x0 (ix2 R k)) := by
  rw [val_main_v26_apply, val_main_v23_apply, val_main_v25_apply, val_main_v21_apply, o_low, o_high, val_main_v22_apply, val_main_v24_apply,
    val_main_call2_v1_apply, val_main_call2_v0_apply]
  exact select_scale _ _

theorem o_zero (R : Fin 2048) : val_main_v31 (F := Ideal) x0 (ix1 R) = rowZero (fun k => x0 (ix2 R k)) := by
  rw [val_main_v31_apply, val_main_call4_v4_apply, val_main_call4_v3_apply, val_main_call4_v2_apply, val_main_call4_v1_apply, val_main_call4_v0_apply,
    val_main_v30_apply, val_main_v29_apply, val_main_v28_apply, val_main_v27_apply, o_low, o_scale]
  have e1 : (FloatOps.sitofp (F := Ideal) .f32 (val_main_c_13 (F := Ideal) (idx_main_call4_v4 (ix1 R))) : EReal) = _ := hi_bound
  have e0 : (FloatOps.sitofp (F := Ideal) .f32 (val_main_c_12 (F := Ideal) (idx_main_call4_v1 (ix1 R))) : EReal) = _ := lo_bound
  rw [e1, e0]
  rfl

theorem o_terms (R : Fin 2048) (k : Fin 3072) : val_main_v41 (F := Ideal) x0 (ix2 R k)
      = min (((127#32 : BitVec 32).toInt : ℝ) : EReal) (max (((4294967168#32 : BitVec 32).toInt : ℝ) : EReal)
        (Ideal.liftRound Ideal.roundHalfEven (Ideal.div (x0 (ix2 R k)) (val_main_v26 (F := Ideal) x0 (ix1 R)))
          + (((Ideal.fptosi 32 (val_main_v31 (F := Ideal) x0 (ix1 R))).toInt : ℝ) : EReal))) := by
  have ed : idx_main_v33 (idx_main_v34 (ix2 R k)) = ix1 R := by funext a; match a with | ⟨0, _⟩ => rfl
  have ez : idx_main_v37 (idx_main_v39 (ix2 R k)) = ix1 R := by funext a; match a with | ⟨0, _⟩ => rfl
  rw [val_main_v41_apply, val_main_call6_v4_apply, val_main_call6_v3_apply, val_main_call6_v2_apply, val_main_call6_v1_apply, val_main_call6_v0_apply,
    val_main_v40_apply, val_main_v36_apply, val_main_v35_apply, val_main_v34_apply, val_main_v33_apply, val_main_v39_apply, val_main_v38_apply,
    val_main_v37_apply, val_main_v32_apply, ed, ez]
  generalize x0 (ix2 R k) = a
  generalize val_main_v26 (F := Ideal) x0 (ix1 R) = b
  generalize val_main_v31 (F := Ideal) x0 (ix1 R) = z
  rfl

theorem o_code (R : Fin 2048) (k : Fin 3072) : val_main_v41 (F := Ideal) x0 (ix2 R k) = rowCode (fun k => x0 (ix2 R k)) k := by
  rw [o_terms, o_scale, o_zero]
  generalize hf : (fun k => x0 (ix2 R k)) = f
  have ek : x0 (ix2 R k) = f k := congrFun hf k
  rw [ek]
  unfold rowCode rowScale rowZero
  exact quant_ref (f k) (lowOf f) (highOf f)

/-- The codes. -/
theorem o_bytes_ref : val_main_v43 (F := Ideal) x0 = fun i => asInt8 (rowCode (fun k => x0 (ix2 (i 0) k)) (i 1)) := by
  have key : ∀ (R : Fin 2048) (k : Fin 3072), val_main_v43 (F := Ideal) x0 (ix2 R k) = asInt8 (rowCode (fun k => x0 (ix2 R k)) k) := by
    intro R k
    rw [← o_code]
    rfl
  funext i
  have e := key (i 0) (i 1)
  rw [ix2_eta] at e
  exact e

theorem o_centre (R : Fin 2048) (k : Fin 3072) : val_main_v48 (F := Ideal) x0 (ix2 R k) = rowCode (fun k => x0 (ix2 R k)) k - rowZero (fun k => x0 (ix2 R k)) := by
  have e : val_main_v48 (F := Ideal) x0 (ix2 R k)
      = ((((((val_main_v43 (F := Ideal) x0 (ix2 R k)).signExtend 32 - Ideal.fptosi 32 (val_main_v31 (F := Ideal) x0 (ix1 R))).toInt : ℝ)) : EReal)) := by
    pointwise [val_main_v48, val_main_v47, val_main_v46, val_main_v45, val_main_v44, val_main_v32]
    rfl
  rw [e, o_bytes_ref, o_zero]
  show (((((asInt8 (rowCode (fun k => x0 (ix2 R k)) k)).signExtend 32 - Ideal.fptosi 32 (rowZero (fun k => x0 (ix2 R k)))).toInt : ℝ)) : EReal) = _
  generalize (fun k => x0 (ix2 R k)) = f
  unfold rowCode rowScale rowZero
  exact centre_ref (f k) (lowOf f) (highOf f)

/-- The scales and the zero points as rows. -/
theorem o_scale_row : val_main_v122 (F := Ideal) x0 = fun i => rowScale (fun k => x0 (ix2 (i 1) k)) := by
  funext i
  rw [val_main_v122_apply]
  refine Eq.trans (congrArg _ ?_) (o_scale x0 (i 1))
  funext a
  match a with
  | ⟨0, _⟩ => rfl
theorem o_zero_row : val_main_v123 (F := Ideal) x0 = fun i => Ideal.fptosi 32 (rowZero (fun k => x0 (ix2 (i 1) k))) := by
  funext i
  rw [val_main_v123_apply, val_main_v32_apply]
  refine congrArg (Ideal.fptosi 32) (Eq.trans (congrArg _ ?_) (o_zero x0 (i 1)))
  funext a
  match a with
  | ⟨0, _⟩ => rfl

/-! ## The sum and its norm -/

theorem dots_lo (R : Fin 2048) (p : Fin 1536) : val_main_v61 (F := Ideal) x0 x3 x4 (ix2 R p)
    = ∑ k : Fin 3072, (rowCode (fun k => x0 (ix2 R k)) k - rowZero fun k => x0 (ix2 R k)) * weightOut x3 x4 k ⟨p.val, by omega⟩ := by
  have e : val_main_v61 (F := Ideal) x0 x3 x4 (ix2 R p)
      = ∑ k : Fin 3072, val_main_v48 (F := Ideal) x0 (ix2 R k) * val_main_v58 (F := Ideal) x3 x4 (ix2 k p) := by
    pointwise [val_main_v61]
  rw [e]
  exact Finset.sum_congr rfl fun k _ => congrArg₂ (· * ·) (o_centre x0 R k) (weight_lo x3 x4 k p)

theorem dots_hi (R : Fin 2048) (p : Fin 1536) : val_main_v65 (F := Ideal) x0 x3 x4 (ix2 R p)
    = ∑ k : Fin 3072, (rowCode (fun k => x0 (ix2 R k)) k - rowZero fun k => x0 (ix2 R k)) * weightOut x3 x4 k ⟨1536 + p.val, by omega⟩ := by
  have e : val_main_v65 (F := Ideal) x0 x3 x4 (ix2 R p)
      = ∑ k : Fin 3072, val_main_v48 (F := Ideal) x0 (ix2 R k) * val_main_v60 (F := Ideal) x3 x4 (ix2 k p) := by
    pointwise [val_main_v65]
  rw [e]
  exact Finset.sum_congr rfl fun k _ => congrArg₂ (· * ·) (o_centre x0 R k) (weight_hi x3 x4 k p)

theorem sum_ref (R : Fin 2048) (p : Fin 3072) : val_main_v71 (F := Ideal) x0 x1 x3 x4 (ix2 R p) = sumOf x0 x1 x3 x4 R p := by
  have e : val_main_v71 (F := Ideal) x0 x1 x3 x4 (ix2 R p)
      = x1 (ix2 R p) + if h : p.val < 1536 then val_main_v61 (F := Ideal) x0 x3 x4 (ix2 R ⟨p.val, h⟩) * val_main_v26 (F := Ideal) x0 (ix1 R)
        else val_main_v65 (F := Ideal) x0 x3 x4 (ix2 R ⟨p.val - 1536, by omega⟩) * val_main_v26 (F := Ideal) x0 (ix1 R) := by
    pointwise [val_main_v71, val_main_v70, val_main_v69, val_main_v68, val_main_v67, val_main_v66, val_main_v64, val_main_v63, val_main_v62]
  rw [e, o_scale]
  unfold sumOf addRow
  by_cases h : p.val < 1536
  · rw [dif_pos h, dots_lo]
  · rw [dif_neg h, dots_hi]
    have ep : (⟨1536 + (p.val - 1536), by omega⟩ : Fin 3072) = p := Fin.ext (by dsimp only; omega)
    rw [ep]

/-- The sum. -/
theorem ref_sum : val_main_v71 (F := Ideal) x0 x1 x3 x4 = fun i => sumOf x0 x1 x3 x4 (i 0) (i 1) := by
  funext i
  have e := sum_ref x0 x1 x3 x4 (i 0) (i 1)
  rw [ix2_eta] at e
  exact e

theorem norm_terms (R : Fin 2048) (k : Fin 3072) : val_main_v83 (F := Ideal) x0 x1 x2 x3 x4 (ix2 R k)
    = rmsOf (fun j => val_main_v71 (F := Ideal) x0 x1 x3 x4 (ix2 R j)) (fun j => x2 (ix2 0 j)) k := by
  pointwise [val_main_v83, val_main_v82, val_main_v81, val_main_v80, val_main_v79, val_main_v78, val_main_v77, val_main_v76, val_main_v75, val_main_v74, val_main_v73, val_main_v72, val_main_cst_16, val_main_cst_17, val_main_cst_18, rmsOf]

theorem norm_ref (R : Fin 2048) (k : Fin 3072) : val_main_v83 (F := Ideal) x0 x1 x2 x3 x4 (ix2 R k) = normSum x0 x1 x2 x3 x4 R k := by
  rw [norm_terms]
  exact congrArg (fun s => rmsOf s (fun j => x2 (ix2 0 j)) k) (funext fun j => sum_ref x0 x1 x3 x4 R j)

theorem norm_row (R : Fin 2048) : (fun k : Fin 3072 => val_main_v83 (F := Ideal) x0 x1 x2 x3 x4 (ix2 R k)) = normSum x0 x1 x2 x3 x4 R :=
  funext fun k => norm_ref x0 x1 x2 x3 x4 R k

/-! ## The quantiser of the normalised rows -/

theorem n_low (R : Fin 2048) : val_main_v86 (F := Ideal) x0 x1 x2 x3 x4 (ix1 R) = lowOf (normSum x0 x1 x2 x3 x4 R) := by
  have e2 : val_main_v84 (F := Ideal) x0 x1 x2 x3 x4 (ix1 R) = _ := reduceMin_at (val_main_cst_19 (F := Ideal)) rfl (val_main_v83 (F := Ideal) x0 x1 x2 x3 x4) R
  rw [val_main_v86_apply, val_main_v85_apply, e2, norm_row]
  show min _ (Ideal.ofBits .f32 0#32) = _
  rw [zero_bits]
  rfl

theorem n_high (R : Fin 2048) : val_main_v89 (F := Ideal) x0 x1 x2 x3 x4 (ix1 R) = highOf (normSum x0 x1 x2 x3 x4 R) := by
  have e2 : val_main_v87 (F := Ideal) x0 x1 x2 x3 x4 (ix1 R) = _ := reduceMax_at (val_main_cst_21 (F := Ideal)) rfl (val_main_v83 (F := Ideal) x0 x1 x2 x3 x4) R
  rw [val_main_v89_apply, val_main_v88_apply, e2, norm_row]
  show max _ (Ideal.ofBits .f32 0#32) = _
  rw [zero_bits]
  rfl

theorem n_scale (R : Fin 2048) : val_main_v95 (F := Ideal) x0 x1 x2 x3 x4 (ix1 R) = rowScale (normSum x0 x1 x2 x3 x4 R) := by
  rw [val_main_v95_apply, val_main_v92_apply, val_main_v94_apply, val_main_v90_apply, n_low, n_high, val_main_v91_apply, val_main_v93_apply,
    val_main_call7_v1_apply, val_main_call7_v0_apply]
  exact select_scale _ _

theorem n_zero (R : Fin 2048) : val_main_v100 (F := Ideal) x0 x1 x2 x3 x4 (ix1 R) = rowZero (normSum x0 x1 x2 x3 x4 R) := by
  rw [val_main_v100_apply, val_main_call9_v4_apply, val_main_call9_v3_apply, val_main_call9_v2_apply, val_main_call9_v1_apply, val_main_call9_v0_apply,
    val_main_v99_apply, val_main_v98_apply, val_main_v97_apply, val_main_v96_apply, n_low, n_scale]
  have e1 : (FloatOps.sitofp (F := Ideal) .f32 (val_main_c_28 (F := Ideal) (idx_main_call9_v4 (ix1 R))) : EReal) = _ := hi_bound
  have e0 : (FloatOps.sitofp (F := Ideal) .f32 (val_main_c_27 (F := Ideal) (idx_main_call9_v1 (ix1 R))) : EReal) = _ := lo_bound
  rw [e1, e0]
  rfl

theorem n_terms (R : Fin 2048) (k : Fin 3072) : val_main_v110 (F := Ideal) x0 x1 x2 x3 x4 (ix2 R k)
      = min (((127#32 : BitVec 32).toInt : ℝ) : EReal) (max (((4294967168#32 : BitVec 32).toInt : ℝ) : EReal)
        (Ideal.liftRound Ideal.roundHalfEven (Ideal.div (val_main_v83 (F := Ideal) x0 x1 x2 x3 x4 (ix2 R k)) (val_main_v95 (F := Ideal) x0 x1 x2 x3 x4 (ix1 R)))
          + (((Ideal.fptosi 32 (val_main_v100 (F := Ideal) x0 x1 x2 x3 x4 (ix1 R))).toInt : ℝ) : EReal))) := by
  have ed : idx_main_v102 (idx_main_v103 (ix2 R k)) = ix1 R := by funext a; match a with | ⟨0, _⟩ => rfl
  have ez : idx_main_v106 (idx_main_v108 (ix2 R k)) = ix1 R := by funext a; match a with | ⟨0, _⟩ => rfl
  rw [val_main_v110_apply, val_main_call11_v4_apply, val_main_call11_v3_apply, val_main_call11_v2_apply, val_main_call11_v1_apply, val_main_call11_v0_apply,
    val_main_v109_apply, val_main_v105_apply, val_main_v104_apply, val_main_v103_apply, val_main_v102_apply, val_main_v108_apply, val_main_v107_apply,
    val_main_v106_apply, val_main_v101_apply, ed, ez]
  generalize val_main_v83 (F := Ideal) x0 x1 x2 x3 x4 (ix2 R k) = a
  generalize val_main_v95 (F := Ideal) x0 x1 x2 x3 x4 (ix1 R) = b
  generalize val_main_v100 (F := Ideal) x0 x1 x2 x3 x4 (ix1 R) = z
  rfl

theorem n_code (R : Fin 2048) (k : Fin 3072) : val_main_v110 (F := Ideal) x0 x1 x2 x3 x4 (ix2 R k) = rowCode (normSum x0 x1 x2 x3 x4 R) k := by
  rw [n_terms, n_scale, n_zero, norm_ref]
  generalize hf : (normSum x0 x1 x2 x3 x4 R) = f
  clear hf
  unfold rowCode rowScale rowZero
  exact quant_ref (f k) (lowOf f) (highOf f)

/-- The codes. -/
theorem n_bytes_ref : val_main_v112 (F := Ideal) x0 x1 x2 x3 x4 = fun i => asInt8 (rowCode (normSum x0 x1 x2 x3 x4 (i 0)) (i 1)) := by
  have key : ∀ (R : Fin 2048) (k : Fin 3072), val_main_v112 (F := Ideal) x0 x1 x2 x3 x4 (ix2 R k) = asInt8 (rowCode (normSum x0 x1 x2 x3 x4 R) k) := by
    intro R k
    rw [← n_code]
    rfl
  funext i
  have e := key (i 0) (i 1)
  rw [ix2_eta] at e
  exact e

theorem n_centre (R : Fin 2048) (k : Fin 3072) : val_main_v117 (F := Ideal) x0 x1 x2 x3 x4 (ix2 R k) = rowCode (normSum x0 x1 x2 x3 x4 R) k - rowZero (normSum x0 x1 x2 x3 x4 R) := by
  have e : val_main_v117 (F := Ideal) x0 x1 x2 x3 x4 (ix2 R k)
      = ((((((val_main_v112 (F := Ideal) x0 x1 x2 x3 x4 (ix2 R k)).signExtend 32 - Ideal.fptosi 32 (val_main_v100 (F := Ideal) x0 x1 x2 x3 x4 (ix1 R))).toInt : ℝ)) : EReal)) := by
    pointwise [val_main_v117, val_main_v116, val_main_v115, val_main_v114, val_main_v113, val_main_v101]
    rfl
  rw [e, n_bytes_ref, n_zero]
  show (((((asInt8 (rowCode (normSum x0 x1 x2 x3 x4 R) k)).signExtend 32 - Ideal.fptosi 32 (rowZero (normSum x0 x1 x2 x3 x4 R))).toInt : ℝ)) : EReal) = _
  generalize (normSum x0 x1 x2 x3 x4 R) = f
  unfold rowCode rowScale rowZero
  exact centre_ref (f k) (lowOf f) (highOf f)

/-- The scales and the zero points as rows. -/
theorem n_scale_row : val_main_v120 (F := Ideal) x0 x1 x2 x3 x4 = fun i => rowScale (normSum x0 x1 x2 x3 x4 (i 1)) := by
  funext i
  rw [val_main_v120_apply]
  refine Eq.trans (congrArg _ ?_) (n_scale x0 x1 x2 x3 x4 (i 1))
  funext a
  match a with
  | ⟨0, _⟩ => rfl
theorem n_zero_row : val_main_v121 (F := Ideal) x0 x1 x2 x3 x4 = fun i => Ideal.fptosi 32 (rowZero (normSum x0 x1 x2 x3 x4 (i 1))) := by
  funext i
  rw [val_main_v121_apply, val_main_v101_apply]
  refine congrArg (Ideal.fptosi 32) (Eq.trans (congrArg _ ?_) (n_zero x0 x1 x2 x3 x4 (i 1)))
  funext a
  match a with
  | ⟨0, _⟩ => rfl

theorem n_centre_ref : val_main_v117 (F := Ideal) x0 x1 x2 x3 x4
    = fun i => rowCode (normSum x0 x1 x2 x3 x4 (i 0)) (i 1) - rowZero (normSum x0 x1 x2 x3 x4 (i 0)) := by
  funext i
  have e := n_centre x0 x1 x2 x3 x4 (i 0) (i 1)
  rw [ix2_eta] at e
  exact e
theorem n_lanes : val_main_v119 (F := Ideal) x0 x1 x2 x3 x4 = fun i => rowScale (normSum x0 x1 x2 x3 x4 (i 0)) := by
  funext i
  rw [val_main_v119_apply, val_main_v118_apply]
  refine Eq.trans (congrArg _ ?_) (n_scale x0 x1 x2 x3 x4 (i 0))
  funext a
  match a with
  | ⟨0, _⟩ => rfl
end Cert.OutProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojIdeal.Value
public import proofs.«01_k».proof.Proof.Gen.OprojReferenceIdeal
public import proofs.«01_k».proof.Proof.Gen.OprojReferenceIdeal.Run
public import proofs.«01_k».proof.Proof.Gen.OprojReferenceIdeal.Read
public import proofs.«01_k».proof.Proof.Fold
public import proofs.«01_k».proof.Proof.RefParams
public import proofs.«01_k».proof.Proof.DownRef
public import proofs.«01_k».proof.Proof.DownPre
public import proofs.«01_k».proof.Proof.NormRef
public import proofs.«01_k».proof.Proof.OprojRef
public import Idealize.ShloMosaic.Adequacy
public import Idealize.ShloMosaic.Init

@[expose] public section

noncomputable section

namespace Cert.Proof

open Idealize.ShloMosaic Idealize.SL.Sem Cert.GateUp

/-- The reference runs, keeps its arguments and uses no semaphore. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- From equal arguments the kernel and the reference end with equal gated products, scales and zero points. -/
theorem algebraic : Cert.algebraic_KernelIdeal_ReferenceIdeal := by
  intro m ρ m' ρ' _ hagree
  refine ⟨fun c => Cert.KernelIdeal.Value.G5 m c, fun c => Cert.KernelIdeal.Value.G6 m c, fun c => Cert.KernelIdeal.Value.G7 m c,
    fun c => Cert.KernelIdeal.Value.G8 m c, fun c => Cert.KernelIdeal.Value.G9 m c, Cert.KernelIdeal.Value.run m ρ, ?_⟩
  refine (θ_run Cert.ReferenceIdeal.defs _ _).mono (fun r h c => ?_) (Cert.ReferenceIdeal.Value.run (F := Ideal) m' ρ')
  obtain ⟨h0, h1, h2, h3, h4, ha⟩ := h c
  obtain ⟨a0, a1, a2, a3⟩ := hagree c
  rw [Cert.ReferenceIdeal.Read.val_main_v61_eq, a0, a1, a2, a3, ref0] at h0
  rw [Cert.ReferenceIdeal.Read.val_main_v85_eq, a0, a1, a2, a3, ref1] at h1
  rw [Cert.ReferenceIdeal.Read.val_main_v87_eq, a0, a1, a2, a3, ref2] at h2
  rw [Cert.ReferenceIdeal.Read.val_main_v88_eq, a0, a1, a2, a3, ref3] at h3
  rw [Cert.ReferenceIdeal.Read.val_main_v90_eq, a0, a1, a2, a3, ref4] at h4
  exact ⟨h0.trans (G5_eq m c).symm, h1.trans (G6_eq m c).symm, h2.trans (G7_eq m c).symm, h3.trans (G8_eq m c).symm,
    h4.trans (G9_eq m c).symm, ha⟩

/-- The down projection's reference runs, keeps its arguments and uses no semaphore. -/
theorem frame_down_reference : Cert.quiescent_DownReferenceIdeal := fun m ρ _ =>
  (θ_run Cert.DownReferenceIdeal.defs _ _).mono
    (fun r h => ⟨fun c => (h c).2.2, sem_eq_zero_of_no_sems (by decide) r.2⟩)
    (Cert.DownReferenceIdeal.Value.run (F := Ideal) m ρ)

/-- From equal arguments the down projection and its reference end with equal results and codes. -/
theorem algebraic_down : Cert.algebraic_DownIdeal_DownReferenceIdeal_pre_quantised (hPre_quantised := Cert.DownProj.pre_facts) := by
  intro m ρ m' ρ' hpre hagree
  refine ⟨fun c => (Cert.DownIdeal.Gen.dats m 0 c).arrAt 6 Cert.DownIdeal.cfg0.N, fun c => (Cert.DownIdeal.Gen.dats m 0 c).arrAt 7 Cert.DownIdeal.cfg0.N,
    Cert.DownIdeal.Value.run_blocks m ρ, ?_⟩
  refine (θ_run Cert.DownReferenceIdeal.defs _ _).mono (fun r h c => ?_) (Cert.DownReferenceIdeal.Value.run (F := Ideal) m' ρ')
  obtain ⟨h0, h1, ha⟩ := h c
  obtain ⟨a0, a1, a2, a3, a4, a5⟩ := hagree c
  have hq := @Cert.DownProj.pre_at Cert.DownProj.pre_facts _ _ _ _ _ _ (hpre c)
  rw [Cert.DownReferenceIdeal.Read.val_main_v53_eq, a0, a1, a2, a3, a4, a5,
    Cert.DownProj.result_ref _ _ _ _ _ _ (fun R => (hq (ix2 R 0)).1) (fun R => (hq (ix2 R 0)).2)] at h0
  rw [Cert.DownReferenceIdeal.Read.val_main_v40_eq, a0, a1, a2, Cert.DownProj.codes_ref _ _ _ (fun R => (hq (ix2 R 0)).1)] at h1
  exact ⟨h0.trans (Cert.DownProj.result_final m c).symm, h1.trans (Cert.DownProj.codes_final m c).symm, ha⟩

/-- The first norm's reference runs, keeps its arguments and uses no semaphore. -/
theorem frame_norm_reference : Cert.quiescent_NormReferenceIdeal := fun m ρ _ =>
  (θ_run Cert.NormReferenceIdeal.defs _ _).mono
    (fun r h => ⟨fun c => (h c).2.2.2.2.2.2.2, sem_eq_zero_of_no_sems (by decide) r.2⟩)
    (Cert.NormReferenceIdeal.Value.run (F := Ideal) m ρ)

/-- From equal arguments the first norm and its reference end with equal codes, scales, zero points and rotation tables. -/
theorem algebraic_norm : Cert.algebraic_NormIdeal_NormReferenceIdeal := by
  intro m ρ m' ρ' _ hagree
  refine ⟨fun c => (Cert.NormIdeal.Gen.dats m 0 c).arrAt 4 Cert.NormIdeal.cfg0.N, fun c => (Cert.NormIdeal.Gen.dats m 0 c).arrAt 5 Cert.NormIdeal.cfg0.N,
    fun c => (Cert.NormIdeal.Gen.dats m 0 c).arrAt 6 Cert.NormIdeal.cfg0.N, fun c => (Cert.NormIdeal.Gen.dats m 0 c).arrAt 7 Cert.NormIdeal.cfg0.N,
    fun c => (Cert.NormIdeal.Gen.dats m 0 c).arrAt 8 Cert.NormIdeal.cfg0.N, fun c => (Cert.NormIdeal.Gen.dats m 0 c).arrAt 9 Cert.NormIdeal.cfg0.N,
    fun c => (Cert.NormIdeal.Gen.dats m 0 c).arrAt 10 Cert.NormIdeal.cfg0.N, Cert.NormIdeal.Value.run_blocks m ρ, ?_⟩
  refine (θ_run Cert.NormReferenceIdeal.defs _ _).mono (fun r h c => ?_) (Cert.NormReferenceIdeal.Value.run (F := Ideal) m' ρ')
  obtain ⟨h0, h1, h2, h3, h4, h5, h6, ha⟩ := h c
  obtain ⟨a0, a1, a2, a3⟩ := hagree c
  rw [Cert.NormReferenceIdeal.Read.val_main_v46_eq, a0, a1, Cert.RowQuant.ref_a] at h0
  rw [Cert.NormReferenceIdeal.Read.val_main_v41_eq, a0, a1, Cert.RowQuant.ref_codes] at h1
  rw [Cert.NormReferenceIdeal.Read.val_main_v52_eq, a0, a1, Cert.RowQuant.ref_scale_row] at h2
  rw [Cert.NormReferenceIdeal.Read.val_main_v53_eq, a0, a1, Cert.RowQuant.ref_zero_row] at h3
  rw [Cert.NormReferenceIdeal.Read.val_main_v55_eq, a0, a1, Cert.RowQuant.ref_lanes] at h4
  rw [Cert.NormReferenceIdeal.Read.val_main_v48_eq, a2, Cert.RowQuant.ref_cos] at h5
  rw [Cert.NormReferenceIdeal.Read.val_main_v51_eq, a3, Cert.RowQuant.ref_sin] at h6
  exact ⟨h0.trans (Cert.RowQuant.a_array m c).symm, h1.trans (Cert.RowQuant.codes_array m c).symm, h2.trans (Cert.RowQuant.scale_array m c).symm,
    h3.trans (Cert.RowQuant.zero_array m c).symm, h4.trans (Cert.RowQuant.lanes_array m c).symm, h5.trans (Cert.RowQuant.cos_array m c).symm, h6.trans (Cert.RowQuant.sin_array m c).symm, ha⟩

/-- The output projection's reference runs, keeps its arguments and uses no semaphore. -/
theorem frame_oproj_reference : Cert.quiescent_OprojReferenceIdeal := fun m ρ _ =>
  (θ_run Cert.OprojReferenceIdeal.defs _ _).mono
    (fun r h => ⟨fun c => (h c).2.2.2.2.2.2.2.2.2, sem_eq_zero_of_no_sems (by decide) r.2⟩)
    (Cert.OprojReferenceIdeal.Value.run (F := Ideal) m ρ)

/-- From equal arguments the output projection and its reference end with equal sums, and with equal codes, scales and zero
    points of the rows projected and of the second norm. -/
theorem algebraic_oproj : Cert.algebraic_OprojIdeal_OprojReferenceIdeal := by
  intro m ρ m' ρ' _ hagree
  refine ⟨fun c => (Cert.OprojIdeal.Gen.dats m 0 c).arrAt 6 Cert.OprojIdeal.cfg0.N, fun c => (Cert.OprojIdeal.Gen.dats m 0 c).arrAt 7 Cert.OprojIdeal.cfg0.N, fun c => (Cert.OprojIdeal.Gen.dats m 0 c).arrAt 8 Cert.OprojIdeal.cfg0.N,
    fun c => (Cert.OprojIdeal.Gen.dats m 0 c).arrAt 9 Cert.OprojIdeal.cfg0.N, fun c => (Cert.OprojIdeal.Gen.dats m 0 c).arrAt 10 Cert.OprojIdeal.cfg0.N, fun c => (Cert.OprojIdeal.Gen.dats m 0 c).arrAt 11 Cert.OprojIdeal.cfg0.N,
    fun c => (Cert.OprojIdeal.Gen.dats m 0 c).arrAt 12 Cert.OprojIdeal.cfg0.N, fun c => (Cert.OprojIdeal.Gen.dats m 0 c).arrAt 13 Cert.OprojIdeal.cfg0.N, fun c => (Cert.OprojIdeal.Gen.dats m 0 c).arrAt 14 Cert.OprojIdeal.cfg0.N,
    Cert.OprojIdeal.Value.run_blocks m ρ, ?_⟩
  refine (θ_run Cert.OprojReferenceIdeal.defs _ _).mono (fun r h c => ?_) (Cert.OprojReferenceIdeal.Value.run (F := Ideal) m' ρ')
  obtain ⟨h0, h1, h2, h3, h4, h5, h6, h7, h8, ha⟩ := h c
  obtain ⟨a0, a1, a2, a3, a4⟩ := hagree c
  change StableHlo.launchContents m' c (Proc.devRef .tc Cert.OprojReferenceIdeal.main_arg0) = _ at a0
  change StableHlo.launchContents m' c (Proc.devRef .tc Cert.OprojReferenceIdeal.main_arg1) = _ at a1
  change StableHlo.launchContents m' c (Proc.devRef .tc Cert.OprojReferenceIdeal.main_arg2) = _ at a2
  change StableHlo.launchContents m' c (Proc.devRef .tc Cert.OprojReferenceIdeal.main_arg3) = _ at a3
  change StableHlo.launchContents m' c (Proc.devRef .tc Cert.OprojReferenceIdeal.main_arg4) = _ at a4
  rw [Cert.OprojReferenceIdeal.Read.val_main_v71_eq, a0, a1, a3, a4, Cert.OutProj.ref_sum] at h0
  rw [Cert.OprojReferenceIdeal.Read.val_main_v117_eq, a0, a1, a2, a3, a4, Cert.OutProj.n_centre_ref] at h1
  rw [Cert.OprojReferenceIdeal.Read.val_main_v112_eq, a0, a1, a2, a3, a4, Cert.OutProj.n_bytes_ref] at h2
  rw [Cert.OprojReferenceIdeal.Read.val_main_v119_eq, a0, a1, a2, a3, a4, Cert.OutProj.n_lanes] at h3
  rw [Cert.OprojReferenceIdeal.Read.val_main_v120_eq, a0, a1, a2, a3, a4, Cert.OutProj.n_scale_row] at h4
  rw [Cert.OprojReferenceIdeal.Read.val_main_v121_eq, a0, a1, a2, a3, a4, Cert.OutProj.n_zero_row] at h5
  rw [Cert.OprojReferenceIdeal.Read.val_main_v43_eq, a0, Cert.OutProj.o_bytes_ref] at h6
  rw [Cert.OprojReferenceIdeal.Read.val_main_v122_eq, a0, Cert.OutProj.o_scale_row] at h7
  rw [Cert.OprojReferenceIdeal.Read.val_main_v123_eq, a0, Cert.OutProj.o_zero_row] at h8
  exact ⟨h0.trans (Cert.OutProj.sum_array m c).symm, h1.trans (Cert.OutProj.centred_array m c).symm, h2.trans (Cert.OutProj.codes_array m c).symm,
    h3.trans (Cert.OutProj.lanes_array m c).symm, h4.trans (Cert.OutProj.scale_array m c).symm, h5.trans (Cert.OutProj.zero_array m c).symm,
    h6.trans (Cert.OutProj.oCodes_array m c).symm, h7.trans (Cert.OutProj.oScale_array m c).symm, h8.trans (Cert.OutProj.oZero_array m c).symm, ha⟩

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.Norm.Gen.facts, Cert.NormIdeal.Gen.facts, Cert.NormReferenceIdeal.Gen.facts,
  Cert.Oproj.Gen.facts, Cert.OprojIdeal.Gen.facts, Cert.OprojReferenceIdeal.Gen.facts, Cert.DownProj.pre_facts,
  fun m ρ _ => Cert.Kernel.Gen.frame m ρ, fun m ρ _ => Cert.KernelIdeal.Gen.frame m ρ, frame_reference,
  fun m ρ _ => Cert.Down.Gen.frame m ρ, fun m ρ _ => Cert.DownIdeal.Gen.frame m ρ, fun m ρ _ => Cert.DownIdeal.Gen.frame m ρ,
  frame_down_reference, fun m ρ _ => frame_down_reference m ρ trivial,
  fun m ρ _ => Cert.Norm.Gen.frame m ρ, fun m ρ _ => Cert.NormIdeal.Gen.frame m ρ, frame_norm_reference,
  fun m ρ _ => Cert.Oproj.Gen.frame m ρ, fun m ρ _ => Cert.OprojIdeal.Gen.frame m ρ, frame_oproj_reference,
  trivial, algebraic, trivial, algebraic_down, trivial, algebraic_norm, trivial, algebraic_oproj⟩

end Cert.Proof

end
